-- ==== Defs.lean ====
def Pre_AttnA (m : (ℓ : Loc Cert.AttnA.nD Cert.AttnA.τ Cert.AttnA.sig) → Buf (Elt Bits) ℓ) : Prop :=
  True

def Pre_AttnAIdeal (m : (ℓ : Loc Cert.AttnAIdeal.nD Cert.AttnAIdeal.τ Cert.AttnAIdeal.sig) → Buf (Elt Ideal) ℓ) : Prop :=
  True

def Pre_AttnARefIdeal (m : (ℓ : Loc Cert.AttnARefIdeal.nD Cert.AttnARefIdeal.τ Cert.AttnARefIdeal.sig) → Buf (Elt Ideal) ℓ) : Prop :=
  True

def Pre_AttnB (m : (ℓ : Loc Cert.AttnB.nD Cert.AttnB.τ Cert.AttnB.sig) → Buf (Elt Bits) ℓ) : Prop :=
  True

def Pre_AttnBIdeal (m : (ℓ : Loc Cert.AttnBIdeal.nD Cert.AttnBIdeal.τ Cert.AttnBIdeal.sig) → Buf (Elt Ideal) ℓ) : Prop :=
  True

def Pre_AttnBRefIdeal (m : (ℓ : Loc Cert.AttnBRefIdeal.nD Cert.AttnBRefIdeal.τ Cert.AttnBRefIdeal.sig) → Buf (Elt Ideal) ℓ) : Prop :=
  True

def Pre_AttnC (m : (ℓ : Loc Cert.AttnC.nD Cert.AttnC.τ Cert.AttnC.sig) → Buf (Elt Bits) ℓ) : Prop :=
  True

def Pre_AttnCIdeal (m : (ℓ : Loc Cert.AttnCIdeal.nD Cert.AttnCIdeal.τ Cert.AttnCIdeal.sig) → Buf (Elt Ideal) ℓ) : Prop :=
  True

def Pre_AttnCRefIdeal (m : (ℓ : Loc Cert.AttnCRefIdeal.nD Cert.AttnCRefIdeal.τ Cert.AttnCRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Uv (m : (ℓ : Loc Cert.Uv.nD Cert.Uv.τ Cert.Uv.sig) → Buf (Elt Bits) ℓ) : Prop :=
  True

def Pre_UvIdeal (m : (ℓ : Loc Cert.UvIdeal.nD Cert.UvIdeal.τ Cert.UvIdeal.sig) → Buf (Elt Ideal) ℓ) : Prop :=
  True

def Pre_UvRefIdeal (m : (ℓ : Loc Cert.UvRefIdeal.nD Cert.UvRefIdeal.τ Cert.UvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpIdeal_sums_of_squares [hPre_sums_of_squares : Cert.Pre_sums_of_squares.Facts] (m : (ℓ : Loc Cert.GateUpIdeal.nD Cert.GateUpIdeal.τ Cert.GateUpIdeal.sig) → Buf (Elt Ideal) ℓ) : Prop :=
  ∀ c : Dev Cert.GateUpIdeal.nD,
    (Cert.Pre_sums_of_squares.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3))) = (fun _ => 1#1)

def Pre_GateUpRefIdeal (m : (ℓ : Loc Cert.GateUpRefIdeal.nD Cert.GateUpRefIdeal.τ Cert.GateUpRefIdeal.sig) → Buf (Elt Ideal) ℓ) : Prop :=
  True

def Pre_GateUpRefIdeal_sums_of_squares [hPre_sums_of_squares : Cert.Pre_sums_of_squares.Facts] (m : (ℓ : Loc Cert.GateUpRefIdeal.nD Cert.GateUpRefIdeal.τ Cert.GateUpRefIdeal.sig) → Buf (Elt Ideal) ℓ) : Prop :=
  ∀ c : Dev Cert.GateUpRefIdeal.nD,
    (Cert.Pre_sums_of_squares.fn (F := Ideal) (m ((c.tc : Thread Cert.GateUpRefIdeal.nD Cert.GateUpRefIdeal.τ).loc Cert.GateUpRefIdeal.main_arg0)) (m ((c.tc : Thread Cert.GateUpRefIdeal.nD Cert.GateUpRefIdeal.τ).loc Cert.GateUpRefIdeal.main_arg1)) (m ((c.tc : Thread Cert.GateUpRefIdeal.nD Cert.GateUpRefIdeal.τ).loc Cert.GateUpRefIdeal.main_arg2)) (m ((c.tc : Thread Cert.GateUpRefIdeal.nD Cert.GateUpRefIdeal.τ).loc Cert.GateUpRefIdeal.main_arg3))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_QkvA (m : (ℓ : Loc Cert.QkvA.nD Cert.QkvA.τ Cert.QkvA.sig) → Buf (Elt Bits) ℓ) : Prop :=
  True

def Pre_QkvAIdeal (m : (ℓ : Loc Cert.QkvAIdeal.nD Cert.QkvAIdeal.τ Cert.QkvAIdeal.sig) → Buf (Elt Ideal) ℓ) : Prop :=
  True

def Pre_QkvARefIdeal (m : (ℓ : Loc Cert.QkvARefIdeal.nD Cert.QkvARefIdeal.τ Cert.QkvARefIdeal.sig) → Buf (Elt Ideal) ℓ) : Prop :=
  True

def Pre_QkvB (m : (ℓ : Loc Cert.QkvB.nD Cert.QkvB.τ Cert.QkvB.sig) → Buf (Elt Bits) ℓ) : Prop :=
  True

def Pre_QkvBIdeal (m : (ℓ : Loc Cert.QkvBIdeal.nD Cert.QkvBIdeal.τ Cert.QkvBIdeal.sig) → Buf (Elt Ideal) ℓ) : Prop :=
  True

def Pre_QkvBRefIdeal (m : (ℓ : Loc Cert.QkvBRefIdeal.nD Cert.QkvBRefIdeal.τ Cert.QkvBRefIdeal.sig) → Buf (Elt Ideal) ℓ) : Prop :=
  True

def Pre_QkvC (m : (ℓ : Loc Cert.QkvC.nD Cert.QkvC.τ Cert.QkvC.sig) → Buf (Elt Bits) ℓ) : Prop :=
  True

def Pre_QkvCIdeal (m : (ℓ : Loc Cert.QkvCIdeal.nD Cert.QkvCIdeal.τ Cert.QkvCIdeal.sig) → Buf (Elt Ideal) ℓ) : Prop :=
  True

def Pre_QkvCRefIdeal (m : (ℓ : Loc Cert.QkvCRefIdeal.nD Cert.QkvCRefIdeal.τ Cert.QkvCRefIdeal.sig) → Buf (Elt Ideal) ℓ) : Prop :=
  True

def quiescent_AttnA [hAttnA : Cert.AttnA.Facts] : Prop :=
  ∀ (m : (ℓ : Loc Cert.AttnA.nD Cert.AttnA.τ Cert.AttnA.sig) → Buf (Elt Bits) ℓ) (g : Dev Cert.AttnA.nD → PrngReg), Pre_AttnA m →
    θ_run (Cert.AttnA.defs (F := Bits)) (onTc (τ := Cert.AttnA.τ) (Cert.AttnA.main (F := Bits))) ⟨m, fun _ => 0, g⟩ (fun r => (∀ c : Dev Cert.AttnA.nD,
      r.2.mem ((c.tc : Thread Cert.AttnA.nD Cert.AttnA.τ).loc Cert.AttnA.main_arg0) = m ((c.tc : Thread Cert.AttnA.nD Cert.AttnA.τ).loc Cert.AttnA.main_arg0))
      ∧ r.2.sem = fun _ => 0)

def quiescent_AttnAIdeal [hAttnAIdeal : Cert.AttnAIdeal.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0))
      ∧ r.2.sem = fun _ => 0)

def quiescent_AttnARefIdeal [hAttnARefIdeal : Cert.AttnARefIdeal.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0))
      ∧ r.2.sem = fun _ => 0)

def quiescent_AttnB [hAttnB : Cert.AttnB.Facts] : Prop :=
  ∀ (m : (ℓ : Loc Cert.AttnB.nD Cert.AttnB.τ Cert.AttnB.sig) → Buf (Elt Bits) ℓ) (g : Dev Cert.AttnB.nD → PrngReg), Pre_AttnB m →
    θ_run (Cert.AttnB.defs (F := Bits)) (onTc (τ := Cert.AttnB.τ) (Cert.AttnB.main (F := Bits))) ⟨m, fun _ => 0, g⟩ (fun r => (∀ c : Dev Cert.AttnB.nD,
      r.2.mem ((c.tc : Thread Cert.AttnB.nD Cert.AttnB.τ).loc Cert.AttnB.main_arg0) = m ((c.tc : Thread Cert.AttnB.nD Cert.AttnB.τ).loc Cert.AttnB.main_arg0))
      ∧ r.2.sem = fun _ => 0)

def quiescent_AttnBIdeal [hAttnBIdeal : Cert.AttnBIdeal.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0))
      ∧ r.2.sem = fun _ => 0)

def quiescent_AttnBRefIdeal [hAttnBRefIdeal : Cert.AttnBRefIdeal.Facts] : Prop :=
  ∀ (m : (ℓ : Loc Cert.AttnBRefIdeal.nD Cert.AttnBRefIdeal.τ Cert.AttnBRefIdeal.sig) → Buf (Elt Ideal) ℓ) (g : Dev Cert.AttnBRefIdeal.nD → PrngReg), Pre_AttnBRefIdeal m →
    θ_run (Cert.AttnBRefIdeal.defs (F := Ideal)) (onTc (τ := Cert.AttnBRefIdeal.τ) (Cert.AttnBRefIdeal.main (F := Ideal))) ⟨m, fun _ => 0, g⟩ (fun r => (∀ c : Dev Cert.AttnBRefIdeal.nD,
      r.2.mem ((c.tc : Thread Cert.AttnBRefIdeal.nD Cert.AttnBRefIdeal.τ).loc Cert.AttnBRefIdeal.main_arg0) = m ((c.tc : Thread Cert.AttnBRefIdeal.nD Cert.AttnBRefIdeal.τ).loc Cert.AttnBRefIdeal.main_arg0))
      ∧ r.2.sem = fun _ => 0)

def quiescent_AttnC [hAttnC : Cert.AttnC.Facts] : Prop :=
  ∀ (m : (ℓ : Loc Cert.AttnC.nD Cert.AttnC.τ Cert.AttnC.sig) → Buf (Elt Bits) ℓ) (g : Dev Cert.AttnC.nD → PrngReg), Pre_AttnC m →
    θ_run (Cert.AttnC.defs (F := Bits)) (onTc (τ := Cert.AttnC.τ) (Cert.AttnC.main (F := Bits))) ⟨m, fun _ => 0, g⟩ (fun r => (∀ c : Dev Cert.AttnC.nD,
      r.2.mem ((c.tc : Thread Cert.AttnC.nD Cert.AttnC.τ).loc Cert.AttnC.main_arg0) = m ((c.tc : Thread Cert.AttnC.nD Cert.AttnC.τ).loc Cert.AttnC.main_arg0))
      ∧ r.2.sem = fun _ => 0)

def quiescent_AttnCIdeal [hAttnCIdeal : Cert.AttnCIdeal.Facts] : Prop :=
  ∀ (m : (ℓ : Loc Cert.AttnCIdeal.nD Cert.AttnCIdeal.τ Cert.AttnCIdeal.sig) → Buf (Elt Ideal) ℓ) (g : Dev Cert.AttnCIdeal.nD → PrngReg), Pre_AttnCIdeal m →
    θ_run (Cert.AttnCIdeal.defs (F := Ideal)) (onTc (τ := Cert.AttnCIdeal.τ) (Cert.AttnCIdeal.main (F := Ideal))) ⟨m, fun _ => 0, g⟩ (fun r => (∀ c : Dev Cert.AttnCIdeal.nD,
      r.2.mem ((c.tc : Thread Cert.AttnCIdeal.nD Cert.AttnCIdeal.τ).loc Cert.AttnCIdeal.main_arg0) = m ((c.tc : Thread Cert.AttnCIdeal.nD Cert.AttnCIdeal.τ).loc Cert.AttnCIdeal.main_arg0))
      ∧ r.2.sem = fun _ => 0)

def quiescent_AttnCRefIdeal [hAttnCRefIdeal : Cert.AttnCRefIdeal.Facts] : Prop :=
  ∀ (m : (ℓ : Loc Cert.AttnCRefIdeal.nD Cert.AttnCRefIdeal.τ Cert.AttnCRefIdeal.sig) → Buf (Elt Ideal) ℓ) (g : Dev Cert.AttnCRefIdeal.nD → PrngReg), Pre_AttnCRefIdeal m →
    θ_run (Cert.AttnCRefIdeal.defs (F := Ideal)) (onTc (τ := Cert.AttnCRefIdeal.τ) (Cert.AttnCRefIdeal.main (F := Ideal))) ⟨m, fun _ => 0, g⟩ (fun r => (∀ c : Dev Cert.AttnCRefIdeal.nD,
      r.2.mem ((c.tc : Thread Cert.AttnCRefIdeal.nD Cert.AttnCRefIdeal.τ).loc Cert.AttnCRefIdeal.main_arg0) = m ((c.tc : Thread Cert.AttnCRefIdeal.nD Cert.AttnCRefIdeal.τ).loc Cert.AttnCRefIdeal.main_arg0))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Uv [hUv : Cert.Uv.Facts] : Prop :=
  ∀ (m : (ℓ : Loc Cert.Uv.nD Cert.Uv.τ Cert.Uv.sig) → Buf (Elt Bits) ℓ) (g : Dev Cert.Uv.nD → PrngReg), Pre_Uv m →
    θ_run (Cert.Uv.defs (F := Bits)) (onTc (τ := Cert.Uv.τ) (Cert.Uv.main (F := Bits))) ⟨m, fun _ => 0, g⟩ (fun r => (∀ c : Dev Cert.Uv.nD,
      r.2.mem ((c.tc : Thread Cert.Uv.nD Cert.Uv.τ).loc Cert.Uv.main_arg0) = m ((c.tc : Thread Cert.Uv.nD Cert.Uv.τ).loc Cert.Uv.main_arg0)
      ∧ r.2.mem ((c.tc : Thread Cert.Uv.nD Cert.Uv.τ).loc Cert.Uv.main_arg1) = m ((c.tc : Thread Cert.Uv.nD Cert.Uv.τ).loc Cert.Uv.main_arg1)
      ∧ r.2.mem ((c.tc : Thread Cert.Uv.nD Cert.Uv.τ).loc Cert.Uv.main_arg2) = m ((c.tc : Thread Cert.Uv.nD Cert.Uv.τ).loc Cert.Uv.main_arg2)
      ∧ r.2.mem ((c.tc : Thread Cert.Uv.nD Cert.Uv.τ).loc Cert.Uv.main_arg3) = m ((c.tc : Thread Cert.Uv.nD Cert.Uv.τ).loc Cert.Uv.main_arg3))
      ∧ r.2.sem = fun _ => 0)

def quiescent_UvIdeal [hUvIdeal : Cert.UvIdeal.Facts] : Prop :=
  ∀ (m : (ℓ : Loc Cert.UvIdeal.nD Cert.UvIdeal.τ Cert.UvIdeal.sig) → Buf (Elt Ideal) ℓ) (g : Dev Cert.UvIdeal.nD → PrngReg), Pre_UvIdeal m →
    θ_run (Cert.UvIdeal.defs (F := Ideal)) (onTc (τ := Cert.UvIdeal.τ) (Cert.UvIdeal.main (F := Ideal))) ⟨m, fun _ => 0, g⟩ (fun r => (∀ c : Dev Cert.UvIdeal.nD,
      r.2.mem ((c.tc : Thread Cert.UvIdeal.nD Cert.UvIdeal.τ).loc Cert.UvIdeal.main_arg0) = m ((c.tc : Thread Cert.UvIdeal.nD Cert.UvIdeal.τ).loc Cert.UvIdeal.main_arg0)
      ∧ r.2.mem ((c.tc : Thread Cert.UvIdeal.nD Cert.UvIdeal.τ).loc Cert.UvIdeal.main_arg1) = m ((c.tc : Thread Cert.UvIdeal.nD Cert.UvIdeal.τ).loc Cert.UvIdeal.main_arg1)
      ∧ r.2.mem ((c.tc : Thread Cert.UvIdeal.nD Cert.UvIdeal.τ).loc Cert.UvIdeal.main_arg2) = m ((c.tc : Thread Cert.UvIdeal.nD Cert.UvIdeal.τ).loc Cert.UvIdeal.main_arg2)
      ∧ r.2.mem ((c.tc : Thread Cert.UvIdeal.nD Cert.UvIdeal.τ).loc Cert.UvIdeal.main_arg3) = m ((c.tc : Thread Cert.UvIdeal.nD Cert.UvIdeal.τ).loc Cert.UvIdeal.main_arg3))
      ∧ r.2.sem = fun _ => 0)

def quiescent_UvRefIdeal [hUvRefIdeal : Cert.UvRefIdeal.Facts] : Prop :=
  ∀ (m : (ℓ : Loc Cert.UvRefIdeal.nD Cert.UvRefIdeal.τ Cert.UvRefIdeal.sig) → Buf (Elt Ideal) ℓ) (g : Dev Cert.UvRefIdeal.nD → PrngReg), Pre_UvRefIdeal m →
    θ_run (Cert.UvRefIdeal.defs (F := Ideal)) (onTc (τ := Cert.UvRefIdeal.τ) (Cert.UvRefIdeal.main (F := Ideal))) ⟨m, fun _ => 0, g⟩ (fun r => (∀ c : Dev Cert.UvRefIdeal.nD,
      r.2.mem ((c.tc : Thread Cert.UvRefIdeal.nD Cert.UvRefIdeal.τ).loc Cert.UvRefIdeal.main_arg0) = m ((c.tc : Thread Cert.UvRefIdeal.nD Cert.UvRefIdeal.τ).loc Cert.UvRefIdeal.main_arg0)
      ∧ r.2.mem ((c.tc : Thread Cert.UvRefIdeal.nD Cert.UvRefIdeal.τ).loc Cert.UvRefIdeal.main_arg1) = m ((c.tc : Thread Cert.UvRefIdeal.nD Cert.UvRefIdeal.τ).loc Cert.UvRefIdeal.main_arg1)
      ∧ r.2.mem ((c.tc : Thread Cert.UvRefIdeal.nD Cert.UvRefIdeal.τ).loc Cert.UvRefIdeal.main_arg2) = m ((c.tc : Thread Cert.UvRefIdeal.nD Cert.UvRefIdeal.τ).loc Cert.UvRefIdeal.main_arg2)
      ∧ r.2.mem ((c.tc : Thread Cert.UvRefIdeal.nD Cert.UvRefIdeal.τ).loc Cert.UvRefIdeal.main_arg3) = m ((c.tc : Thread Cert.UvRefIdeal.nD Cert.UvRefIdeal.τ).loc Cert.UvRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ r.2.sem = fun _ => 0)

def quiescent_GateUpIdeal_pre_sums_of_squares [hGateUpIdeal : Cert.GateUpIdeal.Facts] [hPre_sums_of_squares : Cert.Pre_sums_of_squares.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal_sums_of_squares m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3))
      ∧ r.2.sem = fun _ => 0)

def quiescent_GateUpRefIdeal_pre_sums_of_squares [hGateUpRefIdeal : Cert.GateUpRefIdeal.Facts] [hPre_sums_of_squares : Cert.Pre_sums_of_squares.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal_sums_of_squares m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_QkvA [hQkvA : Cert.QkvA.Facts] : Prop :=
  ∀ (m : (ℓ : Loc Cert.QkvA.nD Cert.QkvA.τ Cert.QkvA.sig) → Buf (Elt Bits) ℓ) (g : Dev Cert.QkvA.nD → PrngReg), Pre_QkvA m →
    θ_run (Cert.QkvA.defs (F := Bits)) (onTc (τ := Cert.QkvA.τ) (Cert.QkvA.main (F := Bits))) ⟨m, fun _ => 0, g⟩ (fun r => (∀ c : Dev Cert.QkvA.nD,
      r.2.mem ((c.tc : Thread Cert.QkvA.nD Cert.QkvA.τ).loc Cert.QkvA.main_arg0) = m ((c.tc : Thread Cert.QkvA.nD Cert.QkvA.τ).loc Cert.QkvA.main_arg0)
      ∧ r.2.mem ((c.tc : Thread Cert.QkvA.nD Cert.QkvA.τ).loc Cert.QkvA.main_arg1) = m ((c.tc : Thread Cert.QkvA.nD Cert.QkvA.τ).loc Cert.QkvA.main_arg1)
      ∧ r.2.mem ((c.tc : Thread Cert.QkvA.nD Cert.QkvA.τ).loc Cert.QkvA.main_arg2) = m ((c.tc : Thread Cert.QkvA.nD Cert.QkvA.τ).loc Cert.QkvA.main_arg2)
      ∧ r.2.mem ((c.tc : Thread Cert.QkvA.nD Cert.QkvA.τ).loc Cert.QkvA.main_arg3) = m ((c.tc : Thread Cert.QkvA.nD Cert.QkvA.τ).loc Cert.QkvA.main_arg3))
      ∧ r.2.sem = fun _ => 0)

def quiescent_QkvAIdeal [hQkvAIdeal : Cert.QkvAIdeal.Facts] : Prop :=
  ∀ (m : (ℓ : Loc Cert.QkvAIdeal.nD Cert.QkvAIdeal.τ Cert.QkvAIdeal.sig) → Buf (Elt Ideal) ℓ) (g : Dev Cert.QkvAIdeal.nD → PrngReg), Pre_QkvAIdeal m →
    θ_run (Cert.QkvAIdeal.defs (F := Ideal)) (onTc (τ := Cert.QkvAIdeal.τ) (Cert.QkvAIdeal.main (F := Ideal))) ⟨m, fun _ => 0, g⟩ (fun r => (∀ c : Dev Cert.QkvAIdeal.nD,
      r.2.mem ((c.tc : Thread Cert.QkvAIdeal.nD Cert.QkvAIdeal.τ).loc Cert.QkvAIdeal.main_arg0) = m ((c.tc : Thread Cert.QkvAIdeal.nD Cert.QkvAIdeal.τ).loc Cert.QkvAIdeal.main_arg0)
      ∧ r.2.mem ((c.tc : Thread Cert.QkvAIdeal.nD Cert.QkvAIdeal.τ).loc Cert.QkvAIdeal.main_arg1) = m ((c.tc : Thread Cert.QkvAIdeal.nD Cert.QkvAIdeal.τ).loc Cert.QkvAIdeal.main_arg1)
      ∧ r.2.mem ((c.tc : Thread Cert.QkvAIdeal.nD Cert.QkvAIdeal.τ).loc Cert.QkvAIdeal.main_arg2) = m ((c.tc : Thread Cert.QkvAIdeal.nD Cert.QkvAIdeal.τ).loc Cert.QkvAIdeal.main_arg2)
      ∧ r.2.mem ((c.tc : Thread Cert.QkvAIdeal.nD Cert.QkvAIdeal.τ).loc Cert.QkvAIdeal.main_arg3) = m ((c.tc : Thread Cert.QkvAIdeal.nD Cert.QkvAIdeal.τ).loc Cert.QkvAIdeal.main_arg3))
      ∧ r.2.sem = fun _ => 0)

def quiescent_QkvARefIdeal [hQkvARefIdeal : Cert.QkvARefIdeal.Facts] : Prop :=
  ∀ (m : (ℓ : Loc Cert.QkvARefIdeal.nD Cert.QkvARefIdeal.τ Cert.QkvARefIdeal.sig) → Buf (Elt Ideal) ℓ) (g : Dev Cert.QkvARefIdeal.nD → PrngReg), Pre_QkvARefIdeal m →
    θ_run (Cert.QkvARefIdeal.defs (F := Ideal)) (onTc (τ := Cert.QkvARefIdeal.τ) (Cert.QkvARefIdeal.main (F := Ideal))) ⟨m, fun _ => 0, g⟩ (fun r => (∀ c : Dev Cert.QkvARefIdeal.nD,
      r.2.mem ((c.tc : Thread Cert.QkvARefIdeal.nD Cert.QkvARefIdeal.τ).loc Cert.QkvARefIdeal.main_arg0) = m ((c.tc : Thread Cert.QkvARefIdeal.nD Cert.QkvARefIdeal.τ).loc Cert.QkvARefIdeal.main_arg0)
      ∧ r.2.mem ((c.tc : Thread Cert.QkvARefIdeal.nD Cert.QkvARefIdeal.τ).loc Cert.QkvARefIdeal.main_arg1) = m ((c.tc : Thread Cert.QkvARefIdeal.nD Cert.QkvARefIdeal.τ).loc Cert.QkvARefIdeal.main_arg1)
      ∧ r.2.mem ((c.tc : Thread Cert.QkvARefIdeal.nD Cert.QkvARefIdeal.τ).loc Cert.QkvARefIdeal.main_arg2) = m ((c.tc : Thread Cert.QkvARefIdeal.nD Cert.QkvARefIdeal.τ).loc Cert.QkvARefIdeal.main_arg2)
      ∧ r.2.mem ((c.tc : Thread Cert.QkvARefIdeal.nD Cert.QkvARefIdeal.τ).loc Cert.QkvARefIdeal.main_arg3) = m ((c.tc : Thread Cert.QkvARefIdeal.nD Cert.QkvARefIdeal.τ).loc Cert.QkvARefIdeal.main_arg3))
      ∧ r.2.sem = fun _ => 0)

def quiescent_QkvB [hQkvB : Cert.QkvB.Facts] : Prop :=
  ∀ (m : (ℓ : Loc Cert.QkvB.nD Cert.QkvB.τ Cert.QkvB.sig) → Buf (Elt Bits) ℓ) (g : Dev Cert.QkvB.nD → PrngReg), Pre_QkvB m →
    θ_run (Cert.QkvB.defs (F := Bits)) (onTc (τ := Cert.QkvB.τ) (Cert.QkvB.main (F := Bits))) ⟨m, fun _ => 0, g⟩ (fun r => (∀ c : Dev Cert.QkvB.nD,
      r.2.mem ((c.tc : Thread Cert.QkvB.nD Cert.QkvB.τ).loc Cert.QkvB.main_arg0) = m ((c.tc : Thread Cert.QkvB.nD Cert.QkvB.τ).loc Cert.QkvB.main_arg0)
      ∧ r.2.mem ((c.tc : Thread Cert.QkvB.nD Cert.QkvB.τ).loc Cert.QkvB.main_arg1) = m ((c.tc : Thread Cert.QkvB.nD Cert.QkvB.τ).loc Cert.QkvB.main_arg1)
      ∧ r.2.mem ((c.tc : Thread Cert.QkvB.nD Cert.QkvB.τ).loc Cert.QkvB.main_arg2) = m ((c.tc : Thread Cert.QkvB.nD Cert.QkvB.τ).loc Cert.QkvB.main_arg2)
      ∧ r.2.mem ((c.tc : Thread Cert.QkvB.nD Cert.QkvB.τ).loc Cert.QkvB.main_arg3) = m ((c.tc : Thread Cert.QkvB.nD Cert.QkvB.τ).loc Cert.QkvB.main_arg3))
      ∧ r.2.sem = fun _ => 0)

def quiescent_QkvBIdeal [hQkvBIdeal : Cert.QkvBIdeal.Facts] : Prop :=
  ∀ (m : (ℓ : Loc Cert.QkvBIdeal.nD Cert.QkvBIdeal.τ Cert.QkvBIdeal.sig) → Buf (Elt Ideal) ℓ) (g : Dev Cert.QkvBIdeal.nD → PrngReg), Pre_QkvBIdeal m →
    θ_run (Cert.QkvBIdeal.defs (F := Ideal)) (onTc (τ := Cert.QkvBIdeal.τ) (Cert.QkvBIdeal.main (F := Ideal))) ⟨m, fun _ => 0, g⟩ (fun r => (∀ c : Dev Cert.QkvBIdeal.nD,
      r.2.mem ((c.tc : Thread Cert.QkvBIdeal.nD Cert.QkvBIdeal.τ).loc Cert.QkvBIdeal.main_arg0) = m ((c.tc : Thread Cert.QkvBIdeal.nD Cert.QkvBIdeal.τ).loc Cert.QkvBIdeal.main_arg0)
      ∧ r.2.mem ((c.tc : Thread Cert.QkvBIdeal.nD Cert.QkvBIdeal.τ).loc Cert.QkvBIdeal.main_arg1) = m ((c.tc : Thread Cert.QkvBIdeal.nD Cert.QkvBIdeal.τ).loc Cert.QkvBIdeal.main_arg1)
      ∧ r.2.mem ((c.tc : Thread Cert.QkvBIdeal.nD Cert.QkvBIdeal.τ).loc Cert.QkvBIdeal.main_arg2) = m ((c.tc : Thread Cert.QkvBIdeal.nD Cert.QkvBIdeal.τ).loc Cert.QkvBIdeal.main_arg2)
      ∧ r.2.mem ((c.tc : Thread Cert.QkvBIdeal.nD Cert.QkvBIdeal.τ).loc Cert.QkvBIdeal.main_arg3) = m ((c.tc : Thread Cert.QkvBIdeal.nD Cert.QkvBIdeal.τ).loc Cert.QkvBIdeal.main_arg3))
      ∧ r.2.sem = fun _ => 0)

def quiescent_QkvBRefIdeal [hQkvBRefIdeal : Cert.QkvBRefIdeal.Facts] : Prop :=
  ∀ (m : (ℓ : Loc Cert.QkvBRefIdeal.nD Cert.QkvBRefIdeal.τ Cert.QkvBRefIdeal.sig) → Buf (Elt Ideal) ℓ) (g : Dev Cert.QkvBRefIdeal.nD → PrngReg), Pre_QkvBRefIdeal m →
    θ_run (Cert.QkvBRefIdeal.defs (F := Ideal)) (onTc (τ := Cert.QkvBRefIdeal.τ) (Cert.QkvBRefIdeal.main (F := Ideal))) ⟨m, fun _ => 0, g⟩ (fun r => (∀ c : Dev Cert.QkvBRefIdeal.nD,
      r.2.mem ((c.tc : Thread Cert.QkvBRefIdeal.nD Cert.QkvBRefIdeal.τ).loc Cert.QkvBRefIdeal.main_arg0) = m ((c.tc : Thread Cert.QkvBRefIdeal.nD Cert.QkvBRefIdeal.τ).loc Cert.QkvBRefIdeal.main_arg0)
      ∧ r.2.mem ((c.tc : Thread Cert.QkvBRefIdeal.nD Cert.QkvBRefIdeal.τ).loc Cert.QkvBRefIdeal.main_arg1) = m ((c.tc : Thread Cert.QkvBRefIdeal.nD Cert.QkvBRefIdeal.τ).loc Cert.QkvBRefIdeal.main_arg1)
      ∧ r.2.mem ((c.tc : Thread Cert.QkvBRefIdeal.nD Cert.QkvBRefIdeal.τ).loc Cert.QkvBRefIdeal.main_arg2) = m ((c.tc : Thread Cert.QkvBRefIdeal.nD Cert.QkvBRefIdeal.τ).loc Cert.QkvBRefIdeal.main_arg2)
      ∧ r.2.mem ((c.tc : Thread Cert.QkvBRefIdeal.nD Cert.QkvBRefIdeal.τ).loc Cert.QkvBRefIdeal.main_arg3) = m ((c.tc : Thread Cert.QkvBRefIdeal.nD Cert.QkvBRefIdeal.τ).loc Cert.QkvBRefIdeal.main_arg3))
      ∧ r.2.sem = fun _ => 0)

def quiescent_QkvC [hQkvC : Cert.QkvC.Facts] : Prop :=
  ∀ (m : (ℓ : Loc Cert.QkvC.nD Cert.QkvC.τ Cert.QkvC.sig) → Buf (Elt Bits) ℓ) (g : Dev Cert.QkvC.nD → PrngReg), Pre_QkvC m →
    θ_run (Cert.QkvC.defs (F := Bits)) (onTc (τ := Cert.QkvC.τ) (Cert.QkvC.main (F := Bits))) ⟨m, fun _ => 0, g⟩ (fun r => (∀ c : Dev Cert.QkvC.nD,
      r.2.mem ((c.tc : Thread Cert.QkvC.nD Cert.QkvC.τ).loc Cert.QkvC.main_arg0) = m ((c.tc : Thread Cert.QkvC.nD Cert.QkvC.τ).loc Cert.QkvC.main_arg0)
      ∧ r.2.mem ((c.tc : Thread Cert.QkvC.nD Cert.QkvC.τ).loc Cert.QkvC.main_arg1) = m ((c.tc : Thread Cert.QkvC.nD Cert.QkvC.τ).loc Cert.QkvC.main_arg1)
      ∧ r.2.mem ((c.tc : Thread Cert.QkvC.nD Cert.QkvC.τ).loc Cert.QkvC.main_arg2) = m ((c.tc : Thread Cert.QkvC.nD Cert.QkvC.τ).loc Cert.QkvC.main_arg2)
      ∧ r.2.mem ((c.tc : Thread Cert.QkvC.nD Cert.QkvC.τ).loc Cert.QkvC.main_arg3) = m ((c.tc : Thread Cert.QkvC.nD Cert.QkvC.τ).loc Cert.QkvC.main_arg3))
      ∧ r.2.sem = fun _ => 0)

def quiescent_QkvCIdeal [hQkvCIdeal : Cert.QkvCIdeal.Facts] : Prop :=
  ∀ (m : (ℓ : Loc Cert.QkvCIdeal.nD Cert.QkvCIdeal.τ Cert.QkvCIdeal.sig) → Buf (Elt Ideal) ℓ) (g : Dev Cert.QkvCIdeal.nD → PrngReg), Pre_QkvCIdeal m →
    θ_run (Cert.QkvCIdeal.defs (F := Ideal)) (onTc (τ := Cert.QkvCIdeal.τ) (Cert.QkvCIdeal.main (F := Ideal))) ⟨m, fun _ => 0, g⟩ (fun r => (∀ c : Dev Cert.QkvCIdeal.nD,
      r.2.mem ((c.tc : Thread Cert.QkvCIdeal.nD Cert.QkvCIdeal.τ).loc Cert.QkvCIdeal.main_arg0) = m ((c.tc : Thread Cert.QkvCIdeal.nD Cert.QkvCIdeal.τ).loc Cert.QkvCIdeal.main_arg0)
      ∧ r.2.mem ((c.tc : Thread Cert.QkvCIdeal.nD Cert.QkvCIdeal.τ).loc Cert.QkvCIdeal.main_arg1) = m ((c.tc : Thread Cert.QkvCIdeal.nD Cert.QkvCIdeal.τ).loc Cert.QkvCIdeal.main_arg1)
      ∧ r.2.mem ((c.tc : Thread Cert.QkvCIdeal.nD Cert.QkvCIdeal.τ).loc Cert.QkvCIdeal.main_arg2) = m ((c.tc : Thread Cert.QkvCIdeal.nD Cert.QkvCIdeal.τ).loc Cert.QkvCIdeal.main_arg2)
      ∧ r.2.mem ((c.tc : Thread Cert.QkvCIdeal.nD Cert.QkvCIdeal.τ).loc Cert.QkvCIdeal.main_arg3) = m ((c.tc : Thread Cert.QkvCIdeal.nD Cert.QkvCIdeal.τ).loc Cert.QkvCIdeal.main_arg3))
      ∧ r.2.sem = fun _ => 0)

def quiescent_QkvCRefIdeal [hQkvCRefIdeal : Cert.QkvCRefIdeal.Facts] : Prop :=
  ∀ (m : (ℓ : Loc Cert.QkvCRefIdeal.nD Cert.QkvCRefIdeal.τ Cert.QkvCRefIdeal.sig) → Buf (Elt Ideal) ℓ) (g : Dev Cert.QkvCRefIdeal.nD → PrngReg), Pre_QkvCRefIdeal m →
    θ_run (Cert.QkvCRefIdeal.defs (F := Ideal)) (onTc (τ := Cert.QkvCRefIdeal.τ) (Cert.QkvCRefIdeal.main (F := Ideal))) ⟨m, fun _ => 0, g⟩ (fun r => (∀ c : Dev Cert.QkvCRefIdeal.nD,
      r.2.mem ((c.tc : Thread Cert.QkvCRefIdeal.nD Cert.QkvCRefIdeal.τ).loc Cert.QkvCRefIdeal.main_arg0) = m ((c.tc : Thread Cert.QkvCRefIdeal.nD Cert.QkvCRefIdeal.τ).loc Cert.QkvCRefIdeal.main_arg0)
      ∧ r.2.mem ((c.tc : Thread Cert.QkvCRefIdeal.nD Cert.QkvCRefIdeal.τ).loc Cert.QkvCRefIdeal.main_arg1) = m ((c.tc : Thread Cert.QkvCRefIdeal.nD Cert.QkvCRefIdeal.τ).loc Cert.QkvCRefIdeal.main_arg1)
      ∧ r.2.mem ((c.tc : Thread Cert.QkvCRefIdeal.nD Cert.QkvCRefIdeal.τ).loc Cert.QkvCRefIdeal.main_arg2) = m ((c.tc : Thread Cert.QkvCRefIdeal.nD Cert.QkvCRefIdeal.τ).loc Cert.QkvCRefIdeal.main_arg2)
      ∧ r.2.mem ((c.tc : Thread Cert.QkvCRefIdeal.nD Cert.QkvCRefIdeal.τ).loc Cert.QkvCRefIdeal.main_arg3) = m ((c.tc : Thread Cert.QkvCRefIdeal.nD Cert.QkvCRefIdeal.τ).loc Cert.QkvCRefIdeal.main_arg3))
      ∧ r.2.sem = fun _ => 0)

def preserves_AttnA_AttnAIdeal : Prop :=
  IdealRules.named_const.Statement Cert.AttnAIdeal.κ "mask" .f32 0xF149F2CA#32 ⊥
  ∧ IdealRules.named_const.Statement Cert.AttnAIdeal.κ "scale_log2e" .f32 0x3E0293EE#32 ((((Real.sqrt 128) * (Real.log 2))⁻¹ : ℝ) : EReal)
  ∧ IdealRules.named_const.Statement Cert.AttnAIdeal.κ "scale" .f32 0x3DB504F3#32 (((Real.sqrt 128)⁻¹ : ℝ) : EReal)

def algebraic_AttnAIdeal_AttnARefIdeal [hAttnAIdeal : Cert.AttnAIdeal.Facts] [hAttnARefIdeal : Cert.AttnARefIdeal.Facts] : Prop :=
  ∀ (m : (ℓ : Loc Cert.AttnAIdeal.nD Cert.AttnAIdeal.τ Cert.AttnAIdeal.sig) → Buf (Elt Ideal) ℓ) (g : Dev Cert.AttnAIdeal.nD → PrngReg)
    (m' : (ℓ : Loc Cert.AttnARefIdeal.nD Cert.AttnARefIdeal.τ Cert.AttnARefIdeal.sig) → Buf (Elt Ideal) ℓ) (g' : Dev Cert.AttnARefIdeal.nD → PrngReg), Pre_AttnAIdeal m →
    (∀ c : Dev Cert.AttnAIdeal.nD,
      m' ((c.tc : Thread Cert.AttnARefIdeal.nD Cert.AttnARefIdeal.τ).loc Cert.AttnARefIdeal.main_arg0) = m ((c.tc : Thread Cert.AttnAIdeal.nD Cert.AttnAIdeal.τ).loc Cert.AttnAIdeal.main_arg0)) →
    ∃ (v0 : (c : Dev Cert.AttnAIdeal.nD) → Buf (Elt Ideal) ((c.tc : Thread Cert.AttnAIdeal.nD Cert.AttnAIdeal.τ).loc Cert.AttnAIdeal.main_v0_0)) (v1 : (c : Dev Cert.AttnAIdeal.nD) → Buf (Elt Ideal) ((c.tc : Thread Cert.AttnAIdeal.nD Cert.AttnAIdeal.τ).loc Cert.AttnAIdeal.main_v0_1)) (v2 : (c : Dev Cert.AttnAIdeal.nD) → Buf (Elt Ideal) ((c.tc : Thread Cert.AttnAIdeal.nD Cert.AttnAIdeal.τ).loc Cert.AttnAIdeal.main_v0_2)),
      θ_run (Cert.AttnAIdeal.defs (F := Ideal)) (onTc (τ := Cert.AttnAIdeal.τ) (Cert.AttnAIdeal.main (F := Ideal))) ⟨m, fun _ => 0, g⟩ (fun r => ∀ c : Dev Cert.AttnAIdeal.nD,
          r.2.mem ((c.tc : Thread Cert.AttnAIdeal.nD Cert.AttnAIdeal.τ).loc Cert.AttnAIdeal.main_v0_0) = v0 c
          ∧ r.2.mem ((c.tc : Thread Cert.AttnAIdeal.nD Cert.AttnAIdeal.τ).loc Cert.AttnAIdeal.main_v0_1) = v1 c
          ∧ r.2.mem ((c.tc : Thread Cert.AttnAIdeal.nD Cert.AttnAIdeal.τ).loc Cert.AttnAIdeal.main_v0_2) = v2 c
          ∧ r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0))
      ∧ θ_run (Cert.AttnARefIdeal.defs (F := Ideal)) (onTc (τ := Cert.AttnARefIdeal.τ) (Cert.AttnARefIdeal.main (F := Ideal))) ⟨m', fun _ => 0, g'⟩ (fun r => ∀ c : Dev Cert.AttnARefIdeal.nD,
          r.2.mem ((c.tc : Thread Cert.AttnARefIdeal.nD Cert.AttnARefIdeal.τ).loc Cert.AttnARefIdeal.main_v32) = v0 c
          ∧ r.2.mem ((c.tc : Thread Cert.AttnARefIdeal.nD Cert.AttnARefIdeal.τ).loc Cert.AttnARefIdeal.main_v35) = v1 c
          ∧ r.2.mem ((c.tc : Thread Cert.AttnARefIdeal.nD Cert.AttnARefIdeal.τ).loc Cert.AttnARefIdeal.main_v38) = v2 c
          ∧ r.2.mem ((c.tc : Thread Cert.AttnARefIdeal.nD Cert.AttnARefIdeal.τ).loc Cert.AttnARefIdeal.main_arg0) = m' ((c.tc : Thread Cert.AttnARefIdeal.nD Cert.AttnARefIdeal.τ).loc Cert.AttnARefIdeal.main_arg0))

def preserves_AttnB_AttnBIdeal : Prop :=
  IdealRules.named_const.Statement Cert.AttnBIdeal.κ "mask" .f32 0xF149F2CA#32 ⊥
  ∧ IdealRules.named_const.Statement Cert.AttnBIdeal.κ "scale_log2e" .f32 0x3E0293EE#32 ((((Real.sqrt 128) * (Real.log 2))⁻¹ : ℝ) : EReal)
  ∧ IdealRules.named_const.Statement Cert.AttnBIdeal.κ "scale" .f32 0x3DB504F3#32 (((Real.sqrt 128)⁻¹ : ℝ) : EReal)

def algebraic_AttnBIdeal_AttnBRefIdeal [hAttnBIdeal : Cert.AttnBIdeal.Facts] [hAttnBRefIdeal : Cert.AttnBRefIdeal.Facts] : Prop :=
  ∀ (m : (ℓ : Loc Cert.AttnBIdeal.nD Cert.AttnBIdeal.τ Cert.AttnBIdeal.sig) → Buf (Elt Ideal) ℓ) (g : Dev Cert.AttnBIdeal.nD → PrngReg)
    (m' : (ℓ : Loc Cert.AttnBRefIdeal.nD Cert.AttnBRefIdeal.τ Cert.AttnBRefIdeal.sig) → Buf (Elt Ideal) ℓ) (g' : Dev Cert.AttnBRefIdeal.nD → PrngReg), Pre_AttnBIdeal m →
    (∀ c : Dev Cert.AttnBIdeal.nD,
      m' ((c.tc : Thread Cert.AttnBRefIdeal.nD Cert.AttnBRefIdeal.τ).loc Cert.AttnBRefIdeal.main_arg0) = m ((c.tc : Thread Cert.AttnBIdeal.nD Cert.AttnBIdeal.τ).loc Cert.AttnBIdeal.main_arg0)) →
    ∃ (v0 : (c : Dev Cert.AttnBIdeal.nD) → Buf (Elt Ideal) ((c.tc : Thread Cert.AttnBIdeal.nD Cert.AttnBIdeal.τ).loc Cert.AttnBIdeal.main_v0_0)) (v1 : (c : Dev Cert.AttnBIdeal.nD) → Buf (Elt Ideal) ((c.tc : Thread Cert.AttnBIdeal.nD Cert.AttnBIdeal.τ).loc Cert.AttnBIdeal.main_v0_1)) (v2 : (c : Dev Cert.AttnBIdeal.nD) → Buf (Elt Ideal) ((c.tc : Thread Cert.AttnBIdeal.nD Cert.AttnBIdeal.τ).loc Cert.AttnBIdeal.main_v0_2)),
      θ_run (Cert.AttnBIdeal.defs (F := Ideal)) (onTc (τ := Cert.AttnBIdeal.τ) (Cert.AttnBIdeal.main (F := Ideal))) ⟨m, fun _ => 0, g⟩ (fun r => ∀ c : Dev Cert.AttnBIdeal.nD,
          r.2.mem ((c.tc : Thread Cert.AttnBIdeal.nD Cert.AttnBIdeal.τ).loc Cert.AttnBIdeal.main_v0_0) = v0 c
          ∧ r.2.mem ((c.tc : Thread Cert.AttnBIdeal.nD Cert.AttnBIdeal.τ).loc Cert.AttnBIdeal.main_v0_1) = v1 c
          ∧ r.2.mem ((c.tc : Thread Cert.AttnBIdeal.nD Cert.AttnBIdeal.τ).loc Cert.AttnBIdeal.main_v0_2) = v2 c
          ∧ r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0))
      ∧ θ_run (Cert.AttnBRefIdeal.defs (F := Ideal)) (onTc (τ := Cert.AttnBRefIdeal.τ) (Cert.AttnBRefIdeal.main (F := Ideal))) ⟨m', fun _ => 0, g'⟩ (fun r => ∀ c : Dev Cert.AttnBRefIdeal.nD,
          r.2.mem ((c.tc : Thread Cert.AttnBRefIdeal.nD Cert.AttnBRefIdeal.τ).loc Cert.AttnBRefIdeal.main_v32) = v0 c
          ∧ r.2.mem ((c.tc : Thread Cert.AttnBRefIdeal.nD Cert.AttnBRefIdeal.τ).loc Cert.AttnBRefIdeal.main_v35) = v1 c
          ∧ r.2.mem ((c.tc : Thread Cert.AttnBRefIdeal.nD Cert.AttnBRefIdeal.τ).loc Cert.AttnBRefIdeal.main_v38) = v2 c
          ∧ r.2.mem ((c.tc : Thread Cert.AttnBRefIdeal.nD Cert.AttnBRefIdeal.τ).loc Cert.AttnBRefIdeal.main_arg0) = m' ((c.tc : Thread Cert.AttnBRefIdeal.nD Cert.AttnBRefIdeal.τ).loc Cert.AttnBRefIdeal.main_arg0))

def preserves_AttnC_AttnCIdeal : Prop :=
  IdealRules.named_const.Statement Cert.AttnCIdeal.κ "mask" .f32 0xF149F2CA#32 ⊥
  ∧ IdealRules.named_const.Statement Cert.AttnCIdeal.κ "scale_log2e" .f32 0x3E0293EE#32 ((((Real.sqrt 128) * (Real.log 2))⁻¹ : ℝ) : EReal)
  ∧ IdealRules.named_const.Statement Cert.AttnCIdeal.κ "scale" .f32 0x3DB504F3#32 (((Real.sqrt 128)⁻¹ : ℝ) : EReal)

def algebraic_AttnCIdeal_AttnCRefIdeal [hAttnCIdeal : Cert.AttnCIdeal.Facts] [hAttnCRefIdeal : Cert.AttnCRefIdeal.Facts] : Prop :=
  ∀ (m : (ℓ : Loc Cert.AttnCIdeal.nD Cert.AttnCIdeal.τ Cert.AttnCIdeal.sig) → Buf (Elt Ideal) ℓ) (g : Dev Cert.AttnCIdeal.nD → PrngReg)
    (m' : (ℓ : Loc Cert.AttnCRefIdeal.nD Cert.AttnCRefIdeal.τ Cert.AttnCRefIdeal.sig) → Buf (Elt Ideal) ℓ) (g' : Dev Cert.AttnCRefIdeal.nD → PrngReg), Pre_AttnCIdeal m →
    (∀ c : Dev Cert.AttnCIdeal.nD,
      m' ((c.tc : Thread Cert.AttnCRefIdeal.nD Cert.AttnCRefIdeal.τ).loc Cert.AttnCRefIdeal.main_arg0) = m ((c.tc : Thread Cert.AttnCIdeal.nD Cert.AttnCIdeal.τ).loc Cert.AttnCIdeal.main_arg0)) →
    ∃ (v0 : (c : Dev Cert.AttnCIdeal.nD) → Buf (Elt Ideal) ((c.tc : Thread Cert.AttnCIdeal.nD Cert.AttnCIdeal.τ).loc Cert.AttnCIdeal.main_v0_0)) (v1 : (c : Dev Cert.AttnCIdeal.nD) → Buf (Elt Ideal) ((c.tc : Thread Cert.AttnCIdeal.nD Cert.AttnCIdeal.τ).loc Cert.AttnCIdeal.main_v0_1)) (v2 : (c : Dev Cert.AttnCIdeal.nD) → Buf (Elt Ideal) ((c.tc : Thread Cert.AttnCIdeal.nD Cert.AttnCIdeal.τ).loc Cert.AttnCIdeal.main_v0_2)),
      θ_run (Cert.AttnCIdeal.defs (F := Ideal)) (onTc (τ := Cert.AttnCIdeal.τ) (Cert.AttnCIdeal.main (F := Ideal))) ⟨m, fun _ => 0, g⟩ (fun r => ∀ c : Dev Cert.AttnCIdeal.nD,
          r.2.mem ((c.tc : Thread Cert.AttnCIdeal.nD Cert.AttnCIdeal.τ).loc Cert.AttnCIdeal.main_v0_0) = v0 c
          ∧ r.2.mem ((c.tc : Thread Cert.AttnCIdeal.nD Cert.AttnCIdeal.τ).loc Cert.AttnCIdeal.main_v0_1) = v1 c
          ∧ r.2.mem ((c.tc : Thread Cert.AttnCIdeal.nD Cert.AttnCIdeal.τ).loc Cert.AttnCIdeal.main_v0_2) = v2 c
          ∧ r.2.mem ((c.tc : Thread Cert.AttnCIdeal.nD Cert.AttnCIdeal.τ).loc Cert.AttnCIdeal.main_arg0) = m ((c.tc : Thread Cert.AttnCIdeal.nD Cert.AttnCIdeal.τ).loc Cert.AttnCIdeal.main_arg0))
      ∧ θ_run (Cert.AttnCRefIdeal.defs (F := Ideal)) (onTc (τ := Cert.AttnCRefIdeal.τ) (Cert.AttnCRefIdeal.main (F := Ideal))) ⟨m', fun _ => 0, g'⟩ (fun r => ∀ c : Dev Cert.AttnCRefIdeal.nD,
          r.2.mem ((c.tc : Thread Cert.AttnCRefIdeal.nD Cert.AttnCRefIdeal.τ).loc Cert.AttnCRefIdeal.main_v32) = v0 c
          ∧ r.2.mem ((c.tc : Thread Cert.AttnCRefIdeal.nD Cert.AttnCRefIdeal.τ).loc Cert.AttnCRefIdeal.main_v35) = v1 c
          ∧ r.2.mem ((c.tc : Thread Cert.AttnCRefIdeal.nD Cert.AttnCRefIdeal.τ).loc Cert.AttnCRefIdeal.main_v38) = v2 c
          ∧ r.2.mem ((c.tc : Thread Cert.AttnCRefIdeal.nD Cert.AttnCRefIdeal.τ).loc Cert.AttnCRefIdeal.main_arg0) = m' ((c.tc : Thread Cert.AttnCRefIdeal.nD Cert.AttnCRefIdeal.τ).loc Cert.AttnCRefIdeal.main_arg0))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v0)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v10) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Uv_UvIdeal : Prop :=
  True

def algebraic_UvIdeal_UvRefIdeal [hUvIdeal : Cert.UvIdeal.Facts] [hUvRefIdeal : Cert.UvRefIdeal.Facts] : Prop :=
  ∀ (m : (ℓ : Loc Cert.UvIdeal.nD Cert.UvIdeal.τ Cert.UvIdeal.sig) → Buf (Elt Ideal) ℓ) (g : Dev Cert.UvIdeal.nD → PrngReg)
    (m' : (ℓ : Loc Cert.UvRefIdeal.nD Cert.UvRefIdeal.τ Cert.UvRefIdeal.sig) → Buf (Elt Ideal) ℓ) (g' : Dev Cert.UvRefIdeal.nD → PrngReg), Pre_UvIdeal m →
    (∀ c : Dev Cert.UvIdeal.nD,
      m' ((c.tc : Thread Cert.UvRefIdeal.nD Cert.UvRefIdeal.τ).loc Cert.UvRefIdeal.main_arg0) = m ((c.tc : Thread Cert.UvIdeal.nD Cert.UvIdeal.τ).loc Cert.UvIdeal.main_arg0)
      ∧ m' ((c.tc : Thread Cert.UvRefIdeal.nD Cert.UvRefIdeal.τ).loc Cert.UvRefIdeal.main_arg1) = m ((c.tc : Thread Cert.UvIdeal.nD Cert.UvIdeal.τ).loc Cert.UvIdeal.main_arg1)
      ∧ m' ((c.tc : Thread Cert.UvRefIdeal.nD Cert.UvRefIdeal.τ).loc Cert.UvRefIdeal.main_arg2) = m ((c.tc : Thread Cert.UvIdeal.nD Cert.UvIdeal.τ).loc Cert.UvIdeal.main_arg2)
      ∧ m' ((c.tc : Thread Cert.UvRefIdeal.nD Cert.UvRefIdeal.τ).loc Cert.UvRefIdeal.main_arg3) = m ((c.tc : Thread Cert.UvIdeal.nD Cert.UvIdeal.τ).loc Cert.UvIdeal.main_arg3)) →
    ∃ (v0 : (c : Dev Cert.UvIdeal.nD) → Buf (Elt Ideal) ((c.tc : Thread Cert.UvIdeal.nD Cert.UvIdeal.τ).loc Cert.UvIdeal.main_v1_0)) (v1 : (c : Dev Cert.UvIdeal.nD) → Buf (Elt Ideal) ((c.tc : Thread Cert.UvIdeal.nD Cert.UvIdeal.τ).loc Cert.UvIdeal.main_v1_1)),
      θ_run (Cert.UvIdeal.defs (F := Ideal)) (onTc (τ := Cert.UvIdeal.τ) (Cert.UvIdeal.main (F := Ideal))) ⟨m, fun _ => 0, g⟩ (fun r => ∀ c : Dev Cert.UvIdeal.nD,
          r.2.mem ((c.tc : Thread Cert.UvIdeal.nD Cert.UvIdeal.τ).loc Cert.UvIdeal.main_v1_0) = v0 c
          ∧ r.2.mem ((c.tc : Thread Cert.UvIdeal.nD Cert.UvIdeal.τ).loc Cert.UvIdeal.main_v1_1) = v1 c
          ∧ r.2.mem ((c.tc : Thread Cert.UvIdeal.nD Cert.UvIdeal.τ).loc Cert.UvIdeal.main_arg0) = m ((c.tc : Thread Cert.UvIdeal.nD Cert.UvIdeal.τ).loc Cert.UvIdeal.main_arg0)
          ∧ r.2.mem ((c.tc : Thread Cert.UvIdeal.nD Cert.UvIdeal.τ).loc Cert.UvIdeal.main_arg1) = m ((c.tc : Thread Cert.UvIdeal.nD Cert.UvIdeal.τ).loc Cert.UvIdeal.main_arg1)
          ∧ r.2.mem ((c.tc : Thread Cert.UvIdeal.nD Cert.UvIdeal.τ).loc Cert.UvIdeal.main_arg2) = m ((c.tc : Thread Cert.UvIdeal.nD Cert.UvIdeal.τ).loc Cert.UvIdeal.main_arg2)
          ∧ r.2.mem ((c.tc : Thread Cert.UvIdeal.nD Cert.UvIdeal.τ).loc Cert.UvIdeal.main_arg3) = m ((c.tc : Thread Cert.UvIdeal.nD Cert.UvIdeal.τ).loc Cert.UvIdeal.main_arg3))
      ∧ θ_run (Cert.UvRefIdeal.defs (F := Ideal)) (onTc (τ := Cert.UvRefIdeal.τ) (Cert.UvRefIdeal.main (F := Ideal))) ⟨m', fun _ => 0, g'⟩ (fun r => ∀ c : Dev Cert.UvRefIdeal.nD,
          r.2.mem ((c.tc : Thread Cert.UvRefIdeal.nD Cert.UvRefIdeal.τ).loc Cert.UvRefIdeal.main_v12) = v0 c
          ∧ r.2.mem ((c.tc : Thread Cert.UvRefIdeal.nD Cert.UvRefIdeal.τ).loc Cert.UvRefIdeal.main_v25) = v1 c
          ∧ r.2.mem ((c.tc : Thread Cert.UvRefIdeal.nD Cert.UvRefIdeal.τ).loc Cert.UvRefIdeal.main_arg0) = m' ((c.tc : Thread Cert.UvRefIdeal.nD Cert.UvRefIdeal.τ).loc Cert.UvRefIdeal.main_arg0)
          ∧ r.2.mem ((c.tc : Thread Cert.UvRefIdeal.nD Cert.UvRefIdeal.τ).loc Cert.UvRefIdeal.main_arg1) = m' ((c.tc : Thread Cert.UvRefIdeal.nD Cert.UvRefIdeal.τ).loc Cert.UvRefIdeal.main_arg1)
          ∧ r.2.mem ((c.tc : Thread Cert.UvRefIdeal.nD Cert.UvRefIdeal.τ).loc Cert.UvRefIdeal.main_arg2) = m' ((c.tc : Thread Cert.UvRefIdeal.nD Cert.UvRefIdeal.τ).loc Cert.UvRefIdeal.main_arg2)
          ∧ r.2.mem ((c.tc : Thread Cert.UvRefIdeal.nD Cert.UvRefIdeal.τ).loc Cert.UvRefIdeal.main_arg3) = m' ((c.tc : Thread Cert.UvRefIdeal.nD Cert.UvRefIdeal.τ).loc Cert.UvRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v15) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1_0)) (v1 : (c : Dev Cert.OutProjIdeal.nD) → Buf (Elt Ideal) ((c.tc : Thread Cert.OutProjIdeal.nD Cert.OutProjIdeal.τ).loc Cert.OutProjIdeal.main_v1_1)) (v2 : (c : Dev Cert.OutProjIdeal.nD) → Buf (Elt Ideal) ((c.tc : Thread Cert.OutProjIdeal.nD Cert.OutProjIdeal.τ).loc Cert.OutProjIdeal.main_v1_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1_0) = v0 c
          ∧ r.2.mem ((c.tc : Thread Cert.OutProjIdeal.nD Cert.OutProjIdeal.τ).loc Cert.OutProjIdeal.main_v1_1) = v1 c
          ∧ r.2.mem ((c.tc : Thread Cert.OutProjIdeal.nD Cert.OutProjIdeal.τ).loc Cert.OutProjIdeal.main_v1_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v5) = v0 c
          ∧ r.2.mem ((c.tc : Thread Cert.OutProjRefIdeal.nD Cert.OutProjRefIdeal.τ).loc Cert.OutProjRefIdeal.main_v12) = v1 c
          ∧ r.2.mem ((c.tc : Thread Cert.OutProjRefIdeal.nD Cert.OutProjRefIdeal.τ).loc Cert.OutProjRefIdeal.main_v13) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_GateUp_GateUpIdeal : Prop :=
  True

def algebraic_GateUpIdeal_GateUpRefIdeal_pre_sums_of_squares [hGateUpIdeal : Cert.GateUpIdeal.Facts] [hGateUpRefIdeal : Cert.GateUpRefIdeal.Facts] [hPre_sums_of_squares : Cert.Pre_sums_of_squares.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal_sums_of_squares m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v15) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v12) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_QkvA_QkvAIdeal : Prop :=
  True

def algebraic_QkvAIdeal_QkvARefIdeal [hQkvAIdeal : Cert.QkvAIdeal.Facts] [hQkvARefIdeal : Cert.QkvARefIdeal.Facts] : Prop :=
  ∀ (m : (ℓ : Loc Cert.QkvAIdeal.nD Cert.QkvAIdeal.τ Cert.QkvAIdeal.sig) → Buf (Elt Ideal) ℓ) (g : Dev Cert.QkvAIdeal.nD → PrngReg)
    (m' : (ℓ : Loc Cert.QkvARefIdeal.nD Cert.QkvARefIdeal.τ Cert.QkvARefIdeal.sig) → Buf (Elt Ideal) ℓ) (g' : Dev Cert.QkvARefIdeal.nD → PrngReg), Pre_QkvAIdeal m →
    (∀ c : Dev Cert.QkvAIdeal.nD,
      m' ((c.tc : Thread Cert.QkvARefIdeal.nD Cert.QkvARefIdeal.τ).loc Cert.QkvARefIdeal.main_arg0) = m ((c.tc : Thread Cert.QkvAIdeal.nD Cert.QkvAIdeal.τ).loc Cert.QkvAIdeal.main_arg0)
      ∧ m' ((c.tc : Thread Cert.QkvARefIdeal.nD Cert.QkvARefIdeal.τ).loc Cert.QkvARefIdeal.main_arg1) = m ((c.tc : Thread Cert.QkvAIdeal.nD Cert.QkvAIdeal.τ).loc Cert.QkvAIdeal.main_arg1)
      ∧ m' ((c.tc : Thread Cert.QkvARefIdeal.nD Cert.QkvARefIdeal.τ).loc Cert.QkvARefIdeal.main_arg2) = m ((c.tc : Thread Cert.QkvAIdeal.nD Cert.QkvAIdeal.τ).loc Cert.QkvAIdeal.main_arg2)
      ∧ m' ((c.tc : Thread Cert.QkvARefIdeal.nD Cert.QkvARefIdeal.τ).loc Cert.QkvARefIdeal.main_arg3) = m ((c.tc : Thread Cert.QkvAIdeal.nD Cert.QkvAIdeal.τ).loc Cert.QkvAIdeal.main_arg3)) →
    ∃ (v0 : (c : Dev Cert.QkvAIdeal.nD) → Buf (Elt Ideal) ((c.tc : Thread Cert.QkvAIdeal.nD Cert.QkvAIdeal.τ).loc Cert.QkvAIdeal.main_v8)),
      θ_run (Cert.QkvAIdeal.defs (F := Ideal)) (onTc (τ := Cert.QkvAIdeal.τ) (Cert.QkvAIdeal.main (F := Ideal))) ⟨m, fun _ => 0, g⟩ (fun r => ∀ c : Dev Cert.QkvAIdeal.nD,
          r.2.mem ((c.tc : Thread Cert.QkvAIdeal.nD Cert.QkvAIdeal.τ).loc Cert.QkvAIdeal.main_v8) = v0 c
          ∧ r.2.mem ((c.tc : Thread Cert.QkvAIdeal.nD Cert.QkvAIdeal.τ).loc Cert.QkvAIdeal.main_arg0) = m ((c.tc : Thread Cert.QkvAIdeal.nD Cert.QkvAIdeal.τ).loc Cert.QkvAIdeal.main_arg0)
          ∧ r.2.mem ((c.tc : Thread Cert.QkvAIdeal.nD Cert.QkvAIdeal.τ).loc Cert.QkvAIdeal.main_arg1) = m ((c.tc : Thread Cert.QkvAIdeal.nD Cert.QkvAIdeal.τ).loc Cert.QkvAIdeal.main_arg1)
          ∧ r.2.mem ((c.tc : Thread Cert.QkvAIdeal.nD Cert.QkvAIdeal.τ).loc Cert.QkvAIdeal.main_arg2) = m ((c.tc : Thread Cert.QkvAIdeal.nD Cert.QkvAIdeal.τ).loc Cert.QkvAIdeal.main_arg2)
          ∧ r.2.mem ((c.tc : Thread Cert.QkvAIdeal.nD Cert.QkvAIdeal.τ).loc Cert.QkvAIdeal.main_arg3) = m ((c.tc : Thread Cert.QkvAIdeal.nD Cert.QkvAIdeal.τ).loc Cert.QkvAIdeal.main_arg3))
      ∧ θ_run (Cert.QkvARefIdeal.defs (F := Ideal)) (onTc (τ := Cert.QkvARefIdeal.τ) (Cert.QkvARefIdeal.main (F := Ideal))) ⟨m', fun _ => 0, g'⟩ (fun r => ∀ c : Dev Cert.QkvARefIdeal.nD,
          r.2.mem ((c.tc : Thread Cert.QkvARefIdeal.nD Cert.QkvARefIdeal.τ).loc Cert.QkvARefIdeal.main_v48) = v0 c
          ∧ r.2.mem ((c.tc : Thread Cert.QkvARefIdeal.nD Cert.QkvARefIdeal.τ).loc Cert.QkvARefIdeal.main_arg0) = m' ((c.tc : Thread Cert.QkvARefIdeal.nD Cert.QkvARefIdeal.τ).loc Cert.QkvARefIdeal.main_arg0)
          ∧ r.2.mem ((c.tc : Thread Cert.QkvARefIdeal.nD Cert.QkvARefIdeal.τ).loc Cert.QkvARefIdeal.main_arg1) = m' ((c.tc : Thread Cert.QkvARefIdeal.nD Cert.QkvARefIdeal.τ).loc Cert.QkvARefIdeal.main_arg1)
          ∧ r.2.mem ((c.tc : Thread Cert.QkvARefIdeal.nD Cert.QkvARefIdeal.τ).loc Cert.QkvARefIdeal.main_arg2) = m' ((c.tc : Thread Cert.QkvARefIdeal.nD Cert.QkvARefIdeal.τ).loc Cert.QkvARefIdeal.main_arg2)
          ∧ r.2.mem ((c.tc : Thread Cert.QkvARefIdeal.nD Cert.QkvARefIdeal.τ).loc Cert.QkvARefIdeal.main_arg3) = m' ((c.tc : Thread Cert.QkvARefIdeal.nD Cert.QkvARefIdeal.τ).loc Cert.QkvARefIdeal.main_arg3))

def preserves_QkvB_QkvBIdeal : Prop :=
  True

def algebraic_QkvBIdeal_QkvBRefIdeal [hQkvBIdeal : Cert.QkvBIdeal.Facts] [hQkvBRefIdeal : Cert.QkvBRefIdeal.Facts] : Prop :=
  ∀ (m : (ℓ : Loc Cert.QkvBIdeal.nD Cert.QkvBIdeal.τ Cert.QkvBIdeal.sig) → Buf (Elt Ideal) ℓ) (g : Dev Cert.QkvBIdeal.nD → PrngReg)
    (m' : (ℓ : Loc Cert.QkvBRefIdeal.nD Cert.QkvBRefIdeal.τ Cert.QkvBRefIdeal.sig) → Buf (Elt Ideal) ℓ) (g' : Dev Cert.QkvBRefIdeal.nD → PrngReg), Pre_QkvBIdeal m →
    (∀ c : Dev Cert.QkvBIdeal.nD,
      m' ((c.tc : Thread Cert.QkvBRefIdeal.nD Cert.QkvBRefIdeal.τ).loc Cert.QkvBRefIdeal.main_arg0) = m ((c.tc : Thread Cert.QkvBIdeal.nD Cert.QkvBIdeal.τ).loc Cert.QkvBIdeal.main_arg0)
      ∧ m' ((c.tc : Thread Cert.QkvBRefIdeal.nD Cert.QkvBRefIdeal.τ).loc Cert.QkvBRefIdeal.main_arg1) = m ((c.tc : Thread Cert.QkvBIdeal.nD Cert.QkvBIdeal.τ).loc Cert.QkvBIdeal.main_arg1)
      ∧ m' ((c.tc : Thread Cert.QkvBRefIdeal.nD Cert.QkvBRefIdeal.τ).loc Cert.QkvBRefIdeal.main_arg2) = m ((c.tc : Thread Cert.QkvBIdeal.nD Cert.QkvBIdeal.τ).loc Cert.QkvBIdeal.main_arg2)
      ∧ m' ((c.tc : Thread Cert.QkvBRefIdeal.nD Cert.QkvBRefIdeal.τ).loc Cert.QkvBRefIdeal.main_arg3) = m ((c.tc : Thread Cert.QkvBIdeal.nD Cert.QkvBIdeal.τ).loc Cert.QkvBIdeal.main_arg3)) →
    ∃ (v0 : (c : Dev Cert.QkvBIdeal.nD) → Buf (Elt Ideal) ((c.tc : Thread Cert.QkvBIdeal.nD Cert.QkvBIdeal.τ).loc Cert.QkvBIdeal.main_v8)),
      θ_run (Cert.QkvBIdeal.defs (F := Ideal)) (onTc (τ := Cert.QkvBIdeal.τ) (Cert.QkvBIdeal.main (F := Ideal))) ⟨m, fun _ => 0, g⟩ (fun r => ∀ c : Dev Cert.QkvBIdeal.nD,
          r.2.mem ((c.tc : Thread Cert.QkvBIdeal.nD Cert.QkvBIdeal.τ).loc Cert.QkvBIdeal.main_v8) = v0 c
          ∧ r.2.mem ((c.tc : Thread Cert.QkvBIdeal.nD Cert.QkvBIdeal.τ).loc Cert.QkvBIdeal.main_arg0) = m ((c.tc : Thread Cert.QkvBIdeal.nD Cert.QkvBIdeal.τ).loc Cert.QkvBIdeal.main_arg0)
          ∧ r.2.mem ((c.tc : Thread Cert.QkvBIdeal.nD Cert.QkvBIdeal.τ).loc Cert.QkvBIdeal.main_arg1) = m ((c.tc : Thread Cert.QkvBIdeal.nD Cert.QkvBIdeal.τ).loc Cert.QkvBIdeal.main_arg1)
          ∧ r.2.mem ((c.tc : Thread Cert.QkvBIdeal.nD Cert.QkvBIdeal.τ).loc Cert.QkvBIdeal.main_arg2) = m ((c.tc : Thread Cert.QkvBIdeal.nD Cert.QkvBIdeal.τ).loc Cert.QkvBIdeal.main_arg2)
          ∧ r.2.mem ((c.tc : Thread Cert.QkvBIdeal.nD Cert.QkvBIdeal.τ).loc Cert.QkvBIdeal.main_arg3) = m ((c.tc : Thread Cert.QkvBIdeal.nD Cert.QkvBIdeal.τ).loc Cert.QkvBIdeal.main_arg3))
      ∧ θ_run (Cert.QkvBRefIdeal.defs (F := Ideal)) (onTc (τ := Cert.QkvBRefIdeal.τ) (Cert.QkvBRefIdeal.main (F := Ideal))) ⟨m', fun _ => 0, g'⟩ (fun r => ∀ c : Dev Cert.QkvBRefIdeal.nD,
          r.2.mem ((c.tc : Thread Cert.QkvBRefIdeal.nD Cert.QkvBRefIdeal.τ).loc Cert.QkvBRefIdeal.main_v48) = v0 c
          ∧ r.2.mem ((c.tc : Thread Cert.QkvBRefIdeal.nD Cert.QkvBRefIdeal.τ).loc Cert.QkvBRefIdeal.main_arg0) = m' ((c.tc : Thread Cert.QkvBRefIdeal.nD Cert.QkvBRefIdeal.τ).loc Cert.QkvBRefIdeal.main_arg0)
          ∧ r.2.mem ((c.tc : Thread Cert.QkvBRefIdeal.nD Cert.QkvBRefIdeal.τ).loc Cert.QkvBRefIdeal.main_arg1) = m' ((c.tc : Thread Cert.QkvBRefIdeal.nD Cert.QkvBRefIdeal.τ).loc Cert.QkvBRefIdeal.main_arg1)
          ∧ r.2.mem ((c.tc : Thread Cert.QkvBRefIdeal.nD Cert.QkvBRefIdeal.τ).loc Cert.QkvBRefIdeal.main_arg2) = m' ((c.tc : Thread Cert.QkvBRefIdeal.nD Cert.QkvBRefIdeal.τ).loc Cert.QkvBRefIdeal.main_arg2)
          ∧ r.2.mem ((c.tc : Thread Cert.QkvBRefIdeal.nD Cert.QkvBRefIdeal.τ).loc Cert.QkvBRefIdeal.main_arg3) = m' ((c.tc : Thread Cert.QkvBRefIdeal.nD Cert.QkvBRefIdeal.τ).loc Cert.QkvBRefIdeal.main_arg3))

def preserves_QkvC_QkvCIdeal : Prop :=
  True

def algebraic_QkvCIdeal_QkvCRefIdeal [hQkvCIdeal : Cert.QkvCIdeal.Facts] [hQkvCRefIdeal : Cert.QkvCRefIdeal.Facts] : Prop :=
  ∀ (m : (ℓ : Loc Cert.QkvCIdeal.nD Cert.QkvCIdeal.τ Cert.QkvCIdeal.sig) → Buf (Elt Ideal) ℓ) (g : Dev Cert.QkvCIdeal.nD → PrngReg)
    (m' : (ℓ : Loc Cert.QkvCRefIdeal.nD Cert.QkvCRefIdeal.τ Cert.QkvCRefIdeal.sig) → Buf (Elt Ideal) ℓ) (g' : Dev Cert.QkvCRefIdeal.nD → PrngReg), Pre_QkvCIdeal m →
    (∀ c : Dev Cert.QkvCIdeal.nD,
      m' ((c.tc : Thread Cert.QkvCRefIdeal.nD Cert.QkvCRefIdeal.τ).loc Cert.QkvCRefIdeal.main_arg0) = m ((c.tc : Thread Cert.QkvCIdeal.nD Cert.QkvCIdeal.τ).loc Cert.QkvCIdeal.main_arg0)
      ∧ m' ((c.tc : Thread Cert.QkvCRefIdeal.nD Cert.QkvCRefIdeal.τ).loc Cert.QkvCRefIdeal.main_arg1) = m ((c.tc : Thread Cert.QkvCIdeal.nD Cert.QkvCIdeal.τ).loc Cert.QkvCIdeal.main_arg1)
      ∧ m' ((c.tc : Thread Cert.QkvCRefIdeal.nD Cert.QkvCRefIdeal.τ).loc Cert.QkvCRefIdeal.main_arg2) = m ((c.tc : Thread Cert.QkvCIdeal.nD Cert.QkvCIdeal.τ).loc Cert.QkvCIdeal.main_arg2)
      ∧ m' ((c.tc : Thread Cert.QkvCRefIdeal.nD Cert.QkvCRefIdeal.τ).loc Cert.QkvCRefIdeal.main_arg3) = m ((c.tc : Thread Cert.QkvCIdeal.nD Cert.QkvCIdeal.τ).loc Cert.QkvCIdeal.main_arg3)) →
    ∃ (v0 : (c : Dev Cert.QkvCIdeal.nD) → Buf (Elt Ideal) ((c.tc : Thread Cert.QkvCIdeal.nD Cert.QkvCIdeal.τ).loc Cert.QkvCIdeal.main_v8)),
      θ_run (Cert.QkvCIdeal.defs (F := Ideal)) (onTc (τ := Cert.QkvCIdeal.τ) (Cert.QkvCIdeal.main (F := Ideal))) ⟨m, fun _ => 0, g⟩ (fun r => ∀ c : Dev Cert.QkvCIdeal.nD,
          r.2.mem ((c.tc : Thread Cert.QkvCIdeal.nD Cert.QkvCIdeal.τ).loc Cert.QkvCIdeal.main_v8) = v0 c
          ∧ r.2.mem ((c.tc : Thread Cert.QkvCIdeal.nD Cert.QkvCIdeal.τ).loc Cert.QkvCIdeal.main_arg0) = m ((c.tc : Thread Cert.QkvCIdeal.nD Cert.QkvCIdeal.τ).loc Cert.QkvCIdeal.main_arg0)
          ∧ r.2.mem ((c.tc : Thread Cert.QkvCIdeal.nD Cert.QkvCIdeal.τ).loc Cert.QkvCIdeal.main_arg1) = m ((c.tc : Thread Cert.QkvCIdeal.nD Cert.QkvCIdeal.τ).loc Cert.QkvCIdeal.main_arg1)
          ∧ r.2.mem ((c.tc : Thread Cert.QkvCIdeal.nD Cert.QkvCIdeal.τ).loc Cert.QkvCIdeal.main_arg2) = m ((c.tc : Thread Cert.QkvCIdeal.nD Cert.QkvCIdeal.τ).loc Cert.QkvCIdeal.main_arg2)
          ∧ r.2.mem ((c.tc : Thread Cert.QkvCIdeal.nD Cert.QkvCIdeal.τ).loc Cert.QkvCIdeal.main_arg3) = m ((c.tc : Thread Cert.QkvCIdeal.nD Cert.QkvCIdeal.τ).loc Cert.QkvCIdeal.main_arg3))
      ∧ θ_run (Cert.QkvCRefIdeal.defs (F := Ideal)) (onTc (τ := Cert.QkvCRefIdeal.τ) (Cert.QkvCRefIdeal.main (F := Ideal))) ⟨m', fun _ => 0, g'⟩ (fun r => ∀ c : Dev Cert.QkvCRefIdeal.nD,
          r.2.mem ((c.tc : Thread Cert.QkvCRefIdeal.nD Cert.QkvCRefIdeal.τ).loc Cert.QkvCRefIdeal.main_v48) = v0 c
          ∧ r.2.mem ((c.tc : Thread Cert.QkvCRefIdeal.nD Cert.QkvCRefIdeal.τ).loc Cert.QkvCRefIdeal.main_arg0) = m' ((c.tc : Thread Cert.QkvCRefIdeal.nD Cert.QkvCRefIdeal.τ).loc Cert.QkvCRefIdeal.main_arg0)
          ∧ r.2.mem ((c.tc : Thread Cert.QkvCRefIdeal.nD Cert.QkvCRefIdeal.τ).loc Cert.QkvCRefIdeal.main_arg1) = m' ((c.tc : Thread Cert.QkvCRefIdeal.nD Cert.QkvCRefIdeal.τ).loc Cert.QkvCRefIdeal.main_arg1)
          ∧ r.2.mem ((c.tc : Thread Cert.QkvCRefIdeal.nD Cert.QkvCRefIdeal.τ).loc Cert.QkvCRefIdeal.main_arg2) = m' ((c.tc : Thread Cert.QkvCRefIdeal.nD Cert.QkvCRefIdeal.τ).loc Cert.QkvCRefIdeal.main_arg2)
          ∧ r.2.mem ((c.tc : Thread Cert.QkvCRefIdeal.nD Cert.QkvCRefIdeal.τ).loc Cert.QkvCRefIdeal.main_arg3) = m' ((c.tc : Thread Cert.QkvCRefIdeal.nD Cert.QkvCRefIdeal.τ).loc Cert.QkvCRefIdeal.main_arg3))

def Claim : Prop :=
  ∃ (hAttnA : Cert.AttnA.Facts) (hAttnAIdeal : Cert.AttnAIdeal.Facts) (hAttnARefIdeal : Cert.AttnARefIdeal.Facts) (hAttnB : Cert.AttnB.Facts) (hAttnBIdeal : Cert.AttnBIdeal.Facts) (hAttnBRefIdeal : Cert.AttnBRefIdeal.Facts) (hAttnC : Cert.AttnC.Facts) (hAttnCIdeal : Cert.AttnCIdeal.Facts) (hAttnCRefIdeal : Cert.AttnCRefIdeal.Facts) (hGates : Cert.Gates.Facts) (hGatesIdeal : Cert.GatesIdeal.Facts) (hGatesRefIdeal : Cert.GatesRefIdeal.Facts) (hUv : Cert.Uv.Facts) (hUvIdeal : Cert.UvIdeal.Facts) (hUvRefIdeal : Cert.UvRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hFinal : Cert.Final.Facts) (hFinalIdeal : Cert.FinalIdeal.Facts) (hFinalRefIdeal : Cert.FinalRefIdeal.Facts) (hQkvA : Cert.QkvA.Facts) (hQkvAIdeal : Cert.QkvAIdeal.Facts) (hQkvARefIdeal : Cert.QkvARefIdeal.Facts) (hQkvB : Cert.QkvB.Facts) (hQkvBIdeal : Cert.QkvBIdeal.Facts) (hQkvBRefIdeal : Cert.QkvBRefIdeal.Facts) (hQkvC : Cert.QkvC.Facts) (hQkvCIdeal : Cert.QkvCIdeal.Facts) (hQkvCRefIdeal : Cert.QkvCRefIdeal.Facts) (hPre_sums_of_squares : Cert.Pre_sums_of_squares.Facts),
    quiescent_AttnA (hAttnA := hAttnA)
    ∧ quiescent_AttnAIdeal (hAttnAIdeal := hAttnAIdeal)
    ∧ quiescent_AttnARefIdeal (hAttnARefIdeal := hAttnARefIdeal)
    ∧ quiescent_AttnB (hAttnB := hAttnB)
    ∧ quiescent_AttnBIdeal (hAttnBIdeal := hAttnBIdeal)
    ∧ quiescent_AttnBRefIdeal (hAttnBRefIdeal := hAttnBRefIdeal)
    ∧ quiescent_AttnC (hAttnC := hAttnC)
    ∧ quiescent_AttnCIdeal (hAttnCIdeal := hAttnCIdeal)
    ∧ quiescent_AttnCRefIdeal (hAttnCRefIdeal := hAttnCRefIdeal)
    ∧ quiescent_Gates (hGates := hGates)
    ∧ quiescent_GatesIdeal (hGatesIdeal := hGatesIdeal)
    ∧ quiescent_GatesRefIdeal (hGatesRefIdeal := hGatesRefIdeal)
    ∧ quiescent_Uv (hUv := hUv)
    ∧ quiescent_UvIdeal (hUvIdeal := hUvIdeal)
    ∧ quiescent_UvRefIdeal (hUvRefIdeal := hUvRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_GateUp (hGateUp := hGateUp)
    ∧ quiescent_GateUpIdeal (hGateUpIdeal := hGateUpIdeal)
    ∧ quiescent_GateUpIdeal_pre_sums_of_squares (hGateUpIdeal := hGateUpIdeal) (hPre_sums_of_squares := hPre_sums_of_squares)
    ∧ quiescent_GateUpRefIdeal (hGateUpRefIdeal := hGateUpRefIdeal)
    ∧ quiescent_GateUpRefIdeal_pre_sums_of_squares (hGateUpRefIdeal := hGateUpRefIdeal) (hPre_sums_of_squares := hPre_sums_of_squares)
    ∧ quiescent_Down (hDown := hDown)
    ∧ quiescent_DownIdeal (hDownIdeal := hDownIdeal)
    ∧ quiescent_DownRefIdeal (hDownRefIdeal := hDownRefIdeal)
    ∧ quiescent_Final (hFinal := hFinal)
    ∧ quiescent_FinalIdeal (hFinalIdeal := hFinalIdeal)
    ∧ quiescent_FinalRefIdeal (hFinalRefIdeal := hFinalRefIdeal)
    ∧ quiescent_QkvA (hQkvA := hQkvA)
    ∧ quiescent_QkvAIdeal (hQkvAIdeal := hQkvAIdeal)
    ∧ quiescent_QkvARefIdeal (hQkvARefIdeal := hQkvARefIdeal)
    ∧ quiescent_QkvB (hQkvB := hQkvB)
    ∧ quiescent_QkvBIdeal (hQkvBIdeal := hQkvBIdeal)
    ∧ quiescent_QkvBRefIdeal (hQkvBRefIdeal := hQkvBRefIdeal)
    ∧ quiescent_QkvC (hQkvC := hQkvC)
    ∧ quiescent_QkvCIdeal (hQkvCIdeal := hQkvCIdeal)
    ∧ quiescent_QkvCRefIdeal (hQkvCRefIdeal := hQkvCRefIdeal)
    ∧ preserves_AttnA_AttnAIdeal
    ∧ algebraic_AttnAIdeal_AttnARefIdeal (hAttnAIdeal := hAttnAIdeal) (hAttnARefIdeal := hAttnARefIdeal)
    ∧ preserves_AttnB_AttnBIdeal
    ∧ algebraic_AttnBIdeal_AttnBRefIdeal (hAttnBIdeal := hAttnBIdeal) (hAttnBRefIdeal := hAttnBRefIdeal)
    ∧ preserves_AttnC_AttnCIdeal
    ∧ algebraic_AttnCIdeal_AttnCRefIdeal (hAttnCIdeal := hAttnCIdeal) (hAttnCRefIdeal := hAttnCRefIdeal)
    ∧ preserves_Gates_GatesIdeal
    ∧ algebraic_GatesIdeal_GatesRefIdeal (hGatesIdeal := hGatesIdeal) (hGatesRefIdeal := hGatesRefIdeal)
    ∧ preserves_Uv_UvIdeal
    ∧ algebraic_UvIdeal_UvRefIdeal (hUvIdeal := hUvIdeal) (hUvRefIdeal := hUvRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_GateUp_GateUpIdeal
    ∧ algebraic_GateUpIdeal_GateUpRefIdeal_pre_sums_of_squares (hGateUpIdeal := hGateUpIdeal) (hGateUpRefIdeal := hGateUpRefIdeal) (hPre_sums_of_squares := hPre_sums_of_squares)
    ∧ preserves_Down_DownIdeal
    ∧ algebraic_DownIdeal_DownRefIdeal (hDownIdeal := hDownIdeal) (hDownRefIdeal := hDownRefIdeal)
    ∧ preserves_Final_FinalIdeal
    ∧ algebraic_FinalIdeal_FinalRefIdeal (hFinalIdeal := hFinalIdeal) (hFinalRefIdeal := hFinalRefIdeal)
    ∧ preserves_QkvA_QkvAIdeal
    ∧ algebraic_QkvAIdeal_QkvARefIdeal (hQkvAIdeal := hQkvAIdeal) (hQkvARefIdeal := hQkvARefIdeal)
    ∧ preserves_QkvB_QkvBIdeal
    ∧ algebraic_QkvBIdeal_QkvBRefIdeal (hQkvBIdeal := hQkvBIdeal) (hQkvBRefIdeal := hQkvBRefIdeal)
    ∧ preserves_QkvC_QkvCIdeal
    ∧ algebraic_QkvCIdeal_QkvCRefIdeal (hQkvCIdeal := hQkvCIdeal) (hQkvCRefIdeal := hQkvCRefIdeal)
-- ==== Pre_sums_of_squares.lean ====
abbrev S8192x4096 : Shape := ⟨2, ![8192, 4096]⟩
abbrev S8192x128 : Shape := ⟨2, ![8192, 128]⟩
abbrev S4096x11008 : Shape := ⟨2, ![4096, 11008]⟩
abbrev S8192x1 : Shape := ⟨2, ![8192, 1]⟩
abbrev S_ : Shape := ⟨0, ![]⟩

class Facts : Prop where
  slices_S8192x128_S8192x1_0_0 : S8192x128.Slices ![0, 0] S8192x1
  bcast_S_S8192x1 : S_.BroadcastsInDim S8192x1 (![] : Fin 0 → Fin S8192x1.rank)

variable [Facts]

def fn {F : FTy → Type} [FloatOps F] (main_arg0 : FVec F S8192x4096 .bf16) (main_arg1 : FVec F S8192x128 .f32) (main_arg2 : FVec F S4096x11008 .bf16) (main_arg3 : FVec F S4096x11008 .bf16) : IVec S8192x1 1 :=
  let main_v0 : FVec F S8192x1 .f32 := (extractStridedSlice S8192x1 ![0, 0] · slices_S8192x128_S8192x1_0_0) main_arg1
  let main_cst : FVec F S_ .f32 := constant S_ .f32 0x00000000#32
  let main_v1 : FVec F S8192x1 .f32 := broadcastInDim S8192x1 ![] bcast_S_S8192x1 main_cst
  let main_v2 : IVec S8192x1 1 := cmpf .oge main_v0 main_v1
  main_v2
-- ==== AttnA.lean ====
abbrev S8192x3072 : Shape := ⟨2, ![8192, 3072]⟩
abbrev S8192x1024 : Shape := ⟨2, ![8192, 1024]⟩
abbrev S8192x128 : Shape := ⟨2, ![8192, 128]⟩
abbrev S1024x1024 : Shape := ⟨2, ![1024, 1024]⟩
abbrev S4096x1024 : Shape := ⟨2, ![4096, 1024]⟩
abbrev S1024x128 : Shape := ⟨2, ![1024, 128]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩

abbrev nBuf : Space → Nat
  | .hbm => 4
  | .vmem => 12
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x128, .f32⟩
  | .hbm, ⟨3, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S4096x1024, .bf16⟩
  | .local _ .vmem, ⟨3, _⟩ => ⟨S4096x1024, .bf16⟩
  | .local _ .vmem, ⟨4, _⟩ => ⟨S4096x1024, .bf16⟩
  | .local _ .vmem, ⟨5, _⟩ => ⟨S4096x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let c3840_i32 : BitVec 32 := 3840#32
  let c0_i32_4 : BitVec 32 := 0#32
  let arg1 : BitVec 32 := BitVec.ofNat 32 (i 1).val
  let c1024_i32 : BitVec 32 := 1024#32
  let v7 : BitVec 32 := Scalar.muli arg1 c1024_i32
  let c0_i32 : BitVec 32 := 0#32
  let v8 : BitVec 32 := Scalar.addi v7 c0_i32
  let c64_i32 : BitVec 32 := 64#32
  let v9 : BitVec 32 := Scalar.subi v8 c64_i32
  let v10 : BitVec 32 := Scalar.maxsi c0_i32_4 v9
  let v11 : BitVec 32 := Scalar.minsi c3840_i32 v10
  v11
def k0_off1 (i : grid0.Coords) (c0_i32 : BitVec 32) : Fin 2 → Nat :=
  let c3840_i32 : BitVec 32 := 3840#32
  let c0_i32_4 : BitVec 32 := 0#32
  let arg1 : BitVec 32 := BitVec.ofNat 32 (i 1).val
  let c1024_i32 : BitVec 32 := 1024#32
  let v7 : BitVec 32 := Scalar.muli arg1 c1024_i32
  let v8 : BitVec 32 := Scalar.addi v7 c0_i32
  let c64_i32 : BitVec 32 := 64#32
  let v9 : BitVec 32 := Scalar.subi v8 c64_i32
  let v10 : BitVec 32 := Scalar.maxsi c0_i32_4 v9
  let v11 : BitVec 32 := Scalar.minsi c3840_i32 v10
  let v12 : BitVec 32 := v11
  let v14 : Index := Scalar.indexCast v12
  let c0_7 : Index := 0#32
  ![v14.toNat, 0]
def k0_off2 (i : grid0.Coords) (c0_i32 : BitVec 32) : Fin 2 → Nat :=
  let c3840_i32 : BitVec 32 := 3840#32
  let c0_i32_4 : BitVec 32 := 0#32
  let arg1 : BitVec 32 := BitVec.ofNat 32 (i 1).val
  let c1024_i32 : BitVec 32 := 1024#32
  let v7 : BitVec 32 := Scalar.muli arg1 c1024_i32
  let v8 : BitVec 32 := Scalar.addi v7 c0_i32
  let c64_i32 : BitVec 32 := 64#32
  let v9 : BitVec 32 := Scalar.subi v8 c64_i32
  let v10 : BitVec 32 := Scalar.maxsi c0_i32_4 v9
  let v11 : BitVec 32 := Scalar.minsi c3840_i32 v10
  let v12 : BitVec 32 := v11
  let v18 : Index := Scalar.indexCast v12
  let c128_10 : Index := 128#32
  ![v18.toNat, 128]
def k0_off3 (i : grid0.Coords) (c0_i32 : BitVec 32) : Fin 2 → Nat :=
  let c3840_i32 : BitVec 32 := 3840#32
  let c0_i32_4 : BitVec 32 := 0#32
  let arg1 : BitVec 32 := BitVec.ofNat 32 (i 1).val
  let c1024_i32 : BitVec 32 := 1024#32
  let v7 : BitVec 32 := Scalar.muli arg1 c1024_i32
  let v8 : BitVec 32 := Scalar.addi v7 c0_i32
  let c64_i32 : BitVec 32 := 64#32
  let v9 : BitVec 32 := Scalar.subi v8 c64_i32
  let v10 : BitVec 32 := Scalar.maxsi c0_i32_4 v9
  let v11 : BitVec 32 := Scalar.minsi c3840_i32 v10
  let v12 : BitVec 32 := v11
  let v22 : Index := Scalar.indexCast v12
  let c256_13 : Index := 256#32
  ![v22.toNat, 256]
def k0_off4 (i : grid0.Coords) (c0_i32 : BitVec 32) : Fin 2 → Nat :=
  let c3840_i32 : BitVec 32 := 3840#32
  let c0_i32_4 : BitVec 32 := 0#32
  let arg1 : BitVec 32 := BitVec.ofNat 32 (i 1).val
  let c1024_i32 : BitVec 32 := 1024#32
  let v7 : BitVec 32 := Scalar.muli arg1 c1024_i32
  let v8 : BitVec 32 := Scalar.addi v7 c0_i32
  let c64_i32 : BitVec 32 := 64#32
  let v9 : BitVec 32 := Scalar.subi v8 c64_i32
  let v10 : BitVec 32 := Scalar.maxsi c0_i32_4 v9
  let v11 : BitVec 32 := Scalar.minsi c3840_i32 v10
  let v12 : BitVec 32 := v11
  let v26 : Index := Scalar.indexCast v12
  let c384_16 : Index := 384#32
  ![v26.toNat, 384]
def k0_off5 (i : grid0.Coords) (c0_i32 : BitVec 32) : Fin 2 → Nat :=
  let c3840_i32 : BitVec 32 := 3840#32
  let c0_i32_4 : BitVec 32 := 0#32
  let arg1 : BitVec 32 := BitVec.ofNat 32 (i 1).val
  let c1024_i32 : BitVec 32 := 1024#32
  let v7 : BitVec 32 := Scalar.muli arg1 c1024_i32
  let v8 : BitVec 32 := Scalar.addi v7 c0_i32
  let c64_i32 : BitVec 32 := 64#32
  let v9 : BitVec 32 := Scalar.subi v8 c64_i32
  let v10 : BitVec 32 := Scalar.maxsi c0_i32_4 v9
  let v11 : BitVec 32 := Scalar.minsi c3840_i32 v10
  let v12 : BitVec 32 := v11
  let v30 : Index := Scalar.indexCast v12
  let c512_19 : Index := 512#32
  ![v30.toNat, 512]
def k0_off6 (i : grid0.Coords) (c0_i32 : BitVec 32) : Fin 2 → Nat :=
  let c3840_i32 : BitVec 32 := 3840#32
  let c0_i32_4 : BitVec 32 := 0#32
  let arg1 : BitVec 32 := BitVec.ofNat 32 (i 1).val
  let c1024_i32 : BitVec 32 := 1024#32
  let v7 : BitVec 32 := Scalar.muli arg1 c1024_i32
  let v8 : BitVec 32 := Scalar.addi v7 c0_i32
  let c64_i32 : BitVec 32 := 64#32
  let v9 : BitVec 32 := Scalar.subi v8 c64_i32
  let v10 : BitVec 32 := Scalar.maxsi c0_i32_4 v9
  let v11 : BitVec 32 := Scalar.minsi c3840_i32 v10
  let v12 : BitVec 32 := v11
  let v34 : Index := Scalar.indexCast v12
  let c640_22 : Index := 640#32
  ![v34.toNat, 640]
def k0_off7 (i : grid0.Coords) (c0_i32 : BitVec 32) : Fin 2 → Nat :=
  let c3840_i32 : BitVec 32 := 3840#32
  let c0_i32_4 : BitVec 32 := 0#32
  let arg1 : BitVec 32 := BitVec.ofNat 32 (i 1).val
  let c1024_i32 : BitVec 32 := 1024#32
  let v7 : BitVec 32 := Scalar.muli arg1 c1024_i32
  let v8 : BitVec 32 := Scalar.addi v7 c0_i32
  let c64_i32 : BitVec 32 := 64#32
  let v9 : BitVec 32 := Scalar.subi v8 c64_i32
  let v10 : BitVec 32 := Scalar.maxsi c0_i32_4 v9
  let v11 : BitVec 32 := Scalar.minsi c3840_i32 v10
  let v12 : BitVec 32 := v11
  let v38 : Index := Scalar.indexCast v12
  let c768_25 : Index := 768#32
  ![v38.toNat, 768]
def k0_off8 (i : grid0.Coords) (c0_i32 : BitVec 32) : Fin 2 → Nat :=
  let c3840_i32 : BitVec 32 := 3840#32
  let c0_i32_4 : BitVec 32 := 0#32
  let arg1 : BitVec 32 := BitVec.ofNat 32 (i 1).val
  let c1024_i32 : BitVec 32 := 1024#32
  let v7 : BitVec 32 := Scalar.muli arg1 c1024_i32
  let v8 : BitVec 32 := Scalar.addi v7 c0_i32
  let c64_i32 : BitVec 32 := 64#32
  let v9 : BitVec 32 := Scalar.subi v8 c64_i32
  let v10 : BitVec 32 := Scalar.maxsi c0_i32_4 v9
  let v11 : BitVec 32 := Scalar.minsi c3840_i32 v10
  let v12 : BitVec 32 := v11
  let v42 : Index := Scalar.indexCast v12
  let c896_28 : Index := 896#32
  ![v42.toNat, 896]
def k0_mult2 (i : grid0.Coords) : BitVec 32 :=
  let c3840_i32_131 : BitVec 32 := 3840#32
  let c0_i32_130 : BitVec 32 := 0#32
  let arg1 : BitVec 32 := BitVec.ofNat 32 (i 1).val
  let c1024_i32_128 : BitVec 32 := 1024#32
  let v219 : BitVec 32 := Scalar.muli arg1 c1024_i32_128
  let c128_i32 : BitVec 32 := 128#32
  let v220 : BitVec 32 := Scalar.addi v219 c128_i32
  let c64_i32_129 : BitVec 32 := 64#32
  let v221 : BitVec 32 := Scalar.subi v220 c64_i32_129
  let v222 : BitVec 32 := Scalar.maxsi c0_i32_130 v221
  let v223 : BitVec 32 := Scalar.minsi c3840_i32_131 v222
  v223
def k0_mult3 (i : grid0.Coords) : BitVec 32 :=
  let c3840_i32_272 : BitVec 32 := 3840#32
  let c0_i32_271 : BitVec 32 := 0#32
  let arg1 : BitVec 32 := BitVec.ofNat 32 (i 1).val
  let c1024_i32_269 : BitVec 32 := 1024#32
  let v431 : BitVec 32 := Scalar.muli arg1 c1024_i32_269
  let c256_i32 : BitVec 32 := 256#32
  let v432 : BitVec 32 := Scalar.addi v431 c256_i32
  let c64_i32_270 : BitVec 32 := 64#32
  let v433 : BitVec 32 := Scalar.subi v432 c64_i32_270
  let v434 : BitVec 32 := Scalar.maxsi c0_i32_271 v433
  let v435 : BitVec 32 := Scalar.minsi c3840_i32_272 v434
  v435
def k0_mult4 (i : grid0.Coords) : BitVec 32 :=
  let c3840_i32_413 : BitVec 32 := 3840#32
  let c0_i32_412 : BitVec 32 := 0#32
  let arg1 : BitVec 32 := BitVec.ofNat 32 (i 1).val
  let c1024_i32_410 : BitVec 32 := 1024#32
  let v643 : BitVec 32 := Scalar.muli arg1 c1024_i32_410
  let c384_i32 : BitVec 32 := 384#32
  let v644 : BitVec 32 := Scalar.addi v643 c384_i32
  let c64_i32_411 : BitVec 32 := 64#32
  let v645 : BitVec 32 := Scalar.subi v644 c64_i32_411
  let v646 : BitVec 32 := Scalar.maxsi c0_i32_412 v645
  let v647 : BitVec 32 := Scalar.minsi c3840_i32_413 v646
  v647
def k0_mult5 (i : grid0.Coords) : BitVec 32 :=
  let c3840_i32_554 : BitVec 32 := 3840#32
  let c0_i32_553 : BitVec 32 := 0#32
  let arg1 : BitVec 32 := BitVec.ofNat 32 (i 1).val
  let c1024_i32_551 : BitVec 32 := 1024#32
  let v855 : BitVec 32 := Scalar.muli arg1 c1024_i32_551
  let c512_i32 : BitVec 32 := 512#32
  let v856 : BitVec 32 := Scalar.addi v855 c512_i32
  let c64_i32_552 : BitVec 32 := 64#32
  let v857 : BitVec 32 := Scalar.subi v856 c64_i32_552
  let v858 : BitVec 32 := Scalar.maxsi c0_i32_553 v857
  let v859 : BitVec 32 := Scalar.minsi c3840_i32_554 v858
  v859
def k0_mult6 (i : grid0.Coords) : BitVec 32 :=
  let c3840_i32_695 : BitVec 32 := 3840#32
  let c0_i32_694 : BitVec 32 := 0#32
  let arg1 : BitVec 32 := BitVec.ofNat 32 (i 1).val
  let c1024_i32_692 : BitVec 32 := 1024#32
  let v1067 : BitVec 32 := Scalar.muli arg1 c1024_i32_692
  let c640_i32 : BitVec 32 := 640#32
  let v1068 : BitVec 32 := Scalar.addi v1067 c640_i32
  let c64_i32_693 : BitVec 32 := 64#32
  let v1069 : BitVec 32 := Scalar.subi v1068 c64_i32_693
  let v1070 : BitVec 32 := Scalar.maxsi c0_i32_694 v1069
  let v1071 : BitVec 32 := Scalar.minsi c3840_i32_695 v1070
  v1071
def k0_mult7 (i : grid0.Coords) : BitVec 32 :=
  let c3840_i32_836 : BitVec 32 := 3840#32
  let c0_i32_835 : BitVec 32 := 0#32
  let arg1 : BitVec 32 := BitVec.ofNat 32 (i 1).val
  let c1024_i32_833 : BitVec 32 := 1024#32
  let v1279 : BitVec 32 := Scalar.muli arg1 c1024_i32_833
  let c768_i32 : BitVec 32 := 768#32
  let v1280 : BitVec 32 := Scalar.addi v1279 c768_i32
  let c64_i32_834 : BitVec 32 := 64#32
  let v1281 : BitVec 32 := Scalar.subi v1280 c64_i32_834
  let v1282 : BitVec 32 := Scalar.maxsi c0_i32_835 v1281
  let v1283 : BitVec 32 := Scalar.minsi c3840_i32_836 v1282
  v1283
def k0_mult8 (i : grid0.Coords) : BitVec 32 :=
  let c3840_i32_977 : BitVec 32 := 3840#32
  let c0_i32_976 : BitVec 32 := 0#32
  let arg1 : BitVec 32 := BitVec.ofNat 32 (i 1).val
  let c1024_i32_974 : BitVec 32 := 1024#32
  let v1491 : BitVec 32 := Scalar.muli arg1 c1024_i32_974
  let c896_i32 : BitVec 32 := 896#32
  let v1492 : BitVec 32 := Scalar.addi v1491 c896_i32
  let c64_i32_975 : BitVec 32 := 64#32
  let v1493 : BitVec 32 := Scalar.subi v1492 c64_i32_975
  let v1494 : BitVec 32 := Scalar.maxsi c0_i32_976 v1493
  let v1495 : BitVec 32 := Scalar.minsi c3840_i32_977 v1494
  v1495
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnAIdeal.lean ====
variable {F : FTy → Type} [FloatOps F] [Named F]
def κ : String → Option EReal := fun
  | "mask" => some ⊥
  | "scale" => some (((Real.sqrt 128)⁻¹ : ℝ) : EReal)
  | "scale_log2e" => some ((((Real.sqrt 128) * (Real.log 2))⁻¹ : ℝ) : EReal)
  | _ => none
-- ==== AttnARefIdeal.lean ====
abbrev S8192x3072 : Shape := ⟨2, ![8192, 3072]⟩
abbrev S2x4096x3x8x128 : Shape := ⟨5, ![2, 4096, 3, 8, 128]⟩
abbrev S2x4096x1x8x128 : Shape := ⟨5, ![2, 4096, 1, 8, 128]⟩
abbrev S2x4096x8x128 : Shape := ⟨4, ![2, 4096, 8, 128]⟩
abbrev S_ : Shape := ⟨0, ![]⟩
abbrev S2x8x4096x4096 : Shape := ⟨4, ![2, 8, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩
abbrev S8192x1024 : Shape := ⟨2, ![8192, 1024]⟩
abbrev S2x4096x8 : Shape := ⟨3, ![2, 4096, 8]⟩
abbrev S8192x8 : Shape := ⟨2, ![8192, 8]⟩
abbrev S8192x128 : Shape := ⟨2, ![8192, 128]⟩

abbrev nBuf : Space → Nat
  | .hbm => 53
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .f32⟩
  | .hbm, ⟨2, _⟩ => ⟨S2x4096x3x8x128, .f32⟩
  | .hbm, ⟨3, _⟩ => ⟨S2x4096x1x8x128, .f32⟩
  | .hbm, ⟨4, _⟩ => ⟨S2x4096x1x8x128, .f32⟩
  | .hbm, ⟨5, _⟩ => ⟨S2x4096x1x8x128, .f32⟩
  | .hbm, ⟨6, _⟩ => ⟨S2x4096x8x128, .f32⟩
  | .hbm, ⟨7, _⟩ => ⟨S2x4096x8x128, .f32⟩
  | .hbm, ⟨8, _⟩ => ⟨S2x4096x8x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x8x4096x4096, .f32⟩
  | .hbm, ⟨14, _⟩ => ⟨S2x8x4096x4096, .f32⟩
  | .hbm, ⟨15, _⟩ => ⟨S2x8x4096x4096, .f32⟩
  | .hbm, ⟨16, _⟩ => ⟨S4096, .i32⟩
  | .hbm, ⟨17, _⟩ => ⟨S4096x1, .i32⟩
  | .hbm, ⟨18, _⟩ => ⟨S1x4096, .i32⟩
  | .hbm, ⟨19, _⟩ => ⟨S4096x4096, .i32⟩
  | .hbm, ⟨20, _⟩ => ⟨S4096x4096, .i32⟩
  | .hbm, ⟨21, _⟩ => ⟨S4096x4096, .i32⟩
  | .hbm, ⟨22, _⟩ => ⟨S4096x4096, .i32⟩
  | .hbm, ⟨23, _⟩ => ⟨S_, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S2x8x4096x4096, .i1⟩
  | .hbm, ⟨29, _⟩ => ⟨S2x8x4096x4096, .f32⟩
  | .hbm, ⟨30, _⟩ => ⟨S2x8x4096x4096, .f32⟩
  | .hbm, ⟨31, _⟩ => ⟨S_, .f32⟩
  | .hbm, ⟨32, _⟩ => ⟨S2x8x4096, .f32⟩
  | .hbm, ⟨33, _⟩ => ⟨S2x8x4096x1, .f32⟩
  | .hbm, ⟨34, _⟩ => ⟨S2x8x4096x4096, .f32⟩
  | .hbm, ⟨35, _⟩ => ⟨S2x8x4096x4096, .f32⟩
  | .hbm, ⟨36, _⟩ => ⟨S2x8x4096x4096, .f32⟩
  | .hbm, ⟨37, _⟩ => ⟨S_, .f32⟩
  | .hbm, ⟨38, _⟩ => ⟨S2x8x4096, .f32⟩
  | .hbm, ⟨39, _⟩ => ⟨S2x8x128x4096, .f32⟩
  | .hbm, ⟨40, _⟩ => ⟨S2x4096x8x128, .f32⟩
  | .hbm, ⟨41, _⟩ => ⟨S8192x1024, .f32⟩
  | .hbm, ⟨42, _⟩ => ⟨S8192x1024, .bf16⟩
  | .hbm, ⟨43, _⟩ => ⟨S2x4096x8, .f32⟩
  | .hbm, ⟨44, _⟩ => ⟨S8192x8, .f32⟩
  | .hbm, ⟨45, _⟩ => ⟨S_, .i32⟩
  | .hbm, ⟨46, _⟩ => ⟨S_, .f32⟩
  | .hbm, ⟨47, _⟩ => ⟨S8192x128, .f32⟩
  | .hbm, ⟨48, _⟩ => ⟨S2x4096x8, .f32⟩
  | .hbm, ⟨49, _⟩ => ⟨S8192x8, .f32⟩
  | .hbm, ⟨50, _⟩ => ⟨S_, .i32⟩
  | .hbm, ⟨51, _⟩ => ⟨S_, .f32⟩
  | .hbm, ⟨52, _⟩ => ⟨S8192x128, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_call1_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_5 : Ref sig .tc := ⟨.hbm, 50, rfl⟩
abbrev main_call2_v0 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== AttnB.lean ====
abbrev S8192x3072 : Shape := ⟨2, ![8192, 3072]⟩
abbrev S8192x1024 : Shape := ⟨2, ![8192, 1024]⟩
abbrev S8192x128 : Shape := ⟨2, ![8192, 128]⟩
abbrev S1024x1024 : Shape := ⟨2, ![1024, 1024]⟩
abbrev S1024x128 : Shape := ⟨2, ![1024, 128]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩

abbrev nBuf : Space → Nat
  | .hbm => 4
  | .vmem => 12
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x128, .f32⟩
  | .hbm, ⟨3, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 1], ![false, false]⟩

def k0_mult1 (i : grid0.Coords) : BitVec 32 :=
  let c768_i32 : BitVec 32 := 768#32
  let c0_i32_4 : BitVec 32 := 0#32
  let arg1 : BitVec 32 := BitVec.ofNat 32 (i 1).val
  let c1024_i32 : BitVec 32 := 1024#32
  let v7 : BitVec 32 := Scalar.muli arg1 c1024_i32
  let c0_i32 : BitVec 32 := 0#32
  let v8 : BitVec 32 := Scalar.addi v7 c0_i32
  let c64_i32 : BitVec 32 := 64#32
  let v9 : BitVec 32 := Scalar.subi v8 c64_i32
  let v10 : BitVec 32 := Scalar.maxsi c0_i32_4 v9
  let v11 : BitVec 32 := Scalar.minsi c768_i32 v10
  v11
def k0_off1 (i : grid0.Coords) (c0_i32 : BitVec 32) : Fin 2 → Nat :=
  let c768_i32 : BitVec 32 := 768#32
  let c0_i32_4 : BitVec 32 := 0#32
  let arg1 : BitVec 32 := BitVec.ofNat 32 (i 1).val
  let c1024_i32 : BitVec 32 := 1024#32
  let v7 : BitVec 32 := Scalar.muli arg1 c1024_i32
  let v8 : BitVec 32 := Scalar.addi v7 c0_i32
  let c64_i32 : BitVec 32 := 64#32
  let v9 : BitVec 32 := Scalar.subi v8 c64_i32
  let v10 : BitVec 32 := Scalar.maxsi c0_i32_4 v9
  let v11 : BitVec 32 := Scalar.minsi c768_i32 v10
  let v12 : BitVec 32 := v11
  let v14 : Index := Scalar.indexCast v12
  let c0_7 : Index := 0#32
  ![v14.toNat, 0]
def k0_off2 (i : grid0.Coords) (c0_i32 : BitVec 32) : Fin 2 → Nat :=
  let c768_i32 : BitVec 32 := 768#32
  let c0_i32_4 : BitVec 32 := 0#32
  let arg1 : BitVec 32 := BitVec.ofNat 32 (i 1).val
  let c1024_i32 : BitVec 32 := 1024#32
  let v7 : BitVec 32 := Scalar.muli arg1 c1024_i32
  let v8 : BitVec 32 := Scalar.addi v7 c0_i32
  let c64_i32 : BitVec 32 := 64#32
  let v9 : BitVec 32 := Scalar.subi v8 c64_i32
  let v10 : BitVec 32 := Scalar.maxsi c0_i32_4 v9
  let v11 : BitVec 32 := Scalar.minsi c768_i32 v10
  let v12 : BitVec 32 := v11
  let v18 : Index := Scalar.indexCast v12
  let c128_10 : Index := 128#32
  ![v18.toNat, 128]
def k0_off3 (i : grid0.Coords) (c0_i32 : BitVec 32) : Fin 2 → Nat :=
  let c768_i32 : BitVec 32 := 768#32
  let c0_i32_4 : BitVec 32 := 0#32
  let arg1 : BitVec 32 := BitVec.ofNat 32 (i 1).val
  let c1024_i32 : BitVec 32 := 1024#32
  let v7 : BitVec 32 := Scalar.muli arg1 c1024_i32
  let v8 : BitVec 32 := Scalar.addi v7 c0_i32
  let c64_i32 : BitVec 32 := 64#32
  let v9 : BitVec 32 := Scalar.subi v8 c64_i32
  let v10 : BitVec 32 := Scalar.maxsi c0_i32_4 v9
  let v11 : BitVec 32 := Scalar.minsi c768_i32 v10
  let v12 : BitVec 32 := v11
  let v22 : Index := Scalar.indexCast v12
  let c256_13 : Index := 256#32
  ![v22.toNat, 256]
def k0_off4 (i : grid0.Coords) (c0_i32 : BitVec 32) : Fin 2 → Nat :=
  let c768_i32 : BitVec 32 := 768#32
  let c0_i32_4 : BitVec 32 := 0#32
  let arg1 : BitVec 32 := BitVec.ofNat 32 (i 1).val
  let c1024_i32 : BitVec 32 := 1024#32
  let v7 : BitVec 32 := Scalar.muli arg1 c1024_i32
  let v8 : BitVec 32 := Scalar.addi v7 c0_i32
  let c64_i32 : BitVec 32 := 64#32
  let v9 : BitVec 32 := Scalar.subi v8 c64_i32
  let v10 : BitVec 32 := Scalar.maxsi c0_i32_4 v9
  let v11 : BitVec 32 := Scalar.minsi c768_i32 v10
  let v12 : BitVec 32 := v11
  let v26 : Index := Scalar.indexCast v12
  let c384_16 : Index := 384#32
  ![v26.toNat, 384]
def k0_off5 (i : grid0.Coords) (c0_i32 : BitVec 32) : Fin 2 → Nat :=
  let c768_i32 : BitVec 32 := 768#32
  let c0_i32_4 : BitVec 32 := 0#32
  let arg1 : BitVec 32 := BitVec.ofNat 32 (i 1).val
  let c1024_i32 : BitVec 32 := 1024#32
  let v7 : BitVec 32 := Scalar.muli arg1 c1024_i32
  let v8 : BitVec 32 := Scalar.addi v7 c0_i32
  let c64_i32 : BitVec 32 := 64#32
  let v9 : BitVec 32 := Scalar.subi v8 c64_i32
  let v10 : BitVec 32 := Scalar.maxsi c0_i32_4 v9
  let v11 : BitVec 32 := Scalar.minsi c768_i32 v10
  let v12 : BitVec 32 := v11
  let v30 : Index := Scalar.indexCast v12
  let c512_19 : Index := 512#32
  ![v30.toNat, 512]
def k0_off6 (i : grid0.Coords) (c0_i32 : BitVec 32) : Fin 2 → Nat :=
  let c768_i32 : BitVec 32 := 768#32
  let c0_i32_4 : BitVec 32 := 0#32
  let arg1 : BitVec 32 := BitVec.ofNat 32 (i 1).val
  let c1024_i32 : BitVec 32 := 1024#32
  let v7 : BitVec 32 := Scalar.muli arg1 c1024_i32
  let v8 : BitVec 32 := Scalar.addi v7 c0_i32
  let c64_i32 : BitVec 32 := 64#32
  let v9 : BitVec 32 := Scalar.subi v8 c64_i32
  let v10 : BitVec 32 := Scalar.maxsi c0_i32_4 v9
  let v11 : BitVec 32 := Scalar.minsi c768_i32 v10
  let v12 : BitVec 32 := v11
  let v34 : Index := Scalar.indexCast v12
  let c640_22 : Index := 640#32
  ![v34.toNat, 640]
def k0_off7 (i : grid0.Coords) (c0_i32 : BitVec 32) : Fin 2 → Nat :=
  let c768_i32 : BitVec 32 := 768#32
  let c0_i32_4 : BitVec 32 := 0#32
  let arg1 : BitVec 32 := BitVec.ofNat 32 (i 1).val
  let c1024_i32 : BitVec 32 := 1024#32
  let v7 : BitVec 32 := Scalar.muli arg1 c1024_i32
  let v8 : BitVec 32 := Scalar.addi v7 c0_i32
  let c64_i32 : BitVec 32 := 64#32
  let v9 : BitVec 32 := Scalar.subi v8 c64_i32
  let v10 : BitVec 32 := Scalar.maxsi c0_i32_4 v9
  let v11 : BitVec 32 := Scalar.minsi c768_i32 v10
  let v12 : BitVec 32 := v11
  let v38 : Index := Scalar.indexCast v12
  let c768_25 : Index := 768#32
  ![v38.toNat, 768]
def k0_off8 (i : grid0.Coords) (c0_i32 : BitVec 32) : Fin 2 → Nat :=
  let c768_i32 : BitVec 32 := 768#32
  let c0_i32_4 : BitVec 32 := 0#32
  let arg1 : BitVec 32 := BitVec.ofNat 32 (i 1).val
  let c1024_i32 : BitVec 32 := 1024#32
  let v7 : BitVec 32 := Scalar.muli arg1 c1024_i32
  let v8 : BitVec 32 := Scalar.addi v7 c0_i32
  let c64_i32 : BitVec 32 := 64#32
  let v9 : BitVec 32 := Scalar.subi v8 c64_i32
  let v10 : BitVec 32 := Scalar.maxsi c0_i32_4 v9
  let v11 : BitVec 32 := Scalar.minsi c768_i32 v10
  let v12 : BitVec 32 := v11
  let v42 : Index := Scalar.indexCast v12
  let c896_28 : Index := 896#32
  ![v42.toNat, 896]
def k0_mult2 (i : grid0.Coords) : BitVec 32 :=
  let c768_i32_131 : BitVec 32 := 768#32
  let c0_i32_130 : BitVec 32 := 0#32
  let arg1 : BitVec 32 := BitVec.ofNat 32 (i 1).val
  let c1024_i32_128 : BitVec 32 := 1024#32
  let v219 : BitVec 32 := Scalar.muli arg1 c1024_i32_128
  let c128_i32 : BitVec 32 := 128#32
  let v220 : BitVec 32 := Scalar.addi v219 c128_i32
  let c64_i32_129 : BitVec 32 := 64#32
  let v221 : BitVec 32 := Scalar.subi v220 c64_i32_129
  let v222 : BitVec 32 := Scalar.maxsi c0_i32_130 v221
  let v223 : BitVec 32 := Scalar.minsi c768_i32_131 v222
  v223
def k0_mult3 (i : grid0.Coords) : BitVec 32 :=
  let c768_i32_272 : BitVec 32 := 768#32
  let c0_i32_271 : BitVec 32 := 0#32
  let arg1 : BitVec 32 := BitVec.ofNat 32 (i 1).val
  let c1024_i32_269 : BitVec 32 := 1024#32
  let v431 : BitVec 32 := Scalar.muli arg1 c1024_i32_269
  let c256_i32 : BitVec 32 := 256#32
  let v432 : BitVec 32 := Scalar.addi v431 c256_i32
  let c64_i32_270 : BitVec 32 := 64#32
  let v433 : BitVec 32 := Scalar.subi v432 c64_i32_270
  let v434 : BitVec 32 := Scalar.maxsi c0_i32_271 v433
  let v435 : BitVec 32 := Scalar.minsi c768_i32_272 v434
  v435
def k0_mult4 (i : grid0.Coords) : BitVec 32 :=
  let c768_i32_413 : BitVec 32 := 768#32
  let c0_i32_412 : BitVec 32 := 0#32
  let arg1 : BitVec 32 := BitVec.ofNat 32 (i 1).val
  let c1024_i32_410 : BitVec 32 := 1024#32
  let v643 : BitVec 32 := Scalar.muli arg1 c1024_i32_410
  let c384_i32 : BitVec 32 := 384#32
  let v644 : BitVec 32 := Scalar.addi v643 c384_i32
  let c64_i32_411 : BitVec 32 := 64#32
  let v645 : BitVec 32 := Scalar.subi v644 c64_i32_411
  let v646 : BitVec 32 := Scalar.maxsi c0_i32_412 v645
  let v647 : BitVec 32 := Scalar.minsi c768_i32_413 v646
  v647
def k0_mult5 (i : grid0.Coords) : BitVec 32 :=
  let c768_i32_554 : BitVec 32 := 768#32
  let c0_i32_553 : BitVec 32 := 0#32
  let arg1 : BitVec 32 := BitVec.ofNat 32 (i 1).val
  let c1024_i32_551 : BitVec 32 := 1024#32
  let v855 : BitVec 32 := Scalar.muli arg1 c1024_i32_551
  let c512_i32 : BitVec 32 := 512#32
  let v856 : BitVec 32 := Scalar.addi v855 c512_i32
  let c64_i32_552 : BitVec 32 := 64#32
  let v857 : BitVec 32 := Scalar.subi v856 c64_i32_552
  let v858 : BitVec 32 := Scalar.maxsi c0_i32_553 v857
  let v859 : BitVec 32 := Scalar.minsi c768_i32_554 v858
  v859
def k0_mult6 (i : grid0.Coords) : BitVec 32 :=
  let c768_i32_695 : BitVec 32 := 768#32
  let c0_i32_694 : BitVec 32 := 0#32
  let arg1 : BitVec 32 := BitVec.ofNat 32 (i 1).val
  let c1024_i32_692 : BitVec 32 := 1024#32
  let v1067 : BitVec 32 := Scalar.muli arg1 c1024_i32_692
  let c640_i32 : BitVec 32 := 640#32
  let v1068 : BitVec 32 := Scalar.addi v1067 c640_i32
  let c64_i32_693 : BitVec 32 := 64#32
  let v1069 : BitVec 32 := Scalar.subi v1068 c64_i32_693
  let v1070 : BitVec 32 := Scalar.maxsi c0_i32_694 v1069
  let v1071 : BitVec 32 := Scalar.minsi c768_i32_695 v1070
  v1071
def k0_mult7 (i : grid0.Coords) : BitVec 32 :=
  let c768_i32_837 : BitVec 32 := 768#32
  let c0_i32_836 : BitVec 32 := 0#32
  let arg1 : BitVec 32 := BitVec.ofNat 32 (i 1).val
  let c1024_i32_833 : BitVec 32 := 1024#32
  let v1279 : BitVec 32 := Scalar.muli arg1 c1024_i32_833
  let c768_i32_834 : BitVec 32 := 768#32
  let v1280 : BitVec 32 := Scalar.addi v1279 c768_i32_834
  let c64_i32_835 : BitVec 32 := 64#32
  let v1281 : BitVec 32 := Scalar.subi v1280 c64_i32_835
  let v1282 : BitVec 32 := Scalar.maxsi c0_i32_836 v1281
  let v1283 : BitVec 32 := Scalar.minsi c768_i32_837 v1282
  v1283
def k0_mult8 (i : grid0.Coords) : BitVec 32 :=
  let c768_i32_978 : BitVec 32 := 768#32
  let c0_i32_977 : BitVec 32 := 0#32
  let arg1 : BitVec 32 := BitVec.ofNat 32 (i 1).val
  let c1024_i32_975 : BitVec 32 := 1024#32
  let v1491 : BitVec 32 := Scalar.muli arg1 c1024_i32_975
  let c896_i32 : BitVec 32 := 896#32
  let v1492 : BitVec 32 := Scalar.addi v1491 c896_i32
  let c64_i32_976 : BitVec 32 := 64#32
  let v1493 : BitVec 32 := Scalar.subi v1492 c64_i32_976
  let v1494 : BitVec 32 := Scalar.maxsi c0_i32_977 v1493
  let v1495 : BitVec 32 := Scalar.minsi c768_i32_978 v1494
  v1495
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnBIdeal.lean ====
variable {F : FTy → Type} [FloatOps F] [Named F]
def κ : String → Option EReal := fun
  | "mask" => some ⊥
  | "scale" => some (((Real.sqrt 128)⁻¹ : ℝ) : EReal)
  | "scale_log2e" => some ((((Real.sqrt 128) * (Real.log 2))⁻¹ : ℝ) : EReal)
  | _ => none
-- ==== AttnBRefIdeal.lean ====
abbrev S8192x3072 : Shape := ⟨2, ![8192, 3072]⟩
abbrev S8x1024x3x8x128 : Shape := ⟨5, ![8, 1024, 3, 8, 128]⟩
abbrev S8x1024x1x8x128 : Shape := ⟨5, ![8, 1024, 1, 8, 128]⟩
abbrev S8x1024x8x128 : Shape := ⟨4, ![8, 1024, 8, 128]⟩
abbrev S_ : Shape := ⟨0, ![]⟩
abbrev S8x8x1024x1024 : Shape := ⟨4, ![8, 8, 1024, 1024]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S8x8x1024 : Shape := ⟨3, ![8, 8, 1024]⟩
abbrev S8x8x1024x1 : Shape := ⟨4, ![8, 8, 1024, 1]⟩
abbrev S8x8x128x1024 : Shape := ⟨4, ![8, 8, 128, 1024]⟩
abbrev S8192x1024 : Shape := ⟨2, ![8192, 1024]⟩
abbrev S8x1024x8 : Shape := ⟨3, ![8, 1024, 8]⟩
abbrev S8192x8 : Shape := ⟨2, ![8192, 8]⟩
abbrev S8192x128 : Shape := ⟨2, ![8192, 128]⟩

abbrev nBuf : Space → Nat
  | .hbm => 53
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .f32⟩
  | .hbm, ⟨2, _⟩ => ⟨S8x1024x3x8x128, .f32⟩
  | .hbm, ⟨3, _⟩ => ⟨S8x1024x1x8x128, .f32⟩
  | .hbm, ⟨4, _⟩ => ⟨S8x1024x1x8x128, .f32⟩
  | .hbm, ⟨5, _⟩ => ⟨S8x1024x1x8x128, .f32⟩
  | .hbm, ⟨6, _⟩ => ⟨S8x1024x8x128, .f32⟩
  | .hbm, ⟨7, _⟩ => ⟨S8x1024x8x128, .f32⟩
  | .hbm, ⟨8, _⟩ => ⟨S8x1024x8x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x8x1024x1024, .f32⟩
  | .hbm, ⟨14, _⟩ => ⟨S8x8x1024x1024, .f32⟩
  | .hbm, ⟨15, _⟩ => ⟨S8x8x1024x1024, .f32⟩
  | .hbm, ⟨16, _⟩ => ⟨S1024, .i32⟩
  | .hbm, ⟨17, _⟩ => ⟨S1024x1, .i32⟩
  | .hbm, ⟨18, _⟩ => ⟨S1x1024, .i32⟩
  | .hbm, ⟨19, _⟩ => ⟨S1024x1024, .i32⟩
  | .hbm, ⟨20, _⟩ => ⟨S1024x1024, .i32⟩
  | .hbm, ⟨21, _⟩ => ⟨S1024x1024, .i32⟩
  | .hbm, ⟨22, _⟩ => ⟨S1024x1024, .i32⟩
  | .hbm, ⟨23, _⟩ => ⟨S_, .i32⟩
  | .hbm, ⟨24, _⟩ => ⟨S1024x1024, .i32⟩
  | .hbm, ⟨25, _⟩ => ⟨S1024x1024, .i1⟩
  | .hbm, ⟨26, _⟩ => ⟨S_, .f32⟩
  | .hbm, ⟨27, _⟩ => ⟨S_, .f32⟩
  | .hbm, ⟨28, _⟩ => ⟨S8x8x1024x1024, .i1⟩
  | .hbm, ⟨29, _⟩ => ⟨S8x8x1024x1024, .f32⟩
  | .hbm, ⟨30, _⟩ => ⟨S8x8x1024x1024, .f32⟩
  | .hbm, ⟨31, _⟩ => ⟨S_, .f32⟩
  | .hbm, ⟨32, _⟩ => ⟨S8x8x1024, .f32⟩
  | .hbm, ⟨33, _⟩ => ⟨S8x8x1024x1, .f32⟩
  | .hbm, ⟨34, _⟩ => ⟨S8x8x1024x1024, .f32⟩
  | .hbm, ⟨35, _⟩ => ⟨S8x8x1024x1024, .f32⟩
  | .hbm, ⟨36, _⟩ => ⟨S8x8x1024x1024, .f32⟩
  | .hbm, ⟨37, _⟩ => ⟨S_, .f32⟩
  | .hbm, ⟨38, _⟩ => ⟨S8x8x1024, .f32⟩
  | .hbm, ⟨39, _⟩ => ⟨S8x8x128x1024, .f32⟩
  | .hbm, ⟨40, _⟩ => ⟨S8x1024x8x128, .f32⟩
  | .hbm, ⟨41, _⟩ => ⟨S8192x1024, .f32⟩
  | .hbm, ⟨42, _⟩ => ⟨S8192x1024, .bf16⟩
  | .hbm, ⟨43, _⟩ => ⟨S8x1024x8, .f32⟩
  | .hbm, ⟨44, _⟩ => ⟨S8192x8, .f32⟩
  | .hbm, ⟨45, _⟩ => ⟨S_, .i32⟩
  | .hbm, ⟨46, _⟩ => ⟨S_, .f32⟩
  | .hbm, ⟨47, _⟩ => ⟨S8192x128, .f32⟩
  | .hbm, ⟨48, _⟩ => ⟨S8x1024x8, .f32⟩
  | .hbm, ⟨49, _⟩ => ⟨S8192x8, .f32⟩
  | .hbm, ⟨50, _⟩ => ⟨S_, .i32⟩
  | .hbm, ⟨51, _⟩ => ⟨S_, .f32⟩
  | .hbm, ⟨52, _⟩ => ⟨S8192x128, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_call1_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_5 : Ref sig .tc := ⟨.hbm, 50, rfl⟩
abbrev main_call2_v0 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== AttnC.lean ====
abbrev S8192x3072 : Shape := ⟨2, ![8192, 3072]⟩
abbrev S8192x1024 : Shape := ⟨2, ![8192, 1024]⟩
abbrev S8192x128 : Shape := ⟨2, ![8192, 128]⟩
abbrev S1024x1024 : Shape := ⟨2, ![1024, 1024]⟩
abbrev S1024x128 : Shape := ⟨2, ![1024, 128]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩

abbrev nBuf : Space → Nat
  | .hbm => 4
  | .vmem => 12
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x128, .f32⟩
  | .hbm, ⟨3, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== AttnCIdeal.lean ====
variable {F : FTy → Type} [FloatOps F] [Named F]
def κ : String → Option EReal := fun
  | "mask" => some ⊥
  | "scale" => some (((Real.sqrt 128)⁻¹ : ℝ) : EReal)
  | "scale_log2e" => some ((((Real.sqrt 128) * (Real.log 2))⁻¹ : ℝ) : EReal)
  | _ => none
-- ==== AttnCRefIdeal.lean ====
abbrev S8192x3072 : Shape := ⟨2, ![8192, 3072]⟩
abbrev S32x256x3x8x128 : Shape := ⟨5, ![32, 256, 3, 8, 128]⟩
abbrev S32x256x1x8x128 : Shape := ⟨5, ![32, 256, 1, 8, 128]⟩
abbrev S32x256x8x128 : Shape := ⟨4, ![32, 256, 8, 128]⟩
abbrev S_ : Shape := ⟨0, ![]⟩
abbrev S32x8x256x256 : Shape := ⟨4, ![32, 8, 256, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S32x8x256 : Shape := ⟨3, ![32, 8, 256]⟩
abbrev S32x8x256x1 : Shape := ⟨4, ![32, 8, 256, 1]⟩
abbrev S32x8x128x256 : Shape := ⟨4, ![32, 8, 128, 256]⟩
abbrev S8192x1024 : Shape := ⟨2, ![8192, 1024]⟩
abbrev S32x256x8 : Shape := ⟨3, ![32, 256, 8]⟩
abbrev S8192x8 : Shape := ⟨2, ![8192, 8]⟩
abbrev S8192x128 : Shape := ⟨2, ![8192, 128]⟩

abbrev nBuf : Space → Nat
  | .hbm => 53
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .f32⟩
  | .hbm, ⟨2, _⟩ => ⟨S32x256x3x8x128, .f32⟩
  | .hbm, ⟨3, _⟩ => ⟨S32x256x1x8x128, .f32⟩
  | .hbm, ⟨4, _⟩ => ⟨S32x256x1x8x128, .f32⟩
  | .hbm, ⟨5, _⟩ => ⟨S32x256x1x8x128, .f32⟩
  | .hbm, ⟨6, _⟩ => ⟨S32x256x8x128, .f32⟩
  | .hbm, ⟨7, _⟩ => ⟨S32x256x8x128, .f32⟩
  | .hbm, ⟨8, _⟩ => ⟨S32x256x8x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S32x8x256x256, .f32⟩
  | .hbm, ⟨14, _⟩ => ⟨S32x8x256x256, .f32⟩
  | .hbm, ⟨15, _⟩ => ⟨S32x8x256x256, .f32⟩
  | .hbm, ⟨16, _⟩ => ⟨S256, .i32⟩
  | .hbm, ⟨17, _⟩ => ⟨S256x1, .i32⟩
  | .hbm, ⟨18, _⟩ => ⟨S1x256, .i32⟩
  | .hbm, ⟨19, _⟩ => ⟨S256x256, .i32⟩
  | .hbm, ⟨20, _⟩ => ⟨S256x256, .i32⟩
  | .hbm, ⟨21, _⟩ => ⟨S256x256, .i32⟩
  | .hbm, ⟨22, _⟩ => ⟨S256x256, .i32⟩
  | .hbm, ⟨23, _⟩ => ⟨S_, .i32⟩
  | .hbm, ⟨24, _⟩ => ⟨S256x256, .i32⟩
  | .hbm, ⟨25, _⟩ => ⟨S256x256, .i1⟩
  | .hbm, ⟨26, _⟩ => ⟨S_, .f32⟩
  | .hbm, ⟨27, _⟩ => ⟨S_, .f32⟩
  | .hbm, ⟨28, _⟩ => ⟨S32x8x256x256, .i1⟩
  | .hbm, ⟨29, _⟩ => ⟨S32x8x256x256, .f32⟩
  | .hbm, ⟨30, _⟩ => ⟨S32x8x256x256, .f32⟩
  | .hbm, ⟨31, _⟩ => ⟨S_, .f32⟩
  | .hbm, ⟨32, _⟩ => ⟨S32x8x256, .f32⟩
  | .hbm, ⟨33, _⟩ => ⟨S32x8x256x1, .f32⟩
  | .hbm, ⟨34, _⟩ => ⟨S32x8x256x256, .f32⟩
  | .hbm, ⟨35, _⟩ => ⟨S32x8x256x256, .f32⟩
  | .hbm, ⟨36, _⟩ => ⟨S32x8x256x256, .f32⟩
  | .hbm, ⟨37, _⟩ => ⟨S_, .f32⟩
  | .hbm, ⟨38, _⟩ => ⟨S32x8x256, .f32⟩
  | .hbm, ⟨39, _⟩ => ⟨S32x8x128x256, .f32⟩
  | .hbm, ⟨40, _⟩ => ⟨S32x256x8x128, .f32⟩
  | .hbm, ⟨41, _⟩ => ⟨S8192x1024, .f32⟩
  | .hbm, ⟨42, _⟩ => ⟨S8192x1024, .bf16⟩
  | .hbm, ⟨43, _⟩ => ⟨S32x256x8, .f32⟩
  | .hbm, ⟨44, _⟩ => ⟨S8192x8, .f32⟩
  | .hbm, ⟨45, _⟩ => ⟨S_, .i32⟩
  | .hbm, ⟨46, _⟩ => ⟨S_, .f32⟩
  | .hbm, ⟨47, _⟩ => ⟨S8192x128, .f32⟩
  | .hbm, ⟨48, _⟩ => ⟨S32x256x8, .f32⟩
  | .hbm, ⟨49, _⟩ => ⟨S8192x8, .f32⟩
  | .hbm, ⟨50, _⟩ => ⟨S_, .i32⟩
  | .hbm, ⟨51, _⟩ => ⟨S_, .f32⟩
  | .hbm, ⟨52, _⟩ => ⟨S8192x128, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_call1_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_5 : Ref sig .tc := ⟨.hbm, 50, rfl⟩
abbrev main_call2_v0 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Gates.lean ====
abbrev S8192x4096 : Shape := ⟨2, ![8192, 4096]⟩
abbrev S4096x25600 : Shape := ⟨2, ![4096, 25600]⟩
abbrev S8192x8192 : Shape := ⟨2, ![8192, 8192]⟩
abbrev S1024x4096 : Shape := ⟨2, ![1024, 4096]⟩
abbrev S4096x1024 : Shape := ⟨2, ![4096, 1024]⟩
abbrev S1024x1024 : Shape := ⟨2, ![1024, 1024]⟩
abbrev S128x4096 : Shape := ⟨2, ![128, 4096]⟩
abbrev S128x1024 : Shape := ⟨2, ![128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x25600, .bf16⟩
  | .hbm, ⟨2, _⟩ => ⟨S8192x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg1
  let c17_i32 : BitVec 32 := 17#32
  let v1 : BitVec 32 := Scalar.addi c17_i32 v0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesRefIdeal.lean ====
abbrev S8192x4096 : Shape := ⟨2, ![8192, 4096]⟩
abbrev S4096x25600 : Shape := ⟨2, ![4096, 25600]⟩
abbrev S8192x25600 : Shape := ⟨2, ![8192, 25600]⟩
abbrev S8192x8192 : Shape := ⟨2, ![8192, 8192]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x25600, .bf16⟩
  | .hbm, ⟨2, _⟩ => ⟨S8192x4096, .f32⟩
  | .hbm, ⟨3, _⟩ => ⟨S4096x25600, .f32⟩
  | .hbm, ⟨4, _⟩ => ⟨S8192x25600, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Uv.lean ====
abbrev S8192x4096 : Shape := ⟨2, ![8192, 4096]⟩
abbrev S4096x25600 : Shape := ⟨2, ![4096, 25600]⟩
abbrev S4096 : Shape := ⟨1, ![4096]⟩
abbrev S1x4096 : Shape := ⟨2, ![1, 4096]⟩
abbrev S8192x8192 : Shape := ⟨2, ![8192, 8192]⟩
abbrev S1024x4096 : Shape := ⟨2, ![1024, 4096]⟩
abbrev S4096x1024 : Shape := ⟨2, ![4096, 1024]⟩
abbrev S128x4096 : Shape := ⟨2, ![128, 4096]⟩
abbrev S1024x1024 : Shape := ⟨2, ![1024, 1024]⟩
abbrev S128 : Shape := ⟨1, ![128]⟩
abbrev S128x1 : Shape := ⟨2, ![128, 1]⟩
abbrev S128x1024 : Shape := ⟨2, ![128, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S4096x25600, .bf16⟩
  | .hbm, ⟨2, _⟩ => ⟨S8192x4096, .f32⟩
  | .hbm, ⟨3, _⟩ => ⟨S4096, .f32⟩
  | .hbm, ⟨4, _⟩ => ⟨S1x4096, .f32⟩
  | .hbm, ⟨5, _⟩ => ⟨S8192x8192, .bf16⟩
  | .hbm, ⟨6, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S1024x1024, .bf16⟩
  | .local _ .vmem, ⟨8, _⟩ => ⟨S1024x1024, .bf16⟩
  | .local _ .vmem, ⟨9, _⟩ => ⟨S128x4096, .f32⟩
  | .local _ .vmem, ⟨10, _⟩ => ⟨S128x4096, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg1
  let c9_i32 : BitVec 32 := 9#32
  let v1 : BitVec 32 := Scalar.addi c9_i32 v0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UvRefIdeal.lean ====
abbrev S8192x4096 : Shape := ⟨2, ![8192, 4096]⟩
abbrev S4096x25600 : Shape := ⟨2, ![4096, 25600]⟩
abbrev S4096 : Shape := ⟨1, ![4096]⟩
abbrev S8192x25600 : Shape := ⟨2, ![8192, 25600]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x25600, .bf16⟩
  | .hbm, ⟨2, _⟩ => ⟨S8192x4096, .f32⟩
  | .hbm, ⟨3, _⟩ => ⟨S4096, .f32⟩
  | .hbm, ⟨4, _⟩ => ⟨S8192x4096, .f32⟩
  | .hbm, ⟨5, _⟩ => ⟨S4096x25600, .f32⟩
  | .hbm, ⟨6, _⟩ => ⟨S8192x25600, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .bf16⟩
  | .hbm, ⟨20, _⟩ => ⟨S8192x4096, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x4096, .f32⟩
  | .hbm, ⟨32, _⟩ => ⟨S8192x4096, .f32⟩
  | .hbm, ⟨33, _⟩ => ⟨S1x4096, .f32⟩
  | .hbm, ⟨34, _⟩ => ⟨S8192x4096, .f32⟩
  | .hbm, ⟨35, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Merge.lean ====
abbrev S8192x1024 : Shape := ⟨2, ![8192, 1024]⟩
abbrev S8192x4096 : Shape := ⟨2, ![8192, 4096]⟩
abbrev S8x5120x512 : Shape := ⟨3, ![8, 5120, 512]⟩
abbrev S8192x8192 : Shape := ⟨2, ![8192, 8192]⟩
abbrev S1024x1024 : Shape := ⟨2, ![1024, 1024]⟩
abbrev S1024x4096 : Shape := ⟨2, ![1024, 4096]⟩
abbrev S1x5120x512 : Shape := ⟨3, ![1, 5120, 512]⟩
abbrev S1024x512 : Shape := ⟨2, ![1024, 512]⟩
abbrev S128x1024 : Shape := ⟨2, ![128, 1024]⟩
abbrev S1x1024x512 : Shape := ⟨3, ![1, 1024, 512]⟩
abbrev S128x512 : Shape := ⟨2, ![128, 512]⟩
abbrev S128x4096 : Shape := ⟨2, ![128, 4096]⟩
abbrev S1x4096x512 : Shape := ⟨3, ![1, 4096, 512]⟩
abbrev S4096x512 : Shape := ⟨2, ![4096, 512]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8x5120x512, .bf16⟩
  | .hbm, ⟨3, _⟩ => ⟨S8192x8192, .bf16⟩
  | .hbm, ⟨4, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x4096, .bf16⟩
  | .local _ .vmem, ⟨3, _⟩ => ⟨S1024x4096, .bf16⟩
  | .local _ .vmem, ⟨4, _⟩ => ⟨S1x5120x512, .bf16⟩
  | .local _ .vmem, ⟨5, _⟩ => ⟨S1x5120x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x5120x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MergeRefIdeal.lean ====
abbrev S8192x1024 : Shape := ⟨2, ![8192, 1024]⟩
abbrev S8192x4096 : Shape := ⟨2, ![8192, 4096]⟩
abbrev S8x5120x512 : Shape := ⟨3, ![8, 5120, 512]⟩
abbrev S8192x8192 : Shape := ⟨2, ![8192, 8192]⟩
abbrev S5120x8x512 : Shape := ⟨3, ![5120, 8, 512]⟩
abbrev S5120x4096 : Shape := ⟨2, ![5120, 4096]⟩
abbrev S1024x4096 : Shape := ⟨2, ![1024, 4096]⟩
abbrev S4096x4096 : Shape := ⟨2, ![4096, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8x5120x512, .bf16⟩
  | .hbm, ⟨3, _⟩ => ⟨S8192x8192, .bf16⟩
  | .hbm, ⟨4, _⟩ => ⟨S8x5120x512, .f32⟩
  | .hbm, ⟨5, _⟩ => ⟨S5120x8x512, .f32⟩
  | .hbm, ⟨6, _⟩ => ⟨S5120x4096, .f32⟩
  | .hbm, ⟨7, _⟩ => ⟨S8192x1024, .f32⟩
  | .hbm, ⟨8, _⟩ => ⟨S1024x4096, .f32⟩
  | .hbm, ⟨9, _⟩ => ⟨S8192x4096, .f32⟩
  | .hbm, ⟨10, _⟩ => ⟨S8192x4096, .f32⟩
  | .hbm, ⟨11, _⟩ => ⟨S4096x4096, .f32⟩
  | .hbm, ⟨12, _⟩ => ⟨S8192x4096, .f32⟩
  | .hbm, ⟨13, _⟩ => ⟨S8192x8192, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== OutProj.lean ====
abbrev S8192x4096 : Shape := ⟨2, ![8192, 4096]⟩
abbrev S4x4096x1024 : Shape := ⟨3, ![4, 4096, 1024]⟩
abbrev S4096 : Shape := ⟨1, ![4096]⟩
abbrev S1x4096 : Shape := ⟨2, ![1, 4096]⟩
abbrev S8192x128 : Shape := ⟨2, ![8192, 128]⟩
abbrev S1024x4096 : Shape := ⟨2, ![1024, 4096]⟩
abbrev S1x4096x1024 : Shape := ⟨3, ![1, 4096, 1024]⟩
abbrev S1024x1024 : Shape := ⟨2, ![1024, 1024]⟩
abbrev S1x1024 : Shape := ⟨2, ![1, 1024]⟩
abbrev S1024x128 : Shape := ⟨2, ![1024, 128]⟩
abbrev S128x1024 : Shape := ⟨2, ![128, 1024]⟩
abbrev S128x4096 : Shape := ⟨2, ![128, 4096]⟩
abbrev S4096x1024 : Shape := ⟨2, ![4096, 1024]⟩
abbrev S128x128 : Shape := ⟨2, ![128, 128]⟩
abbrev S128 : Shape := ⟨1, ![128]⟩
abbrev S128x1 : Shape := ⟨2, ![128, 1]⟩

abbrev nBuf : Space → Nat
  | .hbm => 8
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S4x4096x1024, .bf16⟩
  | .hbm, ⟨2, _⟩ => ⟨S8192x4096, .f32⟩
  | .hbm, ⟨3, _⟩ => ⟨S4096, .f32⟩
  | .hbm, ⟨4, _⟩ => ⟨S1x4096, .f32⟩
  | .hbm, ⟨5, _⟩ => ⟨S8192x4096, .f32⟩
  | .hbm, ⟨6, _⟩ => ⟨S8192x4096, .bf16⟩
  | .hbm, ⟨7, _⟩ => ⟨S8192x128, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x128, .f32⟩
  | .local _ .vmem, ⟨13, _⟩ => ⟨S1024x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== OutProjRefIdeal.lean ====
abbrev S8192x4096 : Shape := ⟨2, ![8192, 4096]⟩
abbrev S4x4096x1024 : Shape := ⟨3, ![4, 4096, 1024]⟩
abbrev S4096 : Shape := ⟨1, ![4096]⟩
abbrev S4096x4x1024 : Shape := ⟨3, ![4096, 4, 1024]⟩
abbrev S4096x4096 : Shape := ⟨2, ![4096, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x128 : Shape := ⟨2, ![8192, 128]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x1024, .bf16⟩
  | .hbm, ⟨2, _⟩ => ⟨S8192x4096, .f32⟩
  | .hbm, ⟨3, _⟩ => ⟨S4096, .f32⟩
  | .hbm, ⟨4, _⟩ => ⟨S8192x4096, .f32⟩
  | .hbm, ⟨5, _⟩ => ⟨S4x4096x1024, .f32⟩
  | .hbm, ⟨6, _⟩ => ⟨S4096x4x1024, .f32⟩
  | .hbm, ⟨7, _⟩ => ⟨S4096x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S1x4096, .f32⟩
  | .hbm, ⟨15, _⟩ => ⟨S8192x4096, .f32⟩
  | .hbm, ⟨16, _⟩ => ⟨S8192x4096, .f32⟩
  | .hbm, ⟨17, _⟩ => ⟨S8192x4096, .bf16⟩
  | .hbm, ⟨18, _⟩ => ⟨S8192x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GateUp.lean ====
abbrev S8192x4096 : Shape := ⟨2, ![8192, 4096]⟩
abbrev S8192x128 : Shape := ⟨2, ![8192, 128]⟩
abbrev S4096x11008 : Shape := ⟨2, ![4096, 11008]⟩
abbrev S8192x11008 : Shape := ⟨2, ![8192, 11008]⟩
abbrev S2048x4096 : Shape := ⟨2, ![2048, 4096]⟩
abbrev S2048x128 : Shape := ⟨2, ![2048, 128]⟩
abbrev S4096x256 : Shape := ⟨2, ![4096, 256]⟩
abbrev S2048x256 : Shape := ⟨2, ![2048, 256]⟩
abbrev S128x1 : Shape := ⟨2, ![128, 1]⟩
abbrev S128x4096 : Shape := ⟨2, ![128, 4096]⟩
abbrev S128x256 : Shape := ⟨2, ![128, 256]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S8192x128, .f32⟩
  | .hbm, ⟨2, _⟩ => ⟨S4096x11008, .bf16⟩
  | .hbm, ⟨3, _⟩ => ⟨S4096x11008, .bf16⟩
  | .hbm, ⟨4, _⟩ => ⟨S8192x11008, .bf16⟩
  | .local _ .vmem, ⟨0, _⟩ => ⟨S2048x4096, .bf16⟩
  | .local _ .vmem, ⟨1, _⟩ => ⟨S2048x4096, .bf16⟩
  | .local _ .vmem, ⟨2, _⟩ => ⟨S2048x128, .f32⟩
  | .local _ .vmem, ⟨3, _⟩ => ⟨S2048x128, .f32⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S2048x256, .bf16⟩
  | .local _ .vmem, ⟨9, _⟩ => ⟨S2048x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateUpRefIdeal.lean ====
abbrev S8192x4096 : Shape := ⟨2, ![8192, 4096]⟩
abbrev S8192x128 : Shape := ⟨2, ![8192, 128]⟩
abbrev S4096x11008 : Shape := ⟨2, ![4096, 11008]⟩
abbrev S8192x1 : Shape := ⟨2, ![8192, 1]⟩
abbrev S_ : Shape := ⟨0, ![]⟩
abbrev S8192x11008 : Shape := ⟨2, ![8192, 11008]⟩

abbrev nBuf : Space → Nat
  | .hbm => 30
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x128, .f32⟩
  | .hbm, ⟨2, _⟩ => ⟨S4096x11008, .bf16⟩
  | .hbm, ⟨3, _⟩ => ⟨S4096x11008, .bf16⟩
  | .hbm, ⟨4, _⟩ => ⟨S8192x4096, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S4096x11008, .f32⟩
  | .hbm, ⟨16, _⟩ => ⟨S4096x11008, .f32⟩
  | .hbm, ⟨17, _⟩ => ⟨S8192x11008, .f32⟩
  | .hbm, ⟨18, _⟩ => ⟨S8192x11008, .f32⟩
  | .hbm, ⟨19, _⟩ => ⟨S8192x11008, .f32⟩
  | .hbm, ⟨20, _⟩ => ⟨S_, .f32⟩
  | .hbm, ⟨21, _⟩ => ⟨S8192x11008, .f32⟩
  | .hbm, ⟨22, _⟩ => ⟨S8192x11008, .f32⟩
  | .hbm, ⟨23, _⟩ => ⟨S_, .f32⟩
  | .hbm, ⟨24, _⟩ => ⟨S8192x11008, .f32⟩
  | .hbm, ⟨25, _⟩ => ⟨S8192x11008, .f32⟩
  | .hbm, ⟨26, _⟩ => ⟨S8192x11008, .f32⟩
  | .hbm, ⟨27, _⟩ => ⟨S8192x11008, .f32⟩
  | .hbm, ⟨28, _⟩ => ⟨S8192x11008, .f32⟩
  | .hbm, ⟨29, _⟩ => ⟨S8192x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩

abbrev nD : Nat := 1
abbrev τ : Topo := Topo.v7x

variable {F : FTy → Type} [FloatOps F]
-- ==== Down.lean ====
abbrev S8192x11008 : Shape := ⟨2, ![8192, 11008]⟩
abbrev S8x11008x512 : Shape := ⟨3, ![8, 11008, 512]⟩
abbrev S8192x4096 : Shape := ⟨2, ![8192, 4096]⟩
abbrev S512x11008 : Shape := ⟨2, ![512, 11008]⟩
abbrev S1x11008x512 : Shape := ⟨3, ![1, 11008, 512]⟩
abbrev S512x512 : Shape := ⟨2, ![512, 512]⟩
abbrev S11008x512 : Shape := ⟨2, ![11008, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x11008, .bf16⟩
  | .hbm, ⟨1, _⟩ => ⟨S8x11008x512, .bf16⟩
  | .hbm, ⟨2, _⟩ => ⟨S8192x4096, .f32⟩
  | .hbm, ⟨3, _⟩ => ⟨S8192x4096, .f32⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S8192x11008 : Shape := ⟨2, ![8192, 11008]⟩
abbrev S8x11008x512 : Shape := ⟨3, ![8, 11008, 512]⟩
abbrev S8192x4096 : Shape := ⟨2, ![8192, 4096]⟩
abbrev S11008x8x512 : Shape := ⟨3, ![11008, 8, 512]⟩
abbrev S11008x4096 : Shape := ⟨2, ![11008, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S8x11008x512, .bf16⟩
  | .hbm, ⟨2, _⟩ => ⟨S8192x4096, .f32⟩
  | .hbm, ⟨3, _⟩ => ⟨S8192x11008, .f32⟩
  | .hbm, ⟨4, _⟩ => ⟨S8x11008x512, .f32⟩
  | .hbm, ⟨5, _⟩ => ⟨S11008x8x512, .f32⟩
  | .hbm, ⟨6, _⟩ => ⟨S11008x4096, .f32⟩
  | .hbm, ⟨7, _⟩ => ⟨S8192x4096, .f32⟩
  | .hbm, ⟨8, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Final.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== QkvA.lean ====
abbrev S8192x4096 : Shape := ⟨2, ![8192, 4096]⟩
abbrev S4096x25600 : Shape := ⟨2, ![4096, 25600]⟩
abbrev S4096x16 : Shape := ⟨2, ![4096, 16]⟩
abbrev S_ : Shape := ⟨0, ![]⟩
abbrev S4096x96 : Shape := ⟨2, ![4096, 96]⟩
abbrev S4096x128 : Shape := ⟨2, ![4096, 128]⟩
abbrev S4096x112 : Shape := ⟨2, ![4096, 112]⟩
abbrev S8192x3072 : Shape := ⟨2, ![8192, 3072]⟩
abbrev S1024x4096 : Shape := ⟨2, ![1024, 4096]⟩
abbrev S4096x1024 : Shape := ⟨2, ![4096, 1024]⟩
abbrev S1024x128 : Shape := ⟨2, ![1024, 128]⟩
abbrev S1024x1024 : Shape := ⟨2, ![1024, 1024]⟩
abbrev S128x4096 : Shape := ⟨2, ![128, 4096]⟩
abbrev S128x1024 : Shape := ⟨2, ![128, 1024]⟩
abbrev S128x128 : Shape := ⟨2, ![128, 128]⟩

abbrev nBuf : Space → Nat
  | .hbm => 17
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S4096x25600, .bf16⟩
  | .hbm, ⟨2, _⟩ => ⟨S4096x16, .f32⟩
  | .hbm, ⟨3, _⟩ => ⟨S4096x16, .f32⟩
  | .hbm, ⟨4, _⟩ => ⟨S_, .f32⟩
  | .hbm, ⟨5, _⟩ => ⟨S4096x96, .f32⟩
  | .hbm, ⟨6, _⟩ => ⟨S4096x128, .f32⟩
  | .hbm, ⟨7, _⟩ => ⟨S4096x16, .f32⟩
  | .hbm, ⟨8, _⟩ => ⟨S_, .f32⟩
  | .hbm, ⟨9, _⟩ => ⟨S4096x112, .f32⟩
  | .hbm, ⟨10, _⟩ => ⟨S4096x128, .f32⟩
  | .hbm, ⟨11, _⟩ => ⟨S_, .f32⟩
  | .hbm, ⟨12, _⟩ => ⟨S4096x16, .f32⟩
  | .hbm, ⟨13, _⟩ => ⟨S_, .f32⟩
  | .hbm, ⟨14, _⟩ => ⟨S4096x96, .f32⟩
  | .hbm, ⟨15, _⟩ => ⟨S4096x128, .f32⟩
  | .hbm, ⟨16, _⟩ => ⟨S8192x3072, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QkvARefIdeal.lean ====
abbrev S8192x4096 : Shape := ⟨2, ![8192, 4096]⟩
abbrev S4096x25600 : Shape := ⟨2, ![4096, 25600]⟩
abbrev S4096x16 : Shape := ⟨2, ![4096, 16]⟩
abbrev S4096x9216 : Shape := ⟨2, ![4096, 9216]⟩
abbrev S8192x9216 : Shape := ⟨2, ![8192, 9216]⟩
abbrev S2x4096x9x8x128 : Shape := ⟨5, ![2, 4096, 9, 8, 128]⟩
abbrev S2x4096x1x8x128 : Shape := ⟨5, ![2, 4096, 1, 8, 128]⟩
abbrev S2x4096x8x128 : Shape := ⟨4, ![2, 4096, 8, 128]⟩
abbrev S1x4096x1x16 : Shape := ⟨4, ![1, 4096, 1, 16]⟩
abbrev S2x4096x8x16 : Shape := ⟨4, ![2, 4096, 8, 16]⟩
abbrev S2x4096x8x96 : Shape := ⟨4, ![2, 4096, 8, 96]⟩
abbrev S2x4096x3x8x128 : Shape := ⟨5, ![2, 4096, 3, 8, 128]⟩
abbrev S8192x3072 : Shape := ⟨2, ![8192, 3072]⟩

abbrev nBuf : Space → Nat
  | .hbm => 53
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x25600, .bf16⟩
  | .hbm, ⟨2, _⟩ => ⟨S4096x16, .f32⟩
  | .hbm, ⟨3, _⟩ => ⟨S4096x16, .f32⟩
  | .hbm, ⟨4, _⟩ => ⟨S8192x4096, .f32⟩
  | .hbm, ⟨5, _⟩ => ⟨S4096x25600, .f32⟩
  | .hbm, ⟨6, _⟩ => ⟨S4096x9216, .f32⟩
  | .hbm, ⟨7, _⟩ => ⟨S8192x9216, .f32⟩
  | .hbm, ⟨8, _⟩ => ⟨S2x4096x9x8x128, .f32⟩
  | .hbm, ⟨9, _⟩ => ⟨S2x4096x1x8x128, .f32⟩
  | .hbm, ⟨10, _⟩ => ⟨S2x4096x8x128, .f32⟩
  | .hbm, ⟨11, _⟩ => ⟨S2x4096x1x8x128, .f32⟩
  | .hbm, ⟨12, _⟩ => ⟨S2x4096x8x128, .f32⟩
  | .hbm, ⟨13, _⟩ => ⟨S2x4096x1x8x128, .f32⟩
  | .hbm, ⟨14, _⟩ => ⟨S2x4096x8x128, .f32⟩
  | .hbm, ⟨15, _⟩ => ⟨S1x4096x1x16, .f32⟩
  | .hbm, ⟨16, _⟩ => ⟨S1x4096x1x16, .f32⟩
  | .hbm, ⟨17, _⟩ => ⟨S2x4096x8x16, .f32⟩
  | .hbm, ⟨18, _⟩ => ⟨S2x4096x8x16, .f32⟩
  | .hbm, ⟨19, _⟩ => ⟨S2x4096x8x16, .f32⟩
  | .hbm, ⟨20, _⟩ => ⟨S2x4096x8x16, .f32⟩
  | .hbm, ⟨21, _⟩ => ⟨S2x4096x8x16, .f32⟩
  | .hbm, ⟨22, _⟩ => ⟨S2x4096x8x16, .f32⟩
  | .hbm, ⟨23, _⟩ => ⟨S2x4096x8x16, .f32⟩
  | .hbm, ⟨24, _⟩ => ⟨S2x4096x8x16, .f32⟩
  | .hbm, ⟨25, _⟩ => ⟨S2x4096x8x16, .f32⟩
  | .hbm, ⟨26, _⟩ => ⟨S2x4096x8x16, .f32⟩
  | .hbm, ⟨27, _⟩ => ⟨S2x4096x8x16, .f32⟩
  | .hbm, ⟨28, _⟩ => ⟨S2x4096x8x16, .f32⟩
  | .hbm, ⟨29, _⟩ => ⟨S2x4096x8x96, .f32⟩
  | .hbm, ⟨30, _⟩ => ⟨S2x4096x8x128, .f32⟩
  | .hbm, ⟨31, _⟩ => ⟨S1x4096x1x16, .f32⟩
  | .hbm, ⟨32, _⟩ => ⟨S1x4096x1x16, .f32⟩
  | .hbm, ⟨33, _⟩ => ⟨S2x4096x8x16, .f32⟩
  | .hbm, ⟨34, _⟩ => ⟨S2x4096x8x16, .f32⟩
  | .hbm, ⟨35, _⟩ => ⟨S2x4096x8x16, .f32⟩
  | .hbm, ⟨36, _⟩ => ⟨S2x4096x8x16, .f32⟩
  | .hbm, ⟨37, _⟩ => ⟨S2x4096x8x16, .f32⟩
  | .hbm, ⟨38, _⟩ => ⟨S2x4096x8x16, .f32⟩
  | .hbm, ⟨39, _⟩ => ⟨S2x4096x8x16, .f32⟩
  | .hbm, ⟨40, _⟩ => ⟨S2x4096x8x16, .f32⟩
  | .hbm, ⟨41, _⟩ => ⟨S2x4096x8x16, .f32⟩
  | .hbm, ⟨42, _⟩ => ⟨S2x4096x8x16, .f32⟩
  | .hbm, ⟨43, _⟩ => ⟨S2x4096x8x16, .f32⟩
  | .hbm, ⟨44, _⟩ => ⟨S2x4096x8x16, .f32⟩
  | .hbm, ⟨45, _⟩ => ⟨S2x4096x8x96, .f32⟩
  | .hbm, ⟨46, _⟩ => ⟨S2x4096x8x128, .f32⟩
  | .hbm, ⟨47, _⟩ => ⟨S2x4096x1x8x128, .f32⟩
  | .hbm, ⟨48, _⟩ => ⟨S2x4096x1x8x128, .f32⟩
  | .hbm, ⟨49, _⟩ => ⟨S2x4096x1x8x128, .f32⟩
  | .hbm, ⟨50, _⟩ => ⟨S2x4096x3x8x128, .f32⟩
  | .hbm, ⟨51, _⟩ => ⟨S8192x3072, .f32⟩
  | .hbm, ⟨52, _⟩ => ⟨S8192x3072, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩

abbrev nD : Nat := 1
abbrev τ : Topo := Topo.v7x

variable {F : FTy → Type} [FloatOps F]
-- ==== QkvB.lean ====
abbrev S8192x4096 : Shape := ⟨2, ![8192, 4096]⟩
abbrev S4096x25600 : Shape := ⟨2, ![4096, 25600]⟩
abbrev S4096x16 : Shape := ⟨2, ![4096, 16]⟩
abbrev S_ : Shape := ⟨0, ![]⟩
abbrev S4096x96 : Shape := ⟨2, ![4096, 96]⟩
abbrev S4096x128 : Shape := ⟨2, ![4096, 128]⟩
abbrev S4096x112 : Shape := ⟨2, ![4096, 112]⟩
abbrev S8192x3072 : Shape := ⟨2, ![8192, 3072]⟩
abbrev S1024x4096 : Shape := ⟨2, ![1024, 4096]⟩
abbrev S4096x1024 : Shape := ⟨2, ![4096, 1024]⟩
abbrev S1024x128 : Shape := ⟨2, ![1024, 128]⟩
abbrev S1024x1024 : Shape := ⟨2, ![1024, 1024]⟩
abbrev S128x4096 : Shape := ⟨2, ![128, 4096]⟩
abbrev S128x1024 : Shape := ⟨2, ![128, 1024]⟩
abbrev S128x128 : Shape := ⟨2, ![128, 128]⟩

abbrev nBuf : Space → Nat
  | .hbm => 17
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S4096x25600, .bf16⟩
  | .hbm, ⟨2, _⟩ => ⟨S4096x16, .f32⟩
  | .hbm, ⟨3, _⟩ => ⟨S4096x16, .f32⟩
  | .hbm, ⟨4, _⟩ => ⟨S_, .f32⟩
  | .hbm, ⟨5, _⟩ => ⟨S4096x96, .f32⟩
  | .hbm, ⟨6, _⟩ => ⟨S4096x128, .f32⟩
  | .hbm, ⟨7, _⟩ => ⟨S4096x16, .f32⟩
  | .hbm, ⟨8, _⟩ => ⟨S_, .f32⟩
  | .hbm, ⟨9, _⟩ => ⟨S4096x112, .f32⟩
  | .hbm, ⟨10, _⟩ => ⟨S4096x128, .f32⟩
  | .hbm, ⟨11, _⟩ => ⟨S_, .f32⟩
  | .hbm, ⟨12, _⟩ => ⟨S4096x16, .f32⟩
  | .hbm, ⟨13, _⟩ => ⟨S_, .f32⟩
  | .hbm, ⟨14, _⟩ => ⟨S4096x96, .f32⟩
  | .hbm, ⟨15, _⟩ => ⟨S4096x128, .f32⟩
  | .hbm, ⟨16, _⟩ => ⟨S8192x3072, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c1_i32 : BitVec 32 := 1#32
  let v1 : BitVec 32 := Scalar.addi c1_i32 v0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QkvBRefIdeal.lean ====
abbrev S8192x4096 : Shape := ⟨2, ![8192, 4096]⟩
abbrev S4096x25600 : Shape := ⟨2, ![4096, 25600]⟩
abbrev S4096x16 : Shape := ⟨2, ![4096, 16]⟩
abbrev S4096x9216 : Shape := ⟨2, ![4096, 9216]⟩
abbrev S8192x9216 : Shape := ⟨2, ![8192, 9216]⟩
abbrev S2x4096x9x8x128 : Shape := ⟨5, ![2, 4096, 9, 8, 128]⟩
abbrev S2x4096x1x8x128 : Shape := ⟨5, ![2, 4096, 1, 8, 128]⟩
abbrev S2x4096x8x128 : Shape := ⟨4, ![2, 4096, 8, 128]⟩
abbrev S1x4096x1x16 : Shape := ⟨4, ![1, 4096, 1, 16]⟩
abbrev S2x4096x8x16 : Shape := ⟨4, ![2, 4096, 8, 16]⟩
abbrev S2x4096x8x96 : Shape := ⟨4, ![2, 4096, 8, 96]⟩
abbrev S2x4096x3x8x128 : Shape := ⟨5, ![2, 4096, 3, 8, 128]⟩
abbrev S8192x3072 : Shape := ⟨2, ![8192, 3072]⟩

abbrev nBuf : Space → Nat
  | .hbm => 53
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x25600, .bf16⟩
  | .hbm, ⟨2, _⟩ => ⟨S4096x16, .f32⟩
  | .hbm, ⟨3, _⟩ => ⟨S4096x16, .f32⟩
  | .hbm, ⟨4, _⟩ => ⟨S8192x4096, .f32⟩
  | .hbm, ⟨5, _⟩ => ⟨S4096x25600, .f32⟩
  | .hbm, ⟨6, _⟩ => ⟨S4096x9216, .f32⟩
  | .hbm, ⟨7, _⟩ => ⟨S8192x9216, .f32⟩
  | .hbm, ⟨8, _⟩ => ⟨S2x4096x9x8x128, .f32⟩
  | .hbm, ⟨9, _⟩ => ⟨S2x4096x1x8x128, .f32⟩
  | .hbm, ⟨10, _⟩ => ⟨S2x4096x8x128, .f32⟩
  | .hbm, ⟨11, _⟩ => ⟨S2x4096x1x8x128, .f32⟩
  | .hbm, ⟨12, _⟩ => ⟨S2x4096x8x128, .f32⟩
  | .hbm, ⟨13, _⟩ => ⟨S2x4096x1x8x128, .f32⟩
  | .hbm, ⟨14, _⟩ => ⟨S2x4096x8x128, .f32⟩
  | .hbm, ⟨15, _⟩ => ⟨S1x4096x1x16, .f32⟩
  | .hbm, ⟨16, _⟩ => ⟨S1x4096x1x16, .f32⟩
  | .hbm, ⟨17, _⟩ => ⟨S2x4096x8x16, .f32⟩
  | .hbm, ⟨18, _⟩ => ⟨S2x4096x8x16, .f32⟩
  | .hbm, ⟨19, _⟩ => ⟨S2x4096x8x16, .f32⟩
  | .hbm, ⟨20, _⟩ => ⟨S2x4096x8x16, .f32⟩
  | .hbm, ⟨21, _⟩ => ⟨S2x4096x8x16, .f32⟩
  | .hbm, ⟨22, _⟩ => ⟨S2x4096x8x16, .f32⟩
  | .hbm, ⟨23, _⟩ => ⟨S2x4096x8x16, .f32⟩
  | .hbm, ⟨24, _⟩ => ⟨S2x4096x8x16, .f32⟩
  | .hbm, ⟨25, _⟩ => ⟨S2x4096x8x16, .f32⟩
  | .hbm, ⟨26, _⟩ => ⟨S2x4096x8x16, .f32⟩
  | .hbm, ⟨27, _⟩ => ⟨S2x4096x8x16, .f32⟩
  | .hbm, ⟨28, _⟩ => ⟨S2x4096x8x16, .f32⟩
  | .hbm, ⟨29, _⟩ => ⟨S2x4096x8x96, .f32⟩
  | .hbm, ⟨30, _⟩ => ⟨S2x4096x8x128, .f32⟩
  | .hbm, ⟨31, _⟩ => ⟨S1x4096x1x16, .f32⟩
  | .hbm, ⟨32, _⟩ => ⟨S1x4096x1x16, .f32⟩
  | .hbm, ⟨33, _⟩ => ⟨S2x4096x8x16, .f32⟩
  | .hbm, ⟨34, _⟩ => ⟨S2x4096x8x16, .f32⟩
  | .hbm, ⟨35, _⟩ => ⟨S2x4096x8x16, .f32⟩
  | .hbm, ⟨36, _⟩ => ⟨S2x4096x8x16, .f32⟩
  | .hbm, ⟨37, _⟩ => ⟨S2x4096x8x16, .f32⟩
  | .hbm, ⟨38, _⟩ => ⟨S2x4096x8x16, .f32⟩
  | .hbm, ⟨39, _⟩ => ⟨S2x4096x8x16, .f32⟩
  | .hbm, ⟨40, _⟩ => ⟨S2x4096x8x16, .f32⟩
  | .hbm, ⟨41, _⟩ => ⟨S2x4096x8x16, .f32⟩
  | .hbm, ⟨42, _⟩ => ⟨S2x4096x8x16, .f32⟩
  | .hbm, ⟨43, _⟩ => ⟨S2x4096x8x16, .f32⟩
  | .hbm, ⟨44, _⟩ => ⟨S2x4096x8x16, .f32⟩
  | .hbm, ⟨45, _⟩ => ⟨S2x4096x8x96, .f32⟩
  | .hbm, ⟨46, _⟩ => ⟨S2x4096x8x128, .f32⟩
  | .hbm, ⟨47, _⟩ => ⟨S2x4096x1x8x128, .f32⟩
  | .hbm, ⟨48, _⟩ => ⟨S2x4096x1x8x128, .f32⟩
  | .hbm, ⟨49, _⟩ => ⟨S2x4096x1x8x128, .f32⟩
  | .hbm, ⟨50, _⟩ => ⟨S2x4096x3x8x128, .f32⟩
  | .hbm, ⟨51, _⟩ => ⟨S8192x3072, .f32⟩
  | .hbm, ⟨52, _⟩ => ⟨S8192x3072, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩

abbrev nD : Nat := 1
abbrev τ : Topo := Topo.v7x

variable {F : FTy → Type} [FloatOps F]
-- ==== QkvC.lean ====
abbrev S8192x4096 : Shape := ⟨2, ![8192, 4096]⟩
abbrev S4096x25600 : Shape := ⟨2, ![4096, 25600]⟩
abbrev S4096x16 : Shape := ⟨2, ![4096, 16]⟩
abbrev S_ : Shape := ⟨0, ![]⟩
abbrev S4096x96 : Shape := ⟨2, ![4096, 96]⟩
abbrev S4096x128 : Shape := ⟨2, ![4096, 128]⟩
abbrev S4096x112 : Shape := ⟨2, ![4096, 112]⟩
abbrev S8192x3072 : Shape := ⟨2, ![8192, 3072]⟩
abbrev S1024x4096 : Shape := ⟨2, ![1024, 4096]⟩
abbrev S4096x1024 : Shape := ⟨2, ![4096, 1024]⟩
abbrev S1024x128 : Shape := ⟨2, ![1024, 128]⟩
abbrev S1024x1024 : Shape := ⟨2, ![1024, 1024]⟩
abbrev S128x4096 : Shape := ⟨2, ![128, 4096]⟩
abbrev S128x1024 : Shape := ⟨2, ![128, 1024]⟩
abbrev S128x128 : Shape := ⟨2, ![128, 128]⟩

abbrev nBuf : Space → Nat
  | .hbm => 17
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S4096x25600, .bf16⟩
  | .hbm, ⟨2, _⟩ => ⟨S4096x16, .f32⟩
  | .hbm, ⟨3, _⟩ => ⟨S4096x16, .f32⟩
  | .hbm, ⟨4, _⟩ => ⟨S_, .f32⟩
  | .hbm, ⟨5, _⟩ => ⟨S4096x96, .f32⟩
  | .hbm, ⟨6, _⟩ => ⟨S4096x128, .f32⟩
  | .hbm, ⟨7, _⟩ => ⟨S4096x16, .f32⟩
  | .hbm, ⟨8, _⟩ => ⟨S_, .f32⟩
  | .hbm, ⟨9, _⟩ => ⟨S4096x112, .f32⟩
  | .hbm, ⟨10, _⟩ => ⟨S4096x128, .f32⟩
  | .hbm, ⟨11, _⟩ => ⟨S_, .f32⟩
  | .hbm, ⟨12, _⟩ => ⟨S4096x16, .f32⟩
  | .hbm, ⟨13, _⟩ => ⟨S_, .f32⟩
  | .hbm, ⟨14, _⟩ => ⟨S4096x96, .f32⟩
  | .hbm, ⟨15, _⟩ => ⟨S4096x128, .f32⟩
  | .hbm, ⟨16, _⟩ => ⟨S8192x3072, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c2_i32 : BitVec 32 := 2#32
  let v1 : BitVec 32 := Scalar.addi c2_i32 v0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QkvCRefIdeal.lean ====
abbrev S8192x4096 : Shape := ⟨2, ![8192, 4096]⟩
abbrev S4096x25600 : Shape := ⟨2, ![4096, 25600]⟩
abbrev S4096x16 : Shape := ⟨2, ![4096, 16]⟩
abbrev S4096x9216 : Shape := ⟨2, ![4096, 9216]⟩
abbrev S8192x9216 : Shape := ⟨2, ![8192, 9216]⟩
abbrev S2x4096x9x8x128 : Shape := ⟨5, ![2, 4096, 9, 8, 128]⟩
abbrev S2x4096x1x8x128 : Shape := ⟨5, ![2, 4096, 1, 8, 128]⟩
abbrev S2x4096x8x128 : Shape := ⟨4, ![2, 4096, 8, 128]⟩
abbrev S1x4096x1x16 : Shape := ⟨4, ![1, 4096, 1, 16]⟩
abbrev S2x4096x8x16 : Shape := ⟨4, ![2, 4096, 8, 16]⟩
abbrev S2x4096x8x96 : Shape := ⟨4, ![2, 4096, 8, 96]⟩
abbrev S2x4096x3x8x128 : Shape := ⟨5, ![2, 4096, 3, 8, 128]⟩
abbrev S8192x3072 : Shape := ⟨2, ![8192, 3072]⟩

abbrev nBuf : Space → Nat
  | .hbm => 53
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x25600, .bf16⟩
  | .hbm, ⟨2, _⟩ => ⟨S4096x16, .f32⟩
  | .hbm, ⟨3, _⟩ => ⟨S4096x16, .f32⟩
  | .hbm, ⟨4, _⟩ => ⟨S8192x4096, .f32⟩
  | .hbm, ⟨5, _⟩ => ⟨S4096x25600, .f32⟩
  | .hbm, ⟨6, _⟩ => ⟨S4096x9216, .f32⟩
  | .hbm, ⟨7, _⟩ => ⟨S8192x9216, .f32⟩
  | .hbm, ⟨8, _⟩ => ⟨S2x4096x9x8x128, .f32⟩
  | .hbm, ⟨9, _⟩ => ⟨S2x4096x1x8x128, .f32⟩
  | .hbm, ⟨10, _⟩ => ⟨S2x4096x8x128, .f32⟩
  | .hbm, ⟨11, _⟩ => ⟨S2x4096x1x8x128, .f32⟩
  | .hbm, ⟨12, _⟩ => ⟨S2x4096x8x128, .f32⟩
  | .hbm, ⟨13, _⟩ => ⟨S2x4096x1x8x128, .f32⟩
  | .hbm, ⟨14, _⟩ => ⟨S2x4096x8x128, .f32⟩
  | .hbm, ⟨15, _⟩ => ⟨S1x4096x1x16, .f32⟩
  | .hbm, ⟨16, _⟩ => ⟨S1x4096x1x16, .f32⟩
  | .hbm, ⟨17, _⟩ => ⟨S2x4096x8x16, .f32⟩
  | .hbm, ⟨18, _⟩ => ⟨S2x4096x8x16, .f32⟩
  | .hbm, ⟨19, _⟩ => ⟨S2x4096x8x16, .f32⟩
  | .hbm, ⟨20, _⟩ => ⟨S2x4096x8x16, .f32⟩
  | .hbm, ⟨21, _⟩ => ⟨S2x4096x8x16, .f32⟩
  | .hbm, ⟨22, _⟩ => ⟨S2x4096x8x16, .f32⟩
  | .hbm, ⟨23, _⟩ => ⟨S2x4096x8x16, .f32⟩
  | .hbm, ⟨24, _⟩ => ⟨S2x4096x8x16, .f32⟩
  | .hbm, ⟨25, _⟩ => ⟨S2x4096x8x16, .f32⟩
  | .hbm, ⟨26, _⟩ => ⟨S2x4096x8x16, .f32⟩
  | .hbm, ⟨27, _⟩ => ⟨S2x4096x8x16, .f32⟩
  | .hbm, ⟨28, _⟩ => ⟨S2x4096x8x16, .f32⟩
  | .hbm, ⟨29, _⟩ => ⟨S2x4096x8x96, .f32⟩
  | .hbm, ⟨30, _⟩ => ⟨S2x4096x8x128, .f32⟩
  | .hbm, ⟨31, _⟩ => ⟨S1x4096x1x16, .f32⟩
  | .hbm, ⟨32, _⟩ => ⟨S1x4096x1x16, .f32⟩
  | .hbm, ⟨33, _⟩ => ⟨S2x4096x8x16, .f32⟩
  | .hbm, ⟨34, _⟩ => ⟨S2x4096x8x16, .f32⟩
  | .hbm, ⟨35, _⟩ => ⟨S2x4096x8x16, .f32⟩
  | .hbm, ⟨36, _⟩ => ⟨S2x4096x8x16, .f32⟩
  | .hbm, ⟨37, _⟩ => ⟨S2x4096x8x16, .f32⟩
  | .hbm, ⟨38, _⟩ => ⟨S2x4096x8x16, .f32⟩
  | .hbm, ⟨39, _⟩ => ⟨S2x4096x8x16, .f32⟩
  | .hbm, ⟨40, _⟩ => ⟨S2x4096x8x16, .f32⟩
  | .hbm, ⟨41, _⟩ => ⟨S2x4096x8x16, .f32⟩
  | .hbm, ⟨42, _⟩ => ⟨S2x4096x8x16, .f32⟩
  | .hbm, ⟨43, _⟩ => ⟨S2x4096x8x16, .f32⟩
  | .hbm, ⟨44, _⟩ => ⟨S2x4096x8x16, .f32⟩
  | .hbm, ⟨45, _⟩ => ⟨S2x4096x8x96, .f32⟩
  | .hbm, ⟨46, _⟩ => ⟨S2x4096x8x128, .f32⟩
  | .hbm, ⟨47, _⟩ => ⟨S2x4096x1x8x128, .f32⟩
  | .hbm, ⟨48, _⟩ => ⟨S2x4096x1x8x128, .f32⟩
  | .hbm, ⟨49, _⟩ => ⟨S2x4096x1x8x128, .f32⟩
  | .hbm, ⟨50, _⟩ => ⟨S2x4096x3x8x128, .f32⟩
  | .hbm, ⟨51, _⟩ => ⟨S8192x3072, .f32⟩
  | .hbm, ⟨52, _⟩ => ⟨S8192x3072, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩

abbrev nD : Nat := 1
abbrev τ : Topo := Topo.v7x

variable {F : FTy → Type} [FloatOps F]
-- ==== Proof.Band.lean ====
module

public import Idealize.ShloMosaic.Lib.Pointwise
public import Idealize.ShloMosaic.Lib.WordCmp
public import Idealize.ShloMosaic.PureOps.Ideal

@[expose] public section

noncomputable section

open Idealize.ShloMosaic

/-! Attention rows of which only the keys near the query count: what a row is over all keys, and over a window of keys that
    holds every near one. -/

namespace Cert.Band

/-- The scale of the scores, 1/√128. -/
def scale : EReal := (((Real.sqrt 128)⁻¹ : ℝ) : EReal)

/-- The scale of the scores for powers of two, 1/(√128 · log 2). -/
def scaleLog2e : EReal := ((((Real.sqrt 128) * (Real.log 2))⁻¹ : ℝ) : EReal)

theorem sqrt_pos : (0 : ℝ) < Real.sqrt 128 := Real.sqrt_pos.mpr (by norm_num)

theorem scale_pos : (0 : EReal) ≤ scale := by
  unfold scale; exact_mod_cast inv_nonneg.mpr sqrt_pos.le

theorem bot_mul_scale : ⊥ * scale = ⊥ := by
  unfold scale; exact EReal.bot_mul_coe_of_pos (inv_pos.mpr sqrt_pos)

/-- A power of two of a scaled score is an exponential. -/
theorem exp2_scaled (x : EReal) : Ideal.exp2 (x * scaleLog2e) = Ideal.exp (x * scale) := by
  have hl : (0 : ℝ) < Real.log 2 := Real.log_pos (by norm_num)
  have hs := sqrt_pos
  unfold scale scaleLog2e
  induction x with
  | bot => rw [EReal.bot_mul_coe_of_pos (by positivity), EReal.bot_mul_coe_of_pos (by positivity)]; rfl
  | top => rw [EReal.top_mul_coe_of_pos (by positivity), EReal.top_mul_coe_of_pos (by positivity)]; rfl
  | coe r =>
    rw [← EReal.coe_mul, ← EReal.coe_mul, Ideal.exp2_coe, Ideal.exp_coe]
    congr 1
    rw [Real.rpow_eq_pow, Real.rpow_def_of_pos (by norm_num)]
    congr 1
    field_simp

/-- Scaling a difference is the difference of the scaled. -/
theorem sub_mul_scale (x y : EReal) : (x - y) * scale = x * scale - y * scale := by
  rw [sub_eq_add_neg, EReal.right_distrib_of_nonneg_of_ne_top scale_pos (EReal.coe_ne_top _), EReal.neg_mul, ← sub_eq_add_neg]

/-- The largest of a row's entries, −∞ of none. -/
def rowMax {n : ℕ} (s : Fin n → EReal) : EReal := Finset.fold max ⊥ s Finset.univ

theorem rowMax_mul_scale {n : ℕ} (s : Fin n → EReal) : rowMax s * scale = rowMax fun j => s j * scale := by
  unfold rowMax
  have h := Finset.fold_hom (op := max) (op' := max) (f := s) (b := ⊥) (s := Finset.univ) (m := fun x : EReal => x * scale)
    (fun x y => (Monotone.map_max (fun a b h => mul_le_mul_of_nonneg_right h scale_pos)))
  rw [bot_mul_scale] at h
  exact h.symm

theorem le_rowMax {n : ℕ} (s : Fin n → EReal) (j : Fin n) : s j ≤ rowMax s := by
  unfold rowMax; exact (Finset.le_fold_max _).mpr (Or.inr ⟨j, Finset.mem_univ j, le_rfl⟩)

theorem rowMax_le {n : ℕ} (s : Fin n → EReal) (b : EReal) (h : ∀ j, s j ≤ b) : rowMax s ≤ b := by
  unfold rowMax; exact (Finset.fold_max_le _).mpr ⟨bot_le, fun j _ => h j⟩

/-- A query at position `p` and a key at position `k` are near: at most 64 apart. -/
abbrev Near (p k : ℕ) : Prop := p ≤ k + 64 ∧ k ≤ p + 64

/-- A row of scores: scaled where query and key are near, −∞ elsewhere. -/
def band {n : ℕ} (p : ℕ) (a : Fin n → EReal) (k : Fin n) : EReal := if Near p k.val then a k * scale else ⊥

/-- The softmax weight of a key in a row, not normalised. -/
def weight {n : ℕ} (p : ℕ) (a : Fin n → EReal) (k : Fin n) : EReal := Ideal.exp (band p a k - rowMax (band p a))

theorem weight_far {n : ℕ} (p : ℕ) (a : Fin n → EReal) (k : Fin n) (h : ¬Near p k.val) : weight p a k = 0 := by
  unfold weight band; rw [if_neg h, sub_eq_add_neg, EReal.bot_add]; rfl

/-- The place of the window's key `j` in the row. -/
def place {n w : ℕ} (st : ℕ) (h : st + w ≤ n) (j : Fin w) : Fin n := ⟨st + j.val, by omega⟩

theorem place_injective {n w : ℕ} (st : ℕ) (h : st + w ≤ n) : Function.Injective (place st h) := fun i j e => by
  have := congrArg Fin.val e; simp only [place] at this; exact Fin.ext (by omega)

/-- The largest entry of a row is the largest of a window that holds every near key. -/
theorem rowMax_window {n w : ℕ} (p st : ℕ) (h : st + w ≤ n) (hin : ∀ k < n, Near p k → st ≤ k ∧ k < st + w) (a : Fin n → EReal) :
    rowMax (band p a) = rowMax fun j => band p a (place st h j) := by
  refine le_antisymm (rowMax_le _ _ fun k => ?_) (rowMax_le _ _ fun j => le_rowMax (band p a) _)
  by_cases hk : Near p k.val
  · obtain ⟨h1, h2⟩ := hin k.val k.isLt hk
    have e : k = place st h ⟨k.val - st, by omega⟩ := Fin.ext (by simp only [place]; omega)
    rw [e]; exact le_rowMax (fun j => band p a (place st h j)) _
  · unfold band; rw [if_neg hk]; exact bot_le

/-- A sum over a row whose terms vanish where the key is far is a sum over a window that holds every near key. -/
theorem sum_window {n w : ℕ} (p st : ℕ) (h : st + w ≤ n) (hin : ∀ k < n, Near p k → st ≤ k ∧ k < st + w) (f : Fin n → EReal)
    (hf : ∀ k : Fin n, ¬Near p k.val → f k = 0) : ∑ k, f k = ∑ j, f (place st h j) := by
  refine (Fintype.sum_of_injective (place st h) (place_injective st h) _ _ (fun k hk => hf k fun hn => hk ?_) fun j => rfl).symm
  obtain ⟨h1, h2⟩ := hin k.val k.isLt hn
  exact ⟨⟨k.val - st, by omega⟩, Fin.ext (by simp only [place]; omega)⟩

/-- The weight of a key of the window, from unscaled scores by a power of two. -/
theorem weight_window {n w : ℕ} (p st : ℕ) (h : st + w ≤ n) (hin : ∀ k < n, Near p k → st ≤ k ∧ k < st + w) (a : Fin n → EReal)
    (s : Fin w → EReal) (hs : ∀ j, s j = if Near p (st + j.val) then a (place st h j) else ⊥) (j : Fin w) :
    Ideal.exp2 ((s j - rowMax s) * scaleLog2e) = weight p a (place st h j) := by
  have hb : ∀ j, s j * scale = band p a (place st h j) := fun j => by
    rw [hs]; unfold band
    by_cases hn : Near p (st + j.val)
    · rw [if_pos hn, if_pos (show Near p (place st h j).val from hn)]
    · rw [if_neg hn, if_neg (show ¬Near p (place st h j).val from hn), bot_mul_scale]
  unfold weight
  rw [exp2_scaled, sub_mul_scale, rowMax_mul_scale, rowMax_window p st h hin, hb]
  congr 3
  exact funext hb

/-- The largest score of the window, scaled, is the row's. -/
theorem max_window {n w : ℕ} (p st : ℕ) (h : st + w ≤ n) (hin : ∀ k < n, Near p k → st ≤ k ∧ k < st + w) (a : Fin n → EReal)
    (s : Fin w → EReal) (hs : ∀ j, s j = if Near p (st + j.val) then a (place st h j) else ⊥) :
    rowMax s * scale = rowMax (band p a) := by
  rw [rowMax_mul_scale, rowMax_window p st h hin]
  congr 1
  refine funext fun j => ?_
  rw [hs]; unfold band
  by_cases hn : Near p (st + j.val)
  · rw [if_pos hn, if_pos (show Near p (place st h j).val from hn)]
  · rw [if_neg hn, if_neg (show ¬Near p (place st h j).val from hn), bot_mul_scale]

/-- The comparison of a distance with 64, on words that hold small numbers. -/
theorem select_small {α : Type} (x : BitVec 32) (z : ℤ) (hx : x = BitVec.ofInt 32 z) (h1 : -100000 ≤ z) (h2 : z ≤ 100000) (a b : α) :
    Scalar.select (IntOp.cmpi .sle (IntOp.absi x) 64#32) a b = if -64 ≤ z ∧ z ≤ 64 then a else b := by
  have ht : x.toInt = z := by
    rw [hx, BitVec.toInt_ofInt]; exact Int.bmod_eq_of_le (by omega) (by omega)
  have ha : (IntOp.absi x).toInt = |z| := by
    unfold IntOp.absi
    by_cases hm : x.msb = true
    · rw [if_pos hm, BitVec.toInt_neg_of_ne_intMin, ht, abs_of_neg]
      · rw [← ht]; exact (BitVec.msb_eq_toInt (x := x) ▸ hm |> of_decide_eq_true)
      · intro e; rw [e] at ht; rw [show (BitVec.intMin 32).toInt = -2147483648 from rfl] at ht; omega
    · rw [if_neg hm, ht, abs_of_nonneg]
      rw [BitVec.msb_eq_toInt, decide_eq_true_eq, not_lt, ht] at hm; exact hm
  rw [show IntOp.cmpi .sle (IntOp.absi x) 64#32 = BitVec.ofBool (decide ((IntOp.absi x).toInt ≤ (64#32).toInt)) from rfl, ha, show (64#32).toInt = 64 from rfl]
  unfold Scalar.select
  by_cases h : -64 ≤ z ∧ z ≤ 64
  · rw [if_pos h, decide_eq_true (abs_le.mpr h)]; rfl
  · rw [if_neg h, decide_eq_false (fun hh => h (abs_le.mp hh))]; rfl

/-- The word of a difference. -/
theorem ofInt_difference (p k : ℕ) : BitVec.ofNat 32 p - BitVec.ofNat 32 k = BitVec.ofInt 32 ((p : ℤ) - k) := by
  rw [sub_eq_add_neg (p : ℤ), BitVec.ofInt_add, BitVec.ofInt_neg, BitVec.ofInt_natCast, BitVec.ofInt_natCast, BitVec.sub_eq_add_neg]

/-- The mask of the whole array's row. -/
theorem select_row {α : Type} (p k : ℕ) (hp : p ≤ 8192) (hk : k ≤ 8192) (a b : α) :
    Scalar.select (IntOp.cmpi .sle (IntOp.absi (IntOp.subi (BitVec.ofNat 32 p) (BitVec.ofNat 32 k))) 64#32) a b
      = if Near p k then a else b := by
  rw [select_small _ ((p : ℤ) - k) (by
    show BitVec.ofNat 32 p - BitVec.ofNat 32 k = _
    rw [ofInt_difference]) (by omega) (by omega)]
  exact if_congr (by unfold Near; omega) rfl rfl

/-- The mask of a tile: `d` is the position of its first query less that of its first key. -/
theorem select_tile {α : Type} (l0 st r j : ℕ) (d : BitVec 32) (hd : d = BitVec.ofInt 32 ((l0 : ℤ) - st)) (hl : l0 ≤ 8192) (hst : st ≤ 8192)
    (hr : r ≤ 1024) (hj : j ≤ 1024) (a b : α) :
    Scalar.select (IntOp.cmpi .sle (IntOp.absi (IntOp.addi (IntOp.subi (BitVec.ofNat 32 r) (BitVec.ofNat 32 j)) d)) 64#32) a b
      = if Near (l0 + r) (st + j) then a else b := by
  rw [select_small _ ((r : ℤ) - j + (l0 - st)) (by
    show BitVec.ofNat 32 r - BitVec.ofNat 32 j + d = _
    rw [hd, BitVec.ofInt_add, ofInt_difference]) (by omega) (by omega)]
  exact if_congr (by unfold Near; omega) rfl rfl

/-- The scale as the reference writes it. -/
theorem scale_eq : Ideal.div 1 (Ideal.sqrt (Ideal.ofBits .f32 0x43000000#32)) = scale := by
  have h : Ideal.ofBits .f32 0x43000000#32 = ((128 : ℝ) : EReal) := by
    simp [Ideal.ofBits, Ideal.ieee, -EReal.coe_mul]; norm_num
  rw [h, Ideal.sqrt_coe, if_neg (by norm_num), Ideal.div_coe sqrt_pos.ne', one_mul, one_div]; rfl

/-- −∞ as a word. -/
theorem ofBits_bot : Ideal.ofBits .f32 0xFF800000#32 = ⊥ := by
  simp [Ideal.ofBits, Ideal.ieee]

/-- A row of the reference's scores. -/
theorem band_row {n p : ℕ} (hp : p ≤ 8192) (hn : n ≤ 8192) {a : Fin n → EReal} {c z : EReal} (hc : c = scale) (hz : z = ⊥) (k : Fin n) :
    Scalar.select (IntOp.cmpi .sle (IntOp.absi (IntOp.subi (BitVec.ofNat 32 p) (BitVec.ofNat 32 k.val))) 64#32) (a k * c) z = band p a k := by
  rw [select_row p k.val hp (by omega), hc, hz]; rfl

/-- A row's maximum in the reference. -/
theorem max_row {n p : ℕ} (hp : p ≤ 8192) (hn : n ≤ 8192) {a : Fin n → EReal} {c z z2 : EReal} (hc : c = scale) (hz : z = ⊥) (hz2 : z2 = ⊥) :
    Finset.fold max z2 (fun k : Fin n =>
        Scalar.select (IntOp.cmpi .sle (IntOp.absi (IntOp.subi (BitVec.ofNat 32 p) (BitVec.ofNat 32 k.val))) 64#32) (a k * c) z) Finset.univ
      = rowMax (band p a) := by
  unfold rowMax
  rw [hz2]
  congr 1
  exact funext fun j => band_row hp hn hc hz j

/-- A weight of the reference. -/
theorem weight_row {n p : ℕ} (hp : p ≤ 8192) (hn : n ≤ 8192) {a a2 : Fin n → EReal} (ha : ∀ k, a k = a2 k) {c z z2 : EReal} (hc : c = scale) (hz : z = ⊥)
    (hz2 : z2 = ⊥) (k : Fin n) :
    Ideal.exp
        (Scalar.select (IntOp.cmpi .sle (IntOp.absi (IntOp.subi (BitVec.ofNat 32 p) (BitVec.ofNat 32 k.val))) 64#32) (a k * c) z
          - Finset.fold max z2 (fun k : Fin n =>
              Scalar.select (IntOp.cmpi .sle (IntOp.absi (IntOp.subi (BitVec.ofNat 32 p) (BitVec.ofNat 32 k.val))) 64#32) (a2 k * c) z) Finset.univ)
      = weight p a k := by
  obtain rfl : a = a2 := funext ha
  unfold weight
  rw [band_row hp hn hc hz, max_row hp hn hc hz hz2]

/-- A row of scores not yet scaled: the products of the query in row `i` with the keys in the rows from `base` on, in head `g`. -/
def score (n : ℕ) (A : Fin 8192 → Fin 3072 → EReal) (i : Fin 8192) (base g : ℕ) (hg : g < 8) (hb : base + n ≤ 8192) (k : Fin n) : EReal :=
  ∑ e : Fin 128, A i ⟨g * 128 + e.val, by omega⟩ * A ⟨base + k.val, by omega⟩ ⟨1024 + g * 128 + e.val, by omega⟩

end Cert.Band

end
-- ==== Proof.Tile.lean ====
module

public import proofs.«01_k».proof.Proof.Gen.AttnCIdeal.Skeleton
public import Idealize.ShloMosaic.Lib.Pipeline.ValueKit
public import Idealize.ShloMosaic.Lib.Pointwise
public import proofs.«01_k».proof.Proof.Band

@[expose] public section

set_option maxRecDepth 16384

noncomputable section

open Idealize.ShloMosaic Idealize.ShloMosaic.TcCoe Idealize.SL.Sem

namespace Cert.Tile

open Cert.AttnCIdeal Cert.AttnCIdeal.Gen Cert.Band

/-- The scores of a tile of 128 queries against 256 keys: where a query and a key lie at most 64 positions apart their
    product, elsewhere −∞. `d` is the position of the first query less that of the first key. -/
def masked (d : BitVec 32) (q : FVec Ideal S128x128 .bf16) (k : FVec Ideal S256x128 .bf16) : FVec Ideal S128x256 .f32 :=
  select (cmpi .sle (absi (addi (subi (iota .tc S128x256 32 [0] iota_S128x256_d0_w32) (iota .tc S128x256 32 [1] iota_S128x256_d1_w32))
      (broadcast S128x256 d))) (broadcast S128x256 64#32))
    (matmul dot_S128x128_S256x128_S128x256_1_1_0_0_n_n none q k (constant S128x256 .f32 0x00000000#32))
    (broadcast S128x256 (Named.named κ "mask" 0xF149F2CA#32 : Ideal .f32))

/-- Each query's largest score. -/
def peaks (d : BitVec 32) (q : FVec Ideal S128x128 .bf16) (k : FVec Ideal S256x128 .bf16) : FVec Ideal S128x1 .f32 :=
  shapeCast S128x1 (multiReduction .maximumf [1] S128 (masked d q k) 0xFF800000#32 reduces_S128x256_S128 (.inl rfl) rfl) shapeCasts_S128_S128x1

/-- The softmax weights of a tile, not normalised. -/
def weights (d : BitVec 32) (q : FVec Ideal S128x128 .bf16) (k : FVec Ideal S256x128 .bf16) : FVec Ideal S128x256 .f32 :=
  exp2 (mulf (subf (masked d q k) (broadcastTo S128x256 (peaks d q k) broadcasts_S128x1_S128x256))
    (broadcast S128x256 (Named.named κ "scale_log2e" 0x3E0293EE#32 : Ideal .f32)))

/-- The values of the keys, summed with a tile's weights. -/
def out (d : BitVec 32) (q : FVec Ideal S128x128 .bf16) (k v : FVec Ideal S256x128 .bf16) : FVec Ideal S128x128 .bf16 :=
  truncf .bf16 (matmul dot_S128x256_S256x128_S128x128_1_0_0_1_n_n none (truncf .bf16 (weights d q k) bitsLt_bf16_f32) v
    (constant S128x128 .f32 0x00000000#32)) bitsLt_bf16_f32

/-- Each query's largest scaled score. -/
def maxima (d : BitVec 32) (q : FVec Ideal S128x128 .bf16) (k : FVec Ideal S256x128 .bf16) : FVec Ideal S128x1 .f32 :=
  mulf (peaks d q k) (broadcast S128x1 (Named.named κ "scale" 0x3DB504F3#32 : Ideal .f32))

/-- Each query's sum of weights. -/
def sums (d : BitVec 32) (q : FVec Ideal S128x128 .bf16) (k : FVec Ideal S256x128 .bf16) : FVec Ideal S128x1 .f32 :=
  shapeCast S128x1 (multiReduction .add [1] S128 (weights d q k) 0x00000000#32 reduces_S128x256_S128 (.inl rfl) rfl) shapeCasts_S128_S128x1

/-- The kernel's number for an excluded score is −∞. -/
theorem mask_bot : (Named.named κ "mask" 0xF149F2CA#32 : Ideal .f32) = (⊥ : EReal) :=
  IdealRules.named_const.ideal_named_scalar κ "mask" _ _ rfl

/-- The kernel's scale is 1/√128. -/
theorem scale_named : (Named.named κ "scale" 0x3DB504F3#32 : Ideal .f32) = scale :=
  IdealRules.named_const.ideal_named_scalar κ "scale" _ _ rfl

/-- The kernel's scale for powers of two is 1/(√128 · log 2). -/
theorem scaleLog2e_named : (Named.named κ "scale_log2e" 0x3E0293EE#32 : Ideal .f32) = scaleLog2e :=
  IdealRules.named_const.ideal_named_scalar κ "scale_log2e" _ _ rfl

/-- Where a tile lies: its first query at `l0`, its 256 keys from `st`, and among them every key near one of its queries. -/
structure Placed (n l0 st : ℕ) (d : BitVec 32) : Prop where
  d_eq : d = BitVec.ofInt 32 ((l0 : ℤ) - st)
  keys : st + 256 ≤ n
  few : n ≤ 4096
  query : l0 + 128 ≤ n
  lo : st = 0 ∨ st + 64 ≤ l0
  hi : st + 256 = n ∨ l0 + 191 < st + 256

/-- The keys near one of the tile's queries are among the tile's. -/
theorem Placed.near {n l0 st : ℕ} {d : BitVec 32} (h : Placed n l0 st d) (r : ℕ) (hr : r < 128) :
    ∀ k < n, Near (l0 + r) k → st ≤ k ∧ k < st + 256 := by
  intro k hk hn
  have h1 := h.lo
  have h2 := h.hi
  unfold Near at hn
  omega

/-- An entry of the scores. -/
theorem masked_at {n l0 st : ℕ} {d : BitVec 32} (h : Placed n l0 st d) (q : FVec Ideal S128x128 .bf16) (k : FVec Ideal S256x128 .bf16)
    (r : Fin 128) (a : Fin n → EReal)
    (ha : ∀ j : Fin 256, ∑ e : Fin 128, (q (ix2 r e) : EReal) * k (ix2 j e) = a (place st h.keys j)) (j : Fin 256) :
    (masked d q k (ix2 r j) : EReal) = if Near (l0 + r.val) (st + j.val) then a (place st h.keys j) else ⊥ := by
  unfold masked
  pointwise
  have hq := h.query
  have hf := h.few
  have hk := h.keys
  refine (select_tile l0 st r.val j.val d h.d_eq (by omega) (by omega) (by omega) (by omega) _ _).trans ?_
  rw [mask_bot]
  exact if_congr Iff.rfl (ha j) rfl

/-- A query's largest score. -/
theorem peaks_at (d : BitVec 32) (q : FVec Ideal S128x128 .bf16) (k : FVec Ideal S256x128 .bf16) (r : Fin 128) :
    (peaks d q k (ix2 r 0) : EReal) = rowMax fun j : Fin 256 => (masked d q k (ix2 r j) : EReal) := by
  unfold peaks rowMax
  pointwise
  rw [ofBits_bot]

/-- A weight of the tile is the row's weight at the key's place. -/
theorem weights_at {n l0 st : ℕ} {d : BitVec 32} (h : Placed n l0 st d) (q : FVec Ideal S128x128 .bf16) (k : FVec Ideal S256x128 .bf16)
    (r : Fin 128) (a : Fin n → EReal)
    (ha : ∀ j : Fin 256, ∑ e : Fin 128, (q (ix2 r e) : EReal) * k (ix2 j e) = a (place st h.keys j)) (j : Fin 256) :
    (weights d q k (ix2 r j) : EReal) = weight (l0 + r.val) a (place st h.keys j) := by
  refine Eq.trans ?_ (weight_window (l0 + r.val) st h.keys (h.near r.val r.isLt) a (fun j => masked d q k (ix2 r j)) (masked_at h q k r a ha) j)
  rw [← peaks_at, ← scaleLog2e_named]
  unfold weights
  pointwise
  rfl

/-- The tile's output is the row's. -/
theorem out_at {n l0 st : ℕ} {d : BitVec 32} (h : Placed n l0 st d) (q : FVec Ideal S128x128 .bf16) (k v : FVec Ideal S256x128 .bf16)
    (x : S128x128.Idx) (a w : Fin n → EReal)
    (ha : ∀ j : Fin 256, ∑ e : Fin 128, (q (ix2 (x 0) e) : EReal) * k (ix2 j e) = a (place st h.keys j))
    (hv : ∀ j : Fin 256, (v (ix2 j (x 1)) : EReal) = w (place st h.keys j)) :
    (out d q k v x : EReal) = ∑ k : Fin n, weight (l0 + (x 0).val) a k * w k := by
  have hx : (x 0).val < 128 := (x 0).isLt
  refine Eq.trans ?_ (sum_window (l0 + (x 0).val) st h.keys (h.near (x 0).val hx) _ fun k hk => by rw [weight_far _ _ _ hk, zero_mul]).symm
  unfold out
  pointwise
  exact Finset.sum_congr rfl fun j _ => congrArg₂ (fun x y : EReal => x * y) (weights_at h q k (x 0) a ha j) (hv j)

/-- The tile's denominators are the rows'. -/
theorem sums_at {n l0 st : ℕ} {d : BitVec 32} (h : Placed n l0 st d) (q : FVec Ideal S128x128 .bf16) (k : FVec Ideal S256x128 .bf16)
    (x : S128x1.Idx) (a : Fin n → EReal)
    (ha : ∀ j : Fin 256, ∑ e : Fin 128, (q (ix2 (x 0) e) : EReal) * k (ix2 j e) = a (place st h.keys j)) :
    (sums d q k x : EReal) = ∑ k : Fin n, weight (l0 + (x 0).val) a k := by
  have hx : (x 0).val < 128 := (x 0).isLt
  refine Eq.trans ?_ (sum_window (l0 + (x 0).val) st h.keys (h.near (x 0).val hx) _ fun k hk => weight_far _ _ _ hk).symm
  unfold sums
  pointwise
  exact Finset.sum_congr rfl fun j _ => weights_at h q k (x 0) a ha j

/-- The tile's scaled maxima are the rows'. -/
theorem maxima_at {n l0 st : ℕ} {d : BitVec 32} (h : Placed n l0 st d) (q : FVec Ideal S128x128 .bf16) (k : FVec Ideal S256x128 .bf16)
    (x : S128x1.Idx) (a : Fin n → EReal)
    (ha : ∀ j : Fin 256, ∑ e : Fin 128, (q (ix2 (x 0) e) : EReal) * k (ix2 j e) = a (place st h.keys j)) :
    (maxima d q k x : EReal) = rowMax (band (l0 + (x 0).val) a) := by
  have hx : (x 0).val < 128 := (x 0).isLt
  refine Eq.trans ?_ (max_window (l0 + (x 0).val) st h.keys (h.near (x 0).val hx) a (fun j => masked d q k (ix2 (x 0) j)) (masked_at h q k (x 0) a ha))
  refine Eq.trans ?_ (congrArg (fun z : EReal => z * scale) (peaks_at d q k (x 0)))
  rw [← scale_named]
  have hx1 : x = ix2 (x 0) 0 := by blk_ext
  unfold maxima
  pointwise
  exact congrArg (fun y => (peaks d q k y : EReal) * (Named.named κ "scale" 0x3DB504F3#32 : Ideal .f32)) hx1

end Cert.Tile

end
-- ==== Proof.AttnARef.lean ====
module

public import proofs.«01_k».proof.Proof.Gen.AttnARefIdeal.Run
public import Idealize.ShloMosaic.Lib.Pipeline.ValueKit
public import Idealize.ShloMosaic.Lib.Pointwise
public import Idealize.ShloMosaic.Lib.Claim
public import proofs.«01_k».proof.Proof.Band

@[expose] public section

set_option maxRecDepth 16384

noncomputable section

open Idealize.ShloMosaic Idealize.ShloMosaic.TcCoe Idealize.SL.Sem
open Idealize.ShloMosaic.Pipeline (Dat)

namespace Cert.AttnARefIdeal.Own

open Cert.AttnARefIdeal Cert.AttnARefIdeal.Gen

/-- The result `main_v32` of the reference, as a term of its arguments. -/
abbrev ref_v32 (a0 : FVec Ideal Cert.AttnARefIdeal.S8192x3072 .bf16) : FVec Ideal Cert.AttnARefIdeal.S8192x1024 .bf16 :=
  truncf .bf16 (shapeCast _ (transpose S2x4096x8x128 [0, 3, 1, 2] (Host.dotGeneral dot_S2x4096x8x128_S2x8x4096x4096_S2x8x128x4096_1_3_3_2_02_01 none (shapeCast _ (extractStridedSlice S2x4096x1x8x128 ![0, 0, 2, 0, 0] (shapeCast _ (extf .f32 a0 bitsLt_bf16_f32) shapeCasts_S8192x3072_S2x4096x3x8x128) slices_S2x4096x3x8x128_S2x4096x1x8x128_0_0_2_0_0) shapeCasts_S2x4096x1x8x128_S2x4096x8x128) (Host.exp (subf (select (broadcastInDim S2x8x4096x4096 ![2, 3] bcast_S4096x4096_S2x8x4096x4096_2_3 (cmpi .sle (absi (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))) (broadcastInDim S4096x4096 ![] bcast_S_S4096x4096 (constantI S_ 32 64#32)))) (mulf (Host.dotGeneral dot_S2x4096x8x128_S2x4096x8x128_S2x8x4096x4096_3_3_1_1_02_02 none (shapeCast _ (extractStridedSlice S2x4096x1x8x128 ![0, 0, 0, 0, 0] (shapeCast _ (extf .f32 a0 bitsLt_bf16_f32) shapeCasts_S8192x3072_S2x4096x3x8x128) slices_S2x4096x3x8x128_S2x4096x1x8x128_0_0_0_0_0) shapeCasts_S2x4096x1x8x128_S2x4096x8x128) (shapeCast _ (extractStridedSlice S2x4096x1x8x128 ![0, 0, 1, 0, 0] (shapeCast _ (extf .f32 a0 bitsLt_bf16_f32) shapeCasts_S8192x3072_S2x4096x3x8x128) slices_S2x4096x3x8x128_S2x4096x1x8x128_0_0_1_0_0) shapeCasts_S2x4096x1x8x128_S2x4096x8x128)) (broadcastInDim S2x8x4096x4096 ![] bcast_S_S2x8x4096x4096 (Host.divf (constant S_ .f32 0x3F800000#32) (Host.sqrt (constant S_ .f32 0x43000000#32))))) (broadcastInDim S2x8x4096x4096 ![] bcast_S_S2x8x4096x4096 (id (constant S_ .f32 0xFF800000#32)))) (broadcastInDim S2x8x4096x4096 ![0, 1, 2, 3] bcast_S2x8x4096x1_S2x8x4096x4096_0_1_2_3 (broadcastInDim S2x8x4096x1 ![0, 1, 2] bcast_S2x8x4096_S2x8x4096x1_0_1_2 (Host.reduce FloatOps.maximumf (select (broadcastInDim S2x8x4096x4096 ![2, 3] bcast_S4096x4096_S2x8x4096x4096_2_3 (cmpi .sle (absi (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))) (broadcastInDim S4096x4096 ![] bcast_S_S4096x4096 (constantI S_ 32 64#32)))) (mulf (Host.dotGeneral dot_S2x4096x8x128_S2x4096x8x128_S2x8x4096x4096_3_3_1_1_02_02 none (shapeCast _ (extractStridedSlice S2x4096x1x8x128 ![0, 0, 0, 0, 0] (shapeCast _ (extf .f32 a0 bitsLt_bf16_f32) shapeCasts_S8192x3072_S2x4096x3x8x128) slices_S2x4096x3x8x128_S2x4096x1x8x128_0_0_0_0_0) shapeCasts_S2x4096x1x8x128_S2x4096x8x128) (shapeCast _ (extractStridedSlice S2x4096x1x8x128 ![0, 0, 1, 0, 0] (shapeCast _ (extf .f32 a0 bitsLt_bf16_f32) shapeCasts_S8192x3072_S2x4096x3x8x128) slices_S2x4096x3x8x128_S2x4096x1x8x128_0_0_1_0_0) shapeCasts_S2x4096x1x8x128_S2x4096x8x128)) (broadcastInDim S2x8x4096x4096 ![] bcast_S_S2x8x4096x4096 (Host.divf (constant S_ .f32 0x3F800000#32) (Host.sqrt (constant S_ .f32 0x43000000#32))))) (broadcastInDim S2x8x4096x4096 ![] bcast_S_S2x8x4096x4096 (id (constant S_ .f32 0xFF800000#32)))) (constant S_ .f32 0xFF800000#32) reducesTo_S2x8x4096x4096_S2x8x4096_d3 h_S_)))))) transposes_S2x8x128x4096_S2x4096x8x128_0_3_1_2) shapeCasts_S2x4096x8x128_S8192x1024) bitsLt_bf16_f32

/-- The result `main_v35` of the reference, as a term of its arguments. -/
abbrev ref_v35 (a0 : FVec Ideal Cert.AttnARefIdeal.S8192x3072 .bf16) : FVec Ideal Cert.AttnARefIdeal.S8192x128 .f32 :=
  pad S8192x128 ![0, 0] ![0, 120] ![0, 0] (shapeCast _ (transpose S2x4096x8 [0, 2, 1] (Host.reduce FloatOps.maximumf (select (broadcastInDim S2x8x4096x4096 ![2, 3] bcast_S4096x4096_S2x8x4096x4096_2_3 (cmpi .sle (absi (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))) (broadcastInDim S4096x4096 ![] bcast_S_S4096x4096 (constantI S_ 32 64#32)))) (mulf (Host.dotGeneral dot_S2x4096x8x128_S2x4096x8x128_S2x8x4096x4096_3_3_1_1_02_02 none (shapeCast _ (extractStridedSlice S2x4096x1x8x128 ![0, 0, 0, 0, 0] (shapeCast _ (extf .f32 a0 bitsLt_bf16_f32) shapeCasts_S8192x3072_S2x4096x3x8x128) slices_S2x4096x3x8x128_S2x4096x1x8x128_0_0_0_0_0) shapeCasts_S2x4096x1x8x128_S2x4096x8x128) (shapeCast _ (extractStridedSlice S2x4096x1x8x128 ![0, 0, 1, 0, 0] (shapeCast _ (extf .f32 a0 bitsLt_bf16_f32) shapeCasts_S8192x3072_S2x4096x3x8x128) slices_S2x4096x3x8x128_S2x4096x1x8x128_0_0_1_0_0) shapeCasts_S2x4096x1x8x128_S2x4096x8x128)) (broadcastInDim S2x8x4096x4096 ![] bcast_S_S2x8x4096x4096 (Host.divf (constant S_ .f32 0x3F800000#32) (Host.sqrt (constant S_ .f32 0x43000000#32))))) (broadcastInDim S2x8x4096x4096 ![] bcast_S_S2x8x4096x4096 (id (constant S_ .f32 0xFF800000#32)))) (constant S_ .f32 0xFF800000#32) reducesTo_S2x8x4096x4096_S2x8x4096_d3 h_S_) transposes_S2x8x4096_S2x4096x8_0_2_1) shapeCasts_S2x4096x8_S8192x8) (sitofp .f32 (constantI S_ 32 0#32)) pads_S8192x8_S8192x128_000_01200 h_S_

/-- The result `main_v38` of the reference, as a term of its arguments. -/
abbrev ref_v38 (a0 : FVec Ideal Cert.AttnARefIdeal.S8192x3072 .bf16) : FVec Ideal Cert.AttnARefIdeal.S8192x128 .f32 :=
  pad S8192x128 ![0, 0] ![0, 120] ![0, 0] (shapeCast _ (transpose S2x4096x8 [0, 2, 1] (Host.reduceAdd (Host.exp (subf (select (broadcastInDim S2x8x4096x4096 ![2, 3] bcast_S4096x4096_S2x8x4096x4096_2_3 (cmpi .sle (absi (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))) (broadcastInDim S4096x4096 ![] bcast_S_S4096x4096 (constantI S_ 32 64#32)))) (mulf (Host.dotGeneral dot_S2x4096x8x128_S2x4096x8x128_S2x8x4096x4096_3_3_1_1_02_02 none (shapeCast _ (extractStridedSlice S2x4096x1x8x128 ![0, 0, 0, 0, 0] (shapeCast _ (extf .f32 a0 bitsLt_bf16_f32) shapeCasts_S8192x3072_S2x4096x3x8x128) slices_S2x4096x3x8x128_S2x4096x1x8x128_0_0_0_0_0) shapeCasts_S2x4096x1x8x128_S2x4096x8x128) (shapeCast _ (extractStridedSlice S2x4096x1x8x128 ![0, 0, 1, 0, 0] (shapeCast _ (extf .f32 a0 bitsLt_bf16_f32) shapeCasts_S8192x3072_S2x4096x3x8x128) slices_S2x4096x3x8x128_S2x4096x1x8x128_0_0_1_0_0) shapeCasts_S2x4096x1x8x128_S2x4096x8x128)) (broadcastInDim S2x8x4096x4096 ![] bcast_S_S2x8x4096x4096 (Host.divf (constant S_ .f32 0x3F800000#32) (Host.sqrt (constant S_ .f32 0x43000000#32))))) (broadcastInDim S2x8x4096x4096 ![] bcast_S_S2x8x4096x4096 (id (constant S_ .f32 0xFF800000#32)))) (broadcastInDim S2x8x4096x4096 ![0, 1, 2, 3] bcast_S2x8x4096x1_S2x8x4096x4096_0_1_2_3 (broadcastInDim S2x8x4096x1 ![0, 1, 2] bcast_S2x8x4096_S2x8x4096x1_0_1_2 (Host.reduce FloatOps.maximumf (select (broadcastInDim S2x8x4096x4096 ![2, 3] bcast_S4096x4096_S2x8x4096x4096_2_3 (cmpi .sle (absi (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))) (broadcastInDim S4096x4096 ![] bcast_S_S4096x4096 (constantI S_ 32 64#32)))) (mulf (Host.dotGeneral dot_S2x4096x8x128_S2x4096x8x128_S2x8x4096x4096_3_3_1_1_02_02 none (shapeCast _ (extractStridedSlice S2x4096x1x8x128 ![0, 0, 0, 0, 0] (shapeCast _ (extf .f32 a0 bitsLt_bf16_f32) shapeCasts_S8192x3072_S2x4096x3x8x128) slices_S2x4096x3x8x128_S2x4096x1x8x128_0_0_0_0_0) shapeCasts_S2x4096x1x8x128_S2x4096x8x128) (shapeCast _ (extractStridedSlice S2x4096x1x8x128 ![0, 0, 1, 0, 0] (shapeCast _ (extf .f32 a0 bitsLt_bf16_f32) shapeCasts_S8192x3072_S2x4096x3x8x128) slices_S2x4096x3x8x128_S2x4096x1x8x128_0_0_1_0_0) shapeCasts_S2x4096x1x8x128_S2x4096x8x128)) (broadcastInDim S2x8x4096x4096 ![] bcast_S_S2x8x4096x4096 (Host.divf (constant S_ .f32 0x3F800000#32) (Host.sqrt (constant S_ .f32 0x43000000#32))))) (broadcastInDim S2x8x4096x4096 ![] bcast_S_S2x8x4096x4096 (id (constant S_ .f32 0xFF800000#32)))) (constant S_ .f32 0xFF800000#32) reducesTo_S2x8x4096x4096_S2x8x4096_d3 h_S_))))) (constant S_ .f32 0x00000000#32) reducesTo_S2x8x4096x4096_S2x8x4096_d3 h_S_) transposes_S2x8x4096_S2x4096x8_0_2_1) shapeCasts_S2x4096x8_S8192x8) (sitofp .f32 (constantI S_ 32 0#32)) pads_S8192x8_S8192x128_000_01200 h_S_

/-- The entries of the argument, by row and column. -/
abbrev entries (a0 : FVec Ideal Cert.AttnARefIdeal.S8192x3072 .bf16) (i : Fin 8192) (j : Fin 3072) : EReal := a0 (ix2 i j)

/-- The scores of a row and a head. -/
abbrev scores (a0 : FVec Ideal Cert.AttnARefIdeal.S8192x3072 .bf16) (i : Fin 8192) (g : ℕ) (hg : g < 8) : Fin 4096 → EReal :=
  Cert.Band.score 4096 (entries a0) i (i.val / 4096 * 4096) g hg (by omega)

/-- Zero, converted from an integer. -/
theorem sitofp_zero : (FloatOps.sitofp .f32 0#32 : Ideal .f32) = (0 : EReal) := by
  show ((((0#32 : BitVec 32).toInt : ℝ)) : EReal) = 0
  simp

/-- An entry of the reference's output. -/
theorem ref_out (a0 : FVec Ideal Cert.AttnARefIdeal.S8192x3072 .bf16) (y : S8192x1024.Idx) (i : Fin 8192) (j : Fin 1024) (hy : y = ix2 i j) :
    (ref_v32 a0 y : EReal) = ∑ k : Fin 4096, Cert.Band.weight (i.val % 4096) (scores a0 i (j.val / 128) (by omega)) k
      * entries a0 ⟨i.val / 4096 * 4096 + k.val, by omega⟩ ⟨2048 + j.val, by omega⟩ := by
  subst hy
  pointwise [ref_v32]
  refine Finset.sum_congr rfl fun k _ => (mul_comm _ _).trans ?_
  refine congrArg₂ (fun x y : EReal => x * y) ?_ ?_
  · refine Cert.Band.weight_row (p := i.val % 4096) (n := 4096) (by omega) (by omega) (a := scores a0 i (j.val / 128) (by omega))
      (a2 := Cert.Band.score 4096 (entries a0) ⟨i.val / 4096 * 4096 + i.val % 4096, by omega⟩ (i.val / 4096 * 4096) (j.val / 128) (by omega) (by omega))
      (fun k => ?_) Cert.Band.scale_eq Cert.Band.ofBits_bot Cert.Band.ofBits_bot k
    rw [show (⟨i.val / 4096 * 4096 + i.val % 4096, by omega⟩ : Fin 8192) = i from Fin.ext (by simp only; omega)]
  · unfold entries
    blk_point

/-- An entry of the reference's maxima. -/
theorem ref_max (a0 : FVec Ideal Cert.AttnARefIdeal.S8192x3072 .bf16) (y : S8192x128.Idx) (i : Fin 8192) (j : Fin 128) (hy : y = ix2 i j) (hj : j.val < 8) :
    (ref_v35 a0 y : EReal) = Cert.Band.rowMax (Cert.Band.band (i.val % 4096) (scores a0 i j.val hj)) := by
  subst hy
  pointwise [ref_v35]
  refine (dif_pos hj).trans ?_
  refine (Cert.Band.max_row (p := i.val % 4096) (n := 4096) (by omega) (by omega)
      (a := Cert.Band.score 4096 (entries a0) ⟨i.val / 4096 * 4096 + i.val % 4096, by omega⟩ (i.val / 4096 * 4096) j.val (by omega) (by omega))
      Cert.Band.scale_eq Cert.Band.ofBits_bot Cert.Band.ofBits_bot).trans ?_
  rw [show (⟨i.val / 4096 * 4096 + i.val % 4096, by omega⟩ : Fin 8192) = i from Fin.ext (by simp only; omega)]

/-- An entry of the reference's denominators. -/
theorem ref_sum (a0 : FVec Ideal Cert.AttnARefIdeal.S8192x3072 .bf16) (y : S8192x128.Idx) (i : Fin 8192) (j : Fin 128) (hy : y = ix2 i j) (hj : j.val < 8) :
    (ref_v38 a0 y : EReal) = ∑ k : Fin 4096, Cert.Band.weight (i.val % 4096) (scores a0 i j.val hj) k := by
  subst hy
  pointwise [ref_v38]
  refine (dif_pos hj).trans ?_
  refine Finset.sum_congr rfl fun k _ => ?_
  refine Cert.Band.weight_row (p := i.val % 4096) (n := 4096) (by omega) (by omega) (a := scores a0 i j.val hj)
    (a2 := Cert.Band.score 4096 (entries a0) ⟨i.val / 4096 * 4096 + i.val % 4096, by omega⟩ (i.val / 4096 * 4096) j.val (by omega) (by omega))
    (fun k => ?_) Cert.Band.scale_eq Cert.Band.ofBits_bot Cert.Band.ofBits_bot k
  rw [show (⟨i.val / 4096 * 4096 + i.val % 4096, by omega⟩ : Fin 8192) = i from Fin.ext (by simp only; omega)]

/-- The lanes past the heads hold zero. -/
theorem ref_max_rest (a0 : FVec Ideal Cert.AttnARefIdeal.S8192x3072 .bf16) (y : S8192x128.Idx) (hj : ¬(y 1).val < 8) : (ref_v35 a0 y : EReal) = 0 := by
  pointwise [ref_v35]
  exact (dif_neg hj).trans sitofp_zero

/-- The lanes past the heads hold zero. -/
theorem ref_sum_rest (a0 : FVec Ideal Cert.AttnARefIdeal.S8192x3072 .bf16) (y : S8192x128.Idx) (hj : ¬(y 1).val < 8) : (ref_v38 a0 y : EReal) = 0 := by
  pointwise [ref_v38]
  exact (dif_neg hj).trans sitofp_zero

end Cert.AttnARefIdeal.Own

end
-- ==== Proof.Stores.lean ====
module

public import Idealize.ShloMosaic.Lib.Pipeline.ValueKit
public import Idealize.ShloMosaic.Lib.Pipeline.ReadBack
public import Idealize.ShloMosaic.Lib.Pointwise

@[expose] public section

noncomputable section

open Idealize.ShloMosaic Idealize.ShloMosaic.TcCoe Idealize.SL.Sem

namespace Cert.Stores

variable {S : Shape} {e : EltTy} {N : ℕ}

/-- The stores numbered below `k`, the last first. -/
def listed (P : (n : ℕ) → n < N → View.Piece (Elt Ideal) S e) : (k : ℕ) → k ≤ N → List (View.Piece (Elt Ideal) S e)
  | 0, _ => []
  | k + 1, h => P k h :: listed P k (Nat.le_of_succ_le h)

/-- A store is in the list of those up to it. -/
theorem mem_listed (P : (n : ℕ) → n < N → View.Piece (Elt Ideal) S e) (n : ℕ) (hn : n < N) :
    ∀ (k : ℕ) (hk : k ≤ N), n < k → P n hn ∈ listed P k hk
  | 0, _, h => absurd h (Nat.not_lt_zero n)
  | k + 1, hk, h => by
    by_cases hnk : n = k
    · subst hnk
      exact List.mem_cons_self
    · exact List.mem_cons_of_mem _ (mem_listed P n hn k _ (by omega))

/-- Where every store leaves the values of one array, so do all of them. -/
theorem listed_pieces (P : (n : ℕ) → n < N → View.Piece (Elt Ideal) S e) (G : S.Idx → Elt Ideal e)
    (hP : ∀ n hn x, (P n hn).2 x = G ((P n hn).1.emb x)) : ∀ (k : ℕ) (hk : k ≤ N), View.PiecesOf G (listed P k hk)
  | 0, _ => trivial
  | k + 1, _ => ⟨hP k _, listed_pieces P G hP k _⟩

/-- What the stores leave at an index that one of them writes, whatever was stored before. -/
theorem listed_apply (P : (n : ℕ) → n < N → View.Piece (Elt Ideal) S e) (G : S.Idx → Elt Ideal e)
    (hP : ∀ n hn x, (P n hn).2 x = G ((P n hn).1.emb x)) (L : List (View.Piece (Elt Ideal) S e)) (y : S.Idx)
    (hy : ∃ n hn, y ∈ (P n hn).1.set) : View.canon (listed P N le_rfl ++ L) y = G y := by
  obtain ⟨n, hn, h⟩ := hy
  exact View.canon_append_of_piecesOf G L _ (listed_pieces P G hP N le_rfl) y ⟨_, mem_listed P n hn N le_rfl hn, h⟩

/-- At an index that none of the stores writes stands what was stored before. -/
theorem listed_rest (P : (n : ℕ) → n < N → View.Piece (Elt Ideal) S e) (L : List (View.Piece (Elt Ideal) S e)) (y : S.Idx)
    (hy : ∀ n hn, y ∉ (P n hn).1.set) : ∀ (k : ℕ) (hk : k ≤ N), View.canon (listed P k hk ++ L) y = View.canon L y
  | 0, _ => rfl
  | k + 1, hk => (View.canon_cons_of_not_mem _ _ (hy k hk)).trans (listed_rest P L y hy k _)

end Cert.Stores

end
-- ==== Proof.AttnAValue.lean ====
module

public import proofs.«01_k».proof.Proof.Gen.AttnAIdeal.Frame
public import proofs.«01_k».proof.Proof.Gen.AttnARefIdeal.Run
public import Idealize.ShloMosaic.Lib.Pipeline.ValueKit
public import Idealize.ShloMosaic.Lib.Pointwise
public import Idealize.ShloMosaic.Lib.Claim
public import proofs.«01_k».proof.Proof.Tile
public import proofs.«01_k».proof.Proof.AttnARef
public import proofs.«01_k».proof.Proof.Stores

@[expose] public section

set_option maxRecDepth 16384

noncomputable section

open Idealize.ShloMosaic Idealize.ShloMosaic.TcCoe Idealize.SL.Sem
open Idealize.ShloMosaic.Pipeline (Dat)

namespace Cert.AttnAIdeal.Own

open Cert.AttnAIdeal Cert.AttnAIdeal.Gen

variable (m : (ℓ : Loc nD τ sig) → Buf (Elt Ideal) ℓ)

/-- Every window's block index at every grid point, in closed form (decided). -/
theorem idx_val : ∀ t : Fin cfg0.N, win0_0.index t = ![(t.val / 4) * 4 + (t.val % 4), 0]
    ∧ win0_1.index t = ![t.val / 4, 1]
    ∧ win0_2.index t = ![t.val / 4, 2]
    ∧ win0_3.index t = ![(t.val / 4) * 4 + (t.val % 4), 0]
    ∧ win0_4.index t = ![(t.val / 4) * 4 + (t.val % 4), 0]
    ∧ win0_5.index t = ![(t.val / 4) * 4 + (t.val % 4), 0] :=
  (by decide +kernel : ∀ t : Fin grid0.N, _)

/-- The queries of a grid point's block. -/
abbrev queries (c : Dev nD) (t : Fin cfg0.N) : FVec Ideal S1024x1024 .bf16 := iblk m c 0 t

/-- The keys of a grid point's block. -/
abbrev keys (c : Dev nD) (t : Fin cfg0.N) : FVec Ideal S4096x1024 .bf16 := iblk m c 1 t

/-- The values of a grid point's block. -/
abbrev values (c : Dev nD) (t : Fin cfg0.N) : FVec Ideal S4096x1024 .bf16 := iblk m c 2 t

/-- A tile of 128 queries of one head, from row `ra` of the block. -/
abbrev tileQ (c : Dev nD) (t : Fin cfg0.N) (ra ca : ℕ) (h : ∀ a : Fin S1024x1024.rank, ![ra, ca] a + ![128, 128] a ≤ S1024x1024.size a) : FVec Ideal S128x128 .bf16 :=
  View.ld (Val := Elt Ideal) (e' := .bf16) (queries m c t) (Rect.unit (s := S1024x1024) ![ra, ca] ![128, 128] h)

/-- A tile of 256 keys of one head, from row `ka` of the block. -/
abbrev tileK (c : Dev nD) (t : Fin cfg0.N) (ka ca : ℕ) (h : ∀ a : Fin S4096x1024.rank, ![ka, ca] a + ![256, 128] a ≤ S4096x1024.size a) : FVec Ideal S256x128 .bf16 :=
  View.ld (Val := Elt Ideal) (e' := .bf16) (keys m c t) (Rect.unit (s := S4096x1024) ![ka, ca] ![256, 128] h)

/-- A tile of 256 values of one head, from row `ka` of the block. -/
abbrev tileV (c : Dev nD) (t : Fin cfg0.N) (ka ca : ℕ) (h : ∀ a : Fin S4096x1024.rank, ![ka, ca] a + ![256, 128] a ≤ S4096x1024.size a) : FVec Ideal S256x128 .bf16 :=
  View.ld (Val := Elt Ideal) (e' := .bf16) (values m c t) (Rect.unit (s := S4096x1024) ![ka, ca] ![256, 128] h)

/-- The products of a tile's queries and keys are scores of the argument. -/
theorem products (c : Dev nD) (t : Fin cfg0.N) {ra ka ca b : ℕ} (hca : ca = 128 * b) (hb : b < 8) (hst : ka + 256 ≤ 4096) (h1) (h2)
    (r : Fin 128) (i : Fin 8192) (hi : i.val = 1024 * t.val + ra + r.val) (hka : i.val / 4096 * 4096 = 4096 * (t.val / 4)) (j : Fin 256) :
    ∑ e : Fin 128, (tileQ m c t ra ca h1 (ix2 r e) : EReal) * tileK m c t ka ca h2 (ix2 j e)
      = Cert.AttnARefIdeal.Own.scores (m ((c : Thread nD τ).loc main_arg0)) i b hb (Cert.Band.place ka hst j) := by
  have ht : t.val < 8 := t.isLt
  subst hca
  unfold Cert.AttnARefIdeal.Own.scores Cert.Band.score Cert.AttnARefIdeal.Own.entries Cert.Band.place tileQ tileK
  refine Finset.sum_congr rfl fun e _ => ?_
  blk_point [iblk, V, idx_val t]

/-- One tile of the output. -/
theorem piece_out (c : Dev nD) (t : Fin cfg0.N) (ra ka ca b l0 : ℕ) (d : BitVec 32) (hca : ca = 128 * b) (hb : b < 8) (hl : Cert.Tile.Placed 4096 l0 ka d)
    (hra : ra + 128 ≤ 1024) (hka : 1024 * (t.val % 4) + ra = l0) (h1) (h2) (h3) (x) :
    (Cert.Tile.out d (tileQ m c t ra ca h1) (tileK m c t ka ca h2) (tileV m c t ka ca h3) x : EReal)
      = Cert.AttnARefIdeal.Own.ref_v32 (m ((c : Thread nD τ).loc main_arg0)) (((cfg0.win 3).blk t).view.emb ((Rect.unit (s := S1024x1024) ![ra, ca] ![128, 128] h1).emb x)) := by
  have ht : t.val < 8 := t.isLt
  have hx0 : (x 0).val < 128 := (x 0).isLt
  have hx1 : (x 1).val < 128 := (x 1).isLt
  have hq := hl.query
  rw [Cert.AttnARefIdeal.Own.ref_out _ _ ⟨1024 * t.val + ra + (x 0).val, by omega⟩ ⟨ca + (x 1).val, by omega⟩ (by blk_point [idx_val t])]
  refine (Cert.Tile.out_at hl _ _ _ x
    (Cert.AttnARefIdeal.Own.scores (m ((c : Thread nD τ).loc main_arg0)) ⟨1024 * t.val + ra + (x 0).val, by omega⟩ b hb)
    (fun k => Cert.AttnARefIdeal.Own.entries (m ((c : Thread nD τ).loc main_arg0)) ⟨4096 * (t.val / 4) + k.val, by omega⟩ ⟨2048 + (ca + (x 1).val), by omega⟩)
    (fun j => products m c t hca hb hl.keys h1 h2 (x 0) _ rfl (by simp only; omega) j) (fun j => ?_)).trans ?_
  · unfold tileV Cert.AttnARefIdeal.Own.entries Cert.Band.place
    blk_point [iblk, V, idx_val t]
  · refine Finset.sum_congr rfl fun k _ => ?_
    have e1 : l0 + (x 0).val = (1024 * t.val + ra + (x 0).val) % 4096 := by omega
    have e2 : b = (ca + (x 1).val) / 128 := by omega
    subst e2
    have e3 : (1024 * t.val + ra + (x 0).val) / 4096 * 4096 = 4096 * (t.val / 4) := by omega
    simp only [e1, e3]

/-- One tile of the maxima. -/
theorem piece_max (c : Dev nD) (t : Fin cfg0.N) (ra ka ca b l0 : ℕ) (d : BitVec 32) (hca : ca = 128 * b) (hb : b < 8) (hl : Cert.Tile.Placed 4096 l0 ka d)
    (hra : ra + 128 ≤ 1024) (hka : 1024 * (t.val % 4) + ra = l0) (h1) (h2) (h4) (x) :
    (Cert.Tile.maxima d (tileQ m c t ra ca h1) (tileK m c t ka ca h2) x : EReal)
      = Cert.AttnARefIdeal.Own.ref_v35 (m ((c : Thread nD τ).loc main_arg0)) (((cfg0.win 4).blk t).view.emb ((Rect.unit (s := S1024x128) ![ra, b] ![128, 1] h4).emb x)) := by
  have ht : t.val < 8 := t.isLt
  have hx0 : (x 0).val < 128 := (x 0).isLt
  have hx1 : (x 1).val < 1 := (x 1).isLt
  have hq := hl.query
  rw [Cert.AttnARefIdeal.Own.ref_max _ _ ⟨1024 * t.val + ra + (x 0).val, by omega⟩ ⟨b, by omega⟩ (by blk_point [idx_val t]) hb]
  refine (Cert.Tile.maxima_at hl _ _ x
    (Cert.AttnARefIdeal.Own.scores (m ((c : Thread nD τ).loc main_arg0)) ⟨1024 * t.val + ra + (x 0).val, by omega⟩ b hb)
    (fun j => products m c t hca hb hl.keys h1 h2 (x 0) _ rfl (by simp only; omega) j)).trans ?_
  have e1 : l0 + (x 0).val = (1024 * t.val + ra + (x 0).val) % 4096 := by omega
  simp only [e1]

/-- One tile of the denominators. -/
theorem piece_sum (c : Dev nD) (t : Fin cfg0.N) (ra ka ca b l0 : ℕ) (d : BitVec 32) (hca : ca = 128 * b) (hb : b < 8) (hl : Cert.Tile.Placed 4096 l0 ka d)
    (hra : ra + 128 ≤ 1024) (hka : 1024 * (t.val % 4) + ra = l0) (h1) (h2) (h4) (x) :
    (Cert.Tile.sums d (tileQ m c t ra ca h1) (tileK m c t ka ca h2) x : EReal)
      = Cert.AttnARefIdeal.Own.ref_v38 (m ((c : Thread nD τ).loc main_arg0)) (((cfg0.win 5).blk t).view.emb ((Rect.unit (s := S1024x128) ![ra, b] ![128, 1] h4).emb x)) := by
  have ht : t.val < 8 := t.isLt
  have hx0 : (x 0).val < 128 := (x 0).isLt
  have hx1 : (x 1).val < 1 := (x 1).isLt
  have hq := hl.query
  rw [Cert.AttnARefIdeal.Own.ref_sum _ _ ⟨1024 * t.val + ra + (x 0).val, by omega⟩ ⟨b, by omega⟩ (by blk_point [idx_val t]) hb]
  refine (Cert.Tile.sums_at hl _ _ x
    (Cert.AttnARefIdeal.Own.scores (m ((c : Thread nD τ).loc main_arg0)) ⟨1024 * t.val + ra + (x 0).val, by omega⟩ b hb)
    (fun j => products m c t hca hb hl.keys h1 h2 (x 0) _ rfl (by simp only; omega) j)).trans ?_
  have e1 : l0 + (x 0).val = (1024 * t.val + ra + (x 0).val) % 4096 := by omega
  simp only [e1]

/-- The position of a tile's first query in its sequence, as the kernel computes it for the rows from `w` of block `t`. -/
def baseWord (t : Fin cfg0.N) (w : BitVec 32) : BitVec 32 :=
  Scalar.addi (Scalar.muli (BitVec.ofNat 32 (grid0.coords t 1).val) 1024#32) w

/-- The position of the tile's first key, as the kernel computes it. -/
def startWord (t : Fin cfg0.N) (w : BitVec 32) : BitVec 32 :=
  Scalar.minsi 3840#32 (Scalar.maxsi 0#32 (Scalar.subi (baseWord t w) 64#32))

/-- The first query's position less the first key's. -/
def diffWord (t : Fin cfg0.N) (w : BitVec 32) : BitVec 32 := Scalar.subi (baseWord t w) (startWord t w)

/-- The rows of store `n`, as a word. -/
def rowWord (n : ℕ) : BitVec 32 := BitVec.ofNat 32 (128 * (n / 8))

/-- The position of the first query of store `n`. -/
def first (t : Fin cfg0.N) (n : ℕ) : ℕ := 1024 * (t.val % 4) + 128 * (n / 8)

/-- The words' values at every block and every row of tiles (decided). -/
theorem words : ∀ (t : Fin cfg0.N) (b : Fin 8), (startWord t (BitVec.ofNat 32 (128 * b.val))).toNat = min 3840 (first t (8 * b.val) - 64)
    ∧ diffWord t (BitVec.ofNat 32 (128 * b.val)) = BitVec.ofInt 32 ((first t (8 * b.val) : ℤ) - (min 3840 (first t (8 * b.val) - 64) : ℕ)) :=
  (by decide +kernel : ∀ (t : Fin grid0.N) (b : Fin 8), _)

/-- The first key's position of store `n`. -/
theorem start_val (t : Fin cfg0.N) (n : ℕ) (hn : n < 64) : (startWord t (rowWord n)).toNat = min 3840 (first t n - 64) := by
  have h := (words t ⟨n / 8, by omega⟩).1
  have e : first t (8 * (n / 8)) = first t n := by unfold first; omega
  rw [← e]
  exact h

/-- Store `n`'s rows and columns lie in the block. -/
theorem rows_in (n : ℕ) (hn : n < 64) : ∀ a : Fin S1024x1024.rank, ![128 * (n / 8), 128 * (n % 8)] a + ![128, 128] a ≤ S1024x1024.size a := by
  intro a
  fin_cases a
  · show 128 * (n / 8) + 128 ≤ 1024
    omega
  · show 128 * (n % 8) + 128 ≤ 1024
    omega

/-- So do its keys'. -/
theorem keys_in (t : Fin cfg0.N) (n : ℕ) (hn : n < 64) : ∀ a : Fin S4096x1024.rank, ![(startWord t (rowWord n)).toNat, 128 * (n % 8)] a + ![256, 128] a ≤ S4096x1024.size a := by
  intro a
  fin_cases a
  · show (startWord t (rowWord n)).toNat + 256 ≤ 4096
    rw [start_val t n hn]
    omega
  · show 128 * (n % 8) + 128 ≤ 1024
    omega

/-- So do its rows and its lane. -/
theorem lane_in (n : ℕ) (hn : n < 64) : ∀ a : Fin S1024x128.rank, ![128 * (n / 8), n % 8] a + ![128, 1] a ≤ S1024x128.size a := by
  intro a
  fin_cases a
  · show 128 * (n / 8) + 128 ≤ 1024
    omega
  · show n % 8 + 1 ≤ 128
    omega

/-- Store `n` of the output: 128 rows of one head. -/
def outPiece (t : Fin cfg0.N) (q : FVec Ideal S1024x1024 .bf16) (k v : FVec Ideal S4096x1024 .bf16) (n : ℕ) (hn : n < 64) : View.Piece (Elt Ideal) S1024x1024 .bf16 :=
  ⟨Rect.unit (s := S1024x1024) ![128 * (n / 8), 128 * (n % 8)] ![128, 128] (rows_in n hn),
    Cert.Tile.out (diffWord t (rowWord n))
      (View.ld (Val := Elt Ideal) (e' := .bf16) q (Rect.unit (s := S1024x1024) ![128 * (n / 8), 128 * (n % 8)] ![128, 128] (rows_in n hn)))
      (View.ld (Val := Elt Ideal) (e' := .bf16) k (Rect.unit (s := S4096x1024) ![(startWord t (rowWord n)).toNat, 128 * (n % 8)] ![256, 128] (keys_in t n hn)))
      (View.ld (Val := Elt Ideal) (e' := .bf16) v (Rect.unit (s := S4096x1024) ![(startWord t (rowWord n)).toNat, 128 * (n % 8)] ![256, 128] (keys_in t n hn)))⟩

/-- Store `n` of the maxima: 128 rows of one lane. -/
def maxPiece (t : Fin cfg0.N) (q : FVec Ideal S1024x1024 .bf16) (k : FVec Ideal S4096x1024 .bf16) (n : ℕ) (hn : n < 64) : View.Piece (Elt Ideal) S1024x128 .f32 :=
  ⟨Rect.unit (s := S1024x128) ![128 * (n / 8), n % 8] ![128, 1] (lane_in n hn),
    Cert.Tile.maxima (diffWord t (rowWord n))
      (View.ld (Val := Elt Ideal) (e' := .bf16) q (Rect.unit (s := S1024x1024) ![128 * (n / 8), 128 * (n % 8)] ![128, 128] (rows_in n hn)))
      (View.ld (Val := Elt Ideal) (e' := .bf16) k (Rect.unit (s := S4096x1024) ![(startWord t (rowWord n)).toNat, 128 * (n % 8)] ![256, 128] (keys_in t n hn)))⟩

/-- Store `n` of the denominators: 128 rows of one lane. -/
def sumPiece (t : Fin cfg0.N) (q : FVec Ideal S1024x1024 .bf16) (k : FVec Ideal S4096x1024 .bf16) (n : ℕ) (hn : n < 64) : View.Piece (Elt Ideal) S1024x128 .f32 :=
  ⟨Rect.unit (s := S1024x128) ![128 * (n / 8), n % 8] ![128, 1] (lane_in n hn),
    Cert.Tile.sums (diffWord t (rowWord n))
      (View.ld (Val := Elt Ideal) (e' := .bf16) q (Rect.unit (s := S1024x1024) ![128 * (n / 8), 128 * (n % 8)] ![128, 128] (rows_in n hn)))
      (View.ld (Val := Elt Ideal) (e' := .bf16) k (Rect.unit (s := S4096x1024) ![(startWord t (rowWord n)).toNat, 128 * (n % 8)] ![256, 128] (keys_in t n hn)))⟩

/-- Where store `n`'s tile lies in its sequence of 4096 positions. -/
theorem placed (t : Fin cfg0.N) (n : ℕ) (hn : n < 64) : Cert.Tile.Placed 4096 (first t n) (startWord t (rowWord n)).toNat (diffWord t (rowWord n)) := by
  have hf : first t n + 128 ≤ 4096 := by
    have ht : t.val < 8 := t.isLt
    unfold first
    omega
  have hs := start_val t n hn
  refine ⟨?_, by omega, by omega, hf, by omega, by omega⟩
  have h := (words t ⟨n / 8, by omega⟩).2
  have e : first t (8 * (n / 8)) = first t n := by unfold first; omega
  rw [hs, ← e]
  exact h

/-- What the stores of the output leave. -/
theorem outStores (c : Dev nD) (t : Fin cfg0.N) (y : S1024x1024.Idx) :
    View.canon (Cert.Stores.listed (outPiece t (queries m c t) (keys m c t) (values m c t)) 64 le_rfl ++ []) y
      = Cert.AttnARefIdeal.Own.ref_v32 (m ((c : Thread nD τ).loc main_arg0)) (((cfg0.win 3).blk t).view.emb y) := by
  have hy0 : (y 0).val < 1024 := (y 0).isLt
  have hy1 : (y 1).val < 1024 := (y 1).isLt
  refine Cert.Stores.listed_apply (e := .bf16) (outPiece t (queries m c t) (keys m c t) (values m c t)) (fun y => Cert.AttnARefIdeal.Own.ref_v32 (m ((c : Thread nD τ).loc main_arg0)) (((cfg0.win 3).blk t).view.emb y))
    (fun n hn x => ?_) [] y ⟨(y 0).val / 128 * 8 + (y 1).val / 128, by omega, ?_⟩
  · exact piece_out m c t (128 * (n / 8)) _ _ (n % 8) _ _ rfl (by omega) (placed t n hn) (by omega) rfl (rows_in n hn) (keys_in t n hn) (keys_in t n hn) x
  · refine (Rect.mem_set_unit (inb := rows_in _ (by omega))).mpr fun a => ?_
    fin_cases a
    · show 128 * (((y 0).val / 128 * 8 + (y 1).val / 128) / 8) ≤ (y 0).val ∧ (y 0).val < 128 * (((y 0).val / 128 * 8 + (y 1).val / 128) / 8) + 128
      omega
    · show 128 * (((y 0).val / 128 * 8 + (y 1).val / 128) % 8) ≤ (y 1).val ∧ (y 1).val < 128 * (((y 0).val / 128 * 8 + (y 1).val / 128) % 8) + 128
      omega

/-- The first store into the maxima and the denominators: zero everywhere. -/
def fill (h : ∀ a : Fin S1024x128.rank, ![0, 0] a + ![1024, 128] a ≤ S1024x128.size a) : View.Piece (Elt Ideal) S1024x128 .f32 :=
  ⟨Rect.unit (s := S1024x128) ![0, 0] ![1024, 128] h, broadcast S1024x128 (Scalar.ofBits (F := Ideal) .f32 0x00000000#32)⟩

/-- What it leaves. -/
theorem fill_apply (h : ∀ a : Fin S1024x128.rank, ![0, 0] a + ![1024, 128] a ≤ S1024x128.size a) (y : S1024x128.Idx) : (View.canon [fill h] y : EReal) = 0 := by
  refine (congrFun (View.canon_cons_unit_lit (S := S1024x128) (off := ![0, 0]) h _ [] (by decide)) y).trans ?_
  pointwise

/-- What the stores of the maxima leave. -/
theorem maxStores (c : Dev nD) (t : Fin cfg0.N) (h) (y : S1024x128.Idx) :
    View.canon (Cert.Stores.listed (maxPiece t (queries m c t) (keys m c t)) 64 le_rfl ++ [fill h]) y
      = Cert.AttnARefIdeal.Own.ref_v35 (m ((c : Thread nD τ).loc main_arg0)) (((cfg0.win 4).blk t).view.emb y) := by
  have hy0 : (y 0).val < 1024 := (y 0).isLt
  by_cases hy1 : (y 1).val < 8
  · refine Cert.Stores.listed_apply (e := .f32) (maxPiece t (queries m c t) (keys m c t)) (fun y => Cert.AttnARefIdeal.Own.ref_v35 (m ((c : Thread nD τ).loc main_arg0)) (((cfg0.win 4).blk t).view.emb y))
      (fun n hn x => ?_) [fill h] y ⟨(y 0).val / 128 * 8 + (y 1).val, by omega, ?_⟩
    · exact piece_max m c t (128 * (n / 8)) _ _ (n % 8) _ _ rfl (by omega) (placed t n hn) (by omega) rfl (rows_in n hn) (keys_in t n hn) (lane_in n hn) x
    · refine (Rect.mem_set_unit (inb := lane_in _ (by omega))).mpr fun a => ?_
      fin_cases a
      · show 128 * (((y 0).val / 128 * 8 + (y 1).val) / 8) ≤ (y 0).val ∧ (y 0).val < 128 * (((y 0).val / 128 * 8 + (y 1).val) / 8) + 128
        omega
      · show ((y 0).val / 128 * 8 + (y 1).val) % 8 ≤ (y 1).val ∧ (y 1).val < ((y 0).val / 128 * 8 + (y 1).val) % 8 + 1
        omega
  · refine (Cert.Stores.listed_rest _ [fill h] y (fun n hn hm => ?_) 64 le_rfl).trans ((fill_apply h y).trans ?_)
    · have hm1 : n % 8 ≤ (y 1).val ∧ (y 1).val < n % 8 + 1 := (Rect.mem_set_unit (inb := lane_in n hn)).mp hm 1
      omega
    · refine (Cert.AttnARefIdeal.Own.ref_max_rest _ _ ?_).symm
      have e : ((((cfg0.win 4).blk t).view.emb y) 1).val = (y 1).val := by blk_point [idx_val t]
      omega

/-- What the stores of the denominators leave. -/
theorem sumStores (c : Dev nD) (t : Fin cfg0.N) (h) (y : S1024x128.Idx) :
    View.canon (Cert.Stores.listed (sumPiece t (queries m c t) (keys m c t)) 64 le_rfl ++ [fill h]) y
      = Cert.AttnARefIdeal.Own.ref_v38 (m ((c : Thread nD τ).loc main_arg0)) (((cfg0.win 5).blk t).view.emb y) := by
  have hy0 : (y 0).val < 1024 := (y 0).isLt
  by_cases hy1 : (y 1).val < 8
  · refine Cert.Stores.listed_apply (e := .f32) (sumPiece t (queries m c t) (keys m c t)) (fun y => Cert.AttnARefIdeal.Own.ref_v38 (m ((c : Thread nD τ).loc main_arg0)) (((cfg0.win 5).blk t).view.emb y))
      (fun n hn x => ?_) [fill h] y ⟨(y 0).val / 128 * 8 + (y 1).val, by omega, ?_⟩
    · exact piece_sum m c t (128 * (n / 8)) _ _ (n % 8) _ _ rfl (by omega) (placed t n hn) (by omega) rfl (rows_in n hn) (keys_in t n hn) (lane_in n hn) x
    · refine (Rect.mem_set_unit (inb := lane_in _ (by omega))).mpr fun a => ?_
      fin_cases a
      · show 128 * (((y 0).val / 128 * 8 + (y 1).val) / 8) ≤ (y 0).val ∧ (y 0).val < 128 * (((y 0).val / 128 * 8 + (y 1).val) / 8) + 128
        omega
      · show ((y 0).val / 128 * 8 + (y 1).val) % 8 ≤ (y 1).val ∧ (y 1).val < ((y 0).val / 128 * 8 + (y 1).val) % 8 + 1
        omega
  · refine (Cert.Stores.listed_rest _ [fill h] y (fun n hn hm => ?_) 64 le_rfl).trans ((fill_apply h y).trans ?_)
    · have hm1 : n % 8 ≤ (y 1).val ∧ (y 1).val < n % 8 + 1 := (Rect.mem_set_unit (inb := lane_in n hn)).mp hm 1
      omega
    · refine (Cert.AttnARefIdeal.Own.ref_sum_rest _ _ ?_).symm
      have e : ((((cfg0.win 5).blk t).view.emb y) 1).val = (y 1).val := by blk_point [idx_val t]
      omega

/-- The launch leaves the reference's output. -/
theorem final_3 (c : Dev nD) : (dats m 0 c).arrAt 3 (cfgs 0).N = Cert.AttnARefIdeal.Own.ref_v32 (m ((c : Thread nD τ).loc main_arg0)) := by
  refine (dats m 0 c).arrAt_eq_of_covers 3 _ (by decide +kernel) fun t hf y => ?_
  blk_simp; rw [after0_3]
  unfold outsAt0; dsimp only; frame_out
  refine Eq.trans (congrFun (congrArg View.canon ?_) y) (outStores m c t y)
  sl_kernel_rfl

/-- The launch leaves the reference's maxima. -/
theorem final_4 (c : Dev nD) : (dats m 0 c).arrAt 4 (cfgs 0).N = Cert.AttnARefIdeal.Own.ref_v35 (m ((c : Thread nD τ).loc main_arg0)) := by
  refine (dats m 0 c).arrAt_eq_of_covers 4 _ (by decide +kernel) fun t hf y => ?_
  blk_simp; rw [after0_4]
  unfold outsAt0; dsimp only; frame_out
  refine Eq.trans (congrFun (congrArg View.canon ?_) y) (maxStores m c t (by decide) y)
  sl_kernel_rfl

/-- The launch leaves the reference's denominators. -/
theorem final_5 (c : Dev nD) : (dats m 0 c).arrAt 5 (cfgs 0).N = Cert.AttnARefIdeal.Own.ref_v38 (m ((c : Thread nD τ).loc main_arg0)) := by
  refine (dats m 0 c).arrAt_eq_of_covers 5 _ (by decide +kernel) fun t hf y => ?_
  blk_simp; rw [after0_5]
  unfold outsAt0; dsimp only; frame_out
  refine Eq.trans (congrFun (congrArg View.canon ?_) y) (sumStores m c t (by decide) y)
  sl_kernel_rfl

end Cert.AttnAIdeal.Own

end
-- ==== Proof.AttnBRef.lean ====
module

public import proofs.«01_k».proof.Proof.Gen.AttnBRefIdeal.Run
public import Idealize.ShloMosaic.Lib.Pipeline.ValueKit
public import Idealize.ShloMosaic.Lib.Pointwise
public import Idealize.ShloMosaic.Lib.Claim
public import proofs.«01_k».proof.Proof.Band

@[expose] public section

set_option maxRecDepth 16384

noncomputable section

open Idealize.ShloMosaic Idealize.ShloMosaic.TcCoe Idealize.SL.Sem
open Idealize.ShloMosaic.Pipeline (Dat)

namespace Cert.AttnBRefIdeal.Own

open Cert.AttnBRefIdeal Cert.AttnBRefIdeal.Gen

/-- The result `main_v32` of the reference, as a term of its arguments. -/
abbrev ref_v32 (a0 : FVec Ideal Cert.AttnBRefIdeal.S8192x3072 .bf16) : FVec Ideal Cert.AttnBRefIdeal.S8192x1024 .bf16 :=
  truncf .bf16 (shapeCast _ (transpose S8x1024x8x128 [0, 3, 1, 2] (Host.dotGeneral dot_S8x1024x8x128_S8x8x1024x1024_S8x8x128x1024_1_3_3_2_02_01 none (shapeCast _ (extractStridedSlice S8x1024x1x8x128 ![0, 0, 2, 0, 0] (shapeCast _ (extf .f32 a0 bitsLt_bf16_f32) shapeCasts_S8192x3072_S8x1024x3x8x128) slices_S8x1024x3x8x128_S8x1024x1x8x128_0_0_2_0_0) shapeCasts_S8x1024x1x8x128_S8x1024x8x128) (Host.exp (subf (select (broadcastInDim S8x8x1024x1024 ![2, 3] bcast_S1024x1024_S8x8x1024x1024_2_3 (cmpi .sle (absi (subi (broadcastInDim S1024x1024 ![0, 1] bcast_S1024x1_S1024x1024_0_1 (broadcastInDim S1024x1 ![0] bcast_S1024_S1024x1_0 (iotaInDim S1024 32 0))) (broadcastInDim S1024x1024 ![0, 1] bcast_S1x1024_S1024x1024_0_1 (broadcastInDim S1x1024 ![1] bcast_S1024_S1x1024_1 (iotaInDim S1024 32 0))))) (broadcastInDim S1024x1024 ![] bcast_S_S1024x1024 (constantI S_ 32 64#32)))) (mulf (Host.dotGeneral dot_S8x1024x8x128_S8x1024x8x128_S8x8x1024x1024_3_3_1_1_02_02 none (shapeCast _ (extractStridedSlice S8x1024x1x8x128 ![0, 0, 0, 0, 0] (shapeCast _ (extf .f32 a0 bitsLt_bf16_f32) shapeCasts_S8192x3072_S8x1024x3x8x128) slices_S8x1024x3x8x128_S8x1024x1x8x128_0_0_0_0_0) shapeCasts_S8x1024x1x8x128_S8x1024x8x128) (shapeCast _ (extractStridedSlice S8x1024x1x8x128 ![0, 0, 1, 0, 0] (shapeCast _ (extf .f32 a0 bitsLt_bf16_f32) shapeCasts_S8192x3072_S8x1024x3x8x128) slices_S8x1024x3x8x128_S8x1024x1x8x128_0_0_1_0_0) shapeCasts_S8x1024x1x8x128_S8x1024x8x128)) (broadcastInDim S8x8x1024x1024 ![] bcast_S_S8x8x1024x1024 (Host.divf (constant S_ .f32 0x3F800000#32) (Host.sqrt (constant S_ .f32 0x43000000#32))))) (broadcastInDim S8x8x1024x1024 ![] bcast_S_S8x8x1024x1024 (id (constant S_ .f32 0xFF800000#32)))) (broadcastInDim S8x8x1024x1024 ![0, 1, 2, 3] bcast_S8x8x1024x1_S8x8x1024x1024_0_1_2_3 (broadcastInDim S8x8x1024x1 ![0, 1, 2] bcast_S8x8x1024_S8x8x1024x1_0_1_2 (Host.reduce FloatOps.maximumf (select (broadcastInDim S8x8x1024x1024 ![2, 3] bcast_S1024x1024_S8x8x1024x1024_2_3 (cmpi .sle (absi (subi (broadcastInDim S1024x1024 ![0, 1] bcast_S1024x1_S1024x1024_0_1 (broadcastInDim S1024x1 ![0] bcast_S1024_S1024x1_0 (iotaInDim S1024 32 0))) (broadcastInDim S1024x1024 ![0, 1] bcast_S1x1024_S1024x1024_0_1 (broadcastInDim S1x1024 ![1] bcast_S1024_S1x1024_1 (iotaInDim S1024 32 0))))) (broadcastInDim S1024x1024 ![] bcast_S_S1024x1024 (constantI S_ 32 64#32)))) (mulf (Host.dotGeneral dot_S8x1024x8x128_S8x1024x8x128_S8x8x1024x1024_3_3_1_1_02_02 none (shapeCast _ (extractStridedSlice S8x1024x1x8x128 ![0, 0, 0, 0, 0] (shapeCast _ (extf .f32 a0 bitsLt_bf16_f32) shapeCasts_S8192x3072_S8x1024x3x8x128) slices_S8x1024x3x8x128_S8x1024x1x8x128_0_0_0_0_0) shapeCasts_S8x1024x1x8x128_S8x1024x8x128) (shapeCast _ (extractStridedSlice S8x1024x1x8x128 ![0, 0, 1, 0, 0] (shapeCast _ (extf .f32 a0 bitsLt_bf16_f32) shapeCasts_S8192x3072_S8x1024x3x8x128) slices_S8x1024x3x8x128_S8x1024x1x8x128_0_0_1_0_0) shapeCasts_S8x1024x1x8x128_S8x1024x8x128)) (broadcastInDim S8x8x1024x1024 ![] bcast_S_S8x8x1024x1024 (Host.divf (constant S_ .f32 0x3F800000#32) (Host.sqrt (constant S_ .f32 0x43000000#32))))) (broadcastInDim S8x8x1024x1024 ![] bcast_S_S8x8x1024x1024 (id (constant S_ .f32 0xFF800000#32)))) (constant S_ .f32 0xFF800000#32) reducesTo_S8x8x1024x1024_S8x8x1024_d3 h_S_)))))) transposes_S8x8x128x1024_S8x1024x8x128_0_3_1_2) shapeCasts_S8x1024x8x128_S8192x1024) bitsLt_bf16_f32

/-- The result `main_v35` of the reference, as a term of its arguments. -/
abbrev ref_v35 (a0 : FVec Ideal Cert.AttnBRefIdeal.S8192x3072 .bf16) : FVec Ideal Cert.AttnBRefIdeal.S8192x128 .f32 :=
  pad S8192x128 ![0, 0] ![0, 120] ![0, 0] (shapeCast _ (transpose S8x1024x8 [0, 2, 1] (Host.reduce FloatOps.maximumf (select (broadcastInDim S8x8x1024x1024 ![2, 3] bcast_S1024x1024_S8x8x1024x1024_2_3 (cmpi .sle (absi (subi (broadcastInDim S1024x1024 ![0, 1] bcast_S1024x1_S1024x1024_0_1 (broadcastInDim S1024x1 ![0] bcast_S1024_S1024x1_0 (iotaInDim S1024 32 0))) (broadcastInDim S1024x1024 ![0, 1] bcast_S1x1024_S1024x1024_0_1 (broadcastInDim S1x1024 ![1] bcast_S1024_S1x1024_1 (iotaInDim S1024 32 0))))) (broadcastInDim S1024x1024 ![] bcast_S_S1024x1024 (constantI S_ 32 64#32)))) (mulf (Host.dotGeneral dot_S8x1024x8x128_S8x1024x8x128_S8x8x1024x1024_3_3_1_1_02_02 none (shapeCast _ (extractStridedSlice S8x1024x1x8x128 ![0, 0, 0, 0, 0] (shapeCast _ (extf .f32 a0 bitsLt_bf16_f32) shapeCasts_S8192x3072_S8x1024x3x8x128) slices_S8x1024x3x8x128_S8x1024x1x8x128_0_0_0_0_0) shapeCasts_S8x1024x1x8x128_S8x1024x8x128) (shapeCast _ (extractStridedSlice S8x1024x1x8x128 ![0, 0, 1, 0, 0] (shapeCast _ (extf .f32 a0 bitsLt_bf16_f32) shapeCasts_S8192x3072_S8x1024x3x8x128) slices_S8x1024x3x8x128_S8x1024x1x8x128_0_0_1_0_0) shapeCasts_S8x1024x1x8x128_S8x1024x8x128)) (broadcastInDim S8x8x1024x1024 ![] bcast_S_S8x8x1024x1024 (Host.divf (constant S_ .f32 0x3F800000#32) (Host.sqrt (constant S_ .f32 0x43000000#32))))) (broadcastInDim S8x8x1024x1024 ![] bcast_S_S8x8x1024x1024 (id (constant S_ .f32 0xFF800000#32)))) (constant S_ .f32 0xFF800000#32) reducesTo_S8x8x1024x1024_S8x8x1024_d3 h_S_) transposes_S8x8x1024_S8x1024x8_0_2_1) shapeCasts_S8x1024x8_S8192x8) (sitofp .f32 (constantI S_ 32 0#32)) pads_S8192x8_S8192x128_000_01200 h_S_

/-- The result `main_v38` of the reference, as a term of its arguments. -/
abbrev ref_v38 (a0 : FVec Ideal Cert.AttnBRefIdeal.S8192x3072 .bf16) : FVec Ideal Cert.AttnBRefIdeal.S8192x128 .f32 :=
  pad S8192x128 ![0, 0] ![0, 120] ![0, 0] (shapeCast _ (transpose S8x1024x8 [0, 2, 1] (Host.reduceAdd (Host.exp (subf (select (broadcastInDim S8x8x1024x1024 ![2, 3] bcast_S1024x1024_S8x8x1024x1024_2_3 (cmpi .sle (absi (subi (broadcastInDim S1024x1024 ![0, 1] bcast_S1024x1_S1024x1024_0_1 (broadcastInDim S1024x1 ![0] bcast_S1024_S1024x1_0 (iotaInDim S1024 32 0))) (broadcastInDim S1024x1024 ![0, 1] bcast_S1x1024_S1024x1024_0_1 (broadcastInDim S1x1024 ![1] bcast_S1024_S1x1024_1 (iotaInDim S1024 32 0))))) (broadcastInDim S1024x1024 ![] bcast_S_S1024x1024 (constantI S_ 32 64#32)))) (mulf (Host.dotGeneral dot_S8x1024x8x128_S8x1024x8x128_S8x8x1024x1024_3_3_1_1_02_02 none (shapeCast _ (extractStridedSlice S8x1024x1x8x128 ![0, 0, 0, 0, 0] (shapeCast _ (extf .f32 a0 bitsLt_bf16_f32) shapeCasts_S8192x3072_S8x1024x3x8x128) slices_S8x1024x3x8x128_S8x1024x1x8x128_0_0_0_0_0) shapeCasts_S8x1024x1x8x128_S8x1024x8x128) (shapeCast _ (extractStridedSlice S8x1024x1x8x128 ![0, 0, 1, 0, 0] (shapeCast _ (extf .f32 a0 bitsLt_bf16_f32) shapeCasts_S8192x3072_S8x1024x3x8x128) slices_S8x1024x3x8x128_S8x1024x1x8x128_0_0_1_0_0) shapeCasts_S8x1024x1x8x128_S8x1024x8x128)) (broadcastInDim S8x8x1024x1024 ![] bcast_S_S8x8x1024x1024 (Host.divf (constant S_ .f32 0x3F800000#32) (Host.sqrt (constant S_ .f32 0x43000000#32))))) (broadcastInDim S8x8x1024x1024 ![] bcast_S_S8x8x1024x1024 (id (constant S_ .f32 0xFF800000#32)))) (broadcastInDim S8x8x1024x1024 ![0, 1, 2, 3] bcast_S8x8x1024x1_S8x8x1024x1024_0_1_2_3 (broadcastInDim S8x8x1024x1 ![0, 1, 2] bcast_S8x8x1024_S8x8x1024x1_0_1_2 (Host.reduce FloatOps.maximumf (select (broadcastInDim S8x8x1024x1024 ![2, 3] bcast_S1024x1024_S8x8x1024x1024_2_3 (cmpi .sle (absi (subi (broadcastInDim S1024x1024 ![0, 1] bcast_S1024x1_S1024x1024_0_1 (broadcastInDim S1024x1 ![0] bcast_S1024_S1024x1_0 (iotaInDim S1024 32 0))) (broadcastInDim S1024x1024 ![0, 1] bcast_S1x1024_S1024x1024_0_1 (broadcastInDim S1x1024 ![1] bcast_S1024_S1x1024_1 (iotaInDim S1024 32 0))))) (broadcastInDim S1024x1024 ![] bcast_S_S1024x1024 (constantI S_ 32 64#32)))) (mulf (Host.dotGeneral dot_S8x1024x8x128_S8x1024x8x128_S8x8x1024x1024_3_3_1_1_02_02 none (shapeCast _ (extractStridedSlice S8x1024x1x8x128 ![0, 0, 0, 0, 0] (shapeCast _ (extf .f32 a0 bitsLt_bf16_f32) shapeCasts_S8192x3072_S8x1024x3x8x128) slices_S8x1024x3x8x128_S8x1024x1x8x128_0_0_0_0_0) shapeCasts_S8x1024x1x8x128_S8x1024x8x128) (shapeCast _ (extractStridedSlice S8x1024x1x8x128 ![0, 0, 1, 0, 0] (shapeCast _ (extf .f32 a0 bitsLt_bf16_f32) shapeCasts_S8192x3072_S8x1024x3x8x128) slices_S8x1024x3x8x128_S8x1024x1x8x128_0_0_1_0_0) shapeCasts_S8x1024x1x8x128_S8x1024x8x128)) (broadcastInDim S8x8x1024x1024 ![] bcast_S_S8x8x1024x1024 (Host.divf (constant S_ .f32 0x3F800000#32) (Host.sqrt (constant S_ .f32 0x43000000#32))))) (broadcastInDim S8x8x1024x1024 ![] bcast_S_S8x8x1024x1024 (id (constant S_ .f32 0xFF800000#32)))) (constant S_ .f32 0xFF800000#32) reducesTo_S8x8x1024x1024_S8x8x1024_d3 h_S_))))) (constant S_ .f32 0x00000000#32) reducesTo_S8x8x1024x1024_S8x8x1024_d3 h_S_) transposes_S8x8x1024_S8x1024x8_0_2_1) shapeCasts_S8x1024x8_S8192x8) (sitofp .f32 (constantI S_ 32 0#32)) pads_S8192x8_S8192x128_000_01200 h_S_

/-- The entries of the argument, by row and column. -/
abbrev entries (a0 : FVec Ideal Cert.AttnBRefIdeal.S8192x3072 .bf16) (i : Fin 8192) (j : Fin 3072) : EReal := a0 (ix2 i j)

/-- The scores of a row and a head. -/
abbrev scores (a0 : FVec Ideal Cert.AttnBRefIdeal.S8192x3072 .bf16) (i : Fin 8192) (g : ℕ) (hg : g < 8) : Fin 1024 → EReal :=
  Cert.Band.score 1024 (entries a0) i (i.val / 1024 * 1024) g hg (by omega)

/-- Zero, converted from an integer. -/
theorem sitofp_zero : (FloatOps.sitofp .f32 0#32 : Ideal .f32) = (0 : EReal) := by
  show ((((0#32 : BitVec 32).toInt : ℝ)) : EReal) = 0
  simp

/-- An entry of the reference's output. -/
theorem ref_out (a0 : FVec Ideal Cert.AttnBRefIdeal.S8192x3072 .bf16) (y : S8192x1024.Idx) (i : Fin 8192) (j : Fin 1024) (hy : y = ix2 i j) :
    (ref_v32 a0 y : EReal) = ∑ k : Fin 1024, Cert.Band.weight (i.val % 1024) (scores a0 i (j.val / 128) (by omega)) k
      * entries a0 ⟨i.val / 1024 * 1024 + k.val, by omega⟩ ⟨2048 + j.val, by omega⟩ := by
  subst hy
  pointwise [ref_v32]
  refine Finset.sum_congr rfl fun k _ => (mul_comm _ _).trans ?_
  refine congrArg₂ (fun x y : EReal => x * y) ?_ ?_
  · refine Cert.Band.weight_row (p := i.val % 1024) (n := 1024) (by omega) (by omega) (a := scores a0 i (j.val / 128) (by omega))
      (a2 := Cert.Band.score 1024 (entries a0) ⟨i.val / 1024 * 1024 + i.val % 1024, by omega⟩ (i.val / 1024 * 1024) (j.val / 128) (by omega) (by omega))
      (fun k => ?_) Cert.Band.scale_eq Cert.Band.ofBits_bot Cert.Band.ofBits_bot k
    rw [show (⟨i.val / 1024 * 1024 + i.val % 1024, by omega⟩ : Fin 8192) = i from Fin.ext (by simp only; omega)]
  · unfold entries
    blk_point

/-- An entry of the reference's maxima. -/
theorem ref_max (a0 : FVec Ideal Cert.AttnBRefIdeal.S8192x3072 .bf16) (y : S8192x128.Idx) (i : Fin 8192) (j : Fin 128) (hy : y = ix2 i j) (hj : j.val < 8) :
    (ref_v35 a0 y : EReal) = Cert.Band.rowMax (Cert.Band.band (i.val % 1024) (scores a0 i j.val hj)) := by
  subst hy
  pointwise [ref_v35]
  refine (dif_pos hj).trans ?_
  refine (Cert.Band.max_row (p := i.val % 1024) (n := 1024) (by omega) (by omega)
      (a := Cert.Band.score 1024 (entries a0) ⟨i.val / 1024 * 1024 + i.val % 1024, by omega⟩ (i.val / 1024 * 1024) j.val (by omega) (by omega))
      Cert.Band.scale_eq Cert.Band.ofBits_bot Cert.Band.ofBits_bot).trans ?_
  rw [show (⟨i.val / 1024 * 1024 + i.val % 1024, by omega⟩ : Fin 8192) = i from Fin.ext (by simp only; omega)]

/-- An entry of the reference's denominators. -/
theorem ref_sum (a0 : FVec Ideal Cert.AttnBRefIdeal.S8192x3072 .bf16) (y : S8192x128.Idx) (i : Fin 8192) (j : Fin 128) (hy : y = ix2 i j) (hj : j.val < 8) :
    (ref_v38 a0 y : EReal) = ∑ k : Fin 1024, Cert.Band.weight (i.val % 1024) (scores a0 i j.val hj) k := by
  subst hy
  pointwise [ref_v38]
  refine (dif_pos hj).trans ?_
  refine Finset.sum_congr rfl fun k _ => ?_
  refine Cert.Band.weight_row (p := i.val % 1024) (n := 1024) (by omega) (by omega) (a := scores a0 i j.val hj)
    (a2 := Cert.Band.score 1024 (entries a0) ⟨i.val / 1024 * 1024 + i.val % 1024, by omega⟩ (i.val / 1024 * 1024) j.val (by omega) (by omega))
    (fun k => ?_) Cert.Band.scale_eq Cert.Band.ofBits_bot Cert.Band.ofBits_bot k
  rw [show (⟨i.val / 1024 * 1024 + i.val % 1024, by omega⟩ : Fin 8192) = i from Fin.ext (by simp only; omega)]

/-- The lanes past the heads hold zero. -/
theorem ref_max_rest (a0 : FVec Ideal Cert.AttnBRefIdeal.S8192x3072 .bf16) (y : S8192x128.Idx) (hj : ¬(y 1).val < 8) : (ref_v35 a0 y : EReal) = 0 := by
  pointwise [ref_v35]
  exact (dif_neg hj).trans sitofp_zero

/-- The lanes past the heads hold zero. -/
theorem ref_sum_rest (a0 : FVec Ideal Cert.AttnBRefIdeal.S8192x3072 .bf16) (y : S8192x128.Idx) (hj : ¬(y 1).val < 8) : (ref_v38 a0 y : EReal) = 0 := by
  pointwise [ref_v38]
  exact (dif_neg hj).trans sitofp_zero

end Cert.AttnBRefIdeal.Own

end
-- ==== Proof.AttnBValue.lean ====
module

public import proofs.«01_k».proof.Proof.Gen.AttnBIdeal.Frame
public import proofs.«01_k».proof.Proof.Gen.AttnBRefIdeal.Run
public import Idealize.ShloMosaic.Lib.Pipeline.ValueKit
public import Idealize.ShloMosaic.Lib.Pointwise
public import Idealize.ShloMosaic.Lib.Claim
public import proofs.«01_k».proof.Proof.Tile
public import proofs.«01_k».proof.Proof.AttnBRef
public import proofs.«01_k».proof.Proof.Stores

@[expose] public section

set_option maxRecDepth 16384

noncomputable section

open Idealize.ShloMosaic Idealize.ShloMosaic.TcCoe Idealize.SL.Sem
open Idealize.ShloMosaic.Pipeline (Dat)

namespace Cert.AttnBIdeal.Own

open Cert.AttnBIdeal Cert.AttnBIdeal.Gen

variable (m : (ℓ : Loc nD τ sig) → Buf (Elt Ideal) ℓ)

/-- Every window's block index at every grid point, in closed form (decided). -/
theorem idx_val : ∀ t : Fin cfg0.N, win0_0.index t = ![t.val, 0]
    ∧ win0_1.index t = ![t.val, 1]
    ∧ win0_2.index t = ![t.val, 2]
    ∧ win0_3.index t = ![t.val, 0]
    ∧ win0_4.index t = ![t.val, 0]
    ∧ win0_5.index t = ![t.val, 0] :=
  (by decide +kernel : ∀ t : Fin grid0.N, _)

/-- The queries of a grid point's block. -/
abbrev queries (c : Dev nD) (t : Fin cfg0.N) : FVec Ideal S1024x1024 .bf16 := iblk m c 0 t

/-- The keys of a grid point's block. -/
abbrev keys (c : Dev nD) (t : Fin cfg0.N) : FVec Ideal S1024x1024 .bf16 := iblk m c 1 t

/-- The values of a grid point's block. -/
abbrev values (c : Dev nD) (t : Fin cfg0.N) : FVec Ideal S1024x1024 .bf16 := iblk m c 2 t

/-- A tile of 128 queries of one head, from row `ra` of the block. -/
abbrev tileQ (c : Dev nD) (t : Fin cfg0.N) (ra ca : ℕ) (h : ∀ a : Fin S1024x1024.rank, ![ra, ca] a + ![128, 128] a ≤ S1024x1024.size a) : FVec Ideal S128x128 .bf16 :=
  View.ld (Val := Elt Ideal) (e' := .bf16) (queries m c t) (Rect.unit (s := S1024x1024) ![ra, ca] ![128, 128] h)

/-- A tile of 256 keys of one head, from row `ka` of the block. -/
abbrev tileK (c : Dev nD) (t : Fin cfg0.N) (ka ca : ℕ) (h : ∀ a : Fin S1024x1024.rank, ![ka, ca] a + ![256, 128] a ≤ S1024x1024.size a) : FVec Ideal S256x128 .bf16 :=
  View.ld (Val := Elt Ideal) (e' := .bf16) (keys m c t) (Rect.unit (s := S1024x1024) ![ka, ca] ![256, 128] h)

/-- A tile of 256 values of one head, from row `ka` of the block. -/
abbrev tileV (c : Dev nD) (t : Fin cfg0.N) (ka ca : ℕ) (h : ∀ a : Fin S1024x1024.rank, ![ka, ca] a + ![256, 128] a ≤ S1024x1024.size a) : FVec Ideal S256x128 .bf16 :=
  View.ld (Val := Elt Ideal) (e' := .bf16) (values m c t) (Rect.unit (s := S1024x1024) ![ka, ca] ![256, 128] h)

/-- The products of a tile's queries and keys are scores of the argument. -/
theorem products (c : Dev nD) (t : Fin cfg0.N) {ra ka ca b : ℕ} (hca : ca = 128 * b) (hb : b < 8) (hst : ka + 256 ≤ 1024) (h1) (h2)
    (r : Fin 128) (i : Fin 8192) (hi : i.val = 1024 * t.val + ra + r.val) (hka : i.val / 1024 * 1024 = 1024 * (t.val)) (j : Fin 256) :
    ∑ e : Fin 128, (tileQ m c t ra ca h1 (ix2 r e) : EReal) * tileK m c t ka ca h2 (ix2 j e)
      = Cert.AttnBRefIdeal.Own.scores (m ((c : Thread nD τ).loc main_arg0)) i b hb (Cert.Band.place ka hst j) := by
  have ht : t.val < 8 := t.isLt
  subst hca
  unfold Cert.AttnBRefIdeal.Own.scores Cert.Band.score Cert.AttnBRefIdeal.Own.entries Cert.Band.place tileQ tileK
  refine Finset.sum_congr rfl fun e _ => ?_
  blk_point [iblk, V, idx_val t]

/-- One tile of the output. -/
theorem piece_out (c : Dev nD) (t : Fin cfg0.N) (ra ka ca b l0 : ℕ) (d : BitVec 32) (hca : ca = 128 * b) (hb : b < 8) (hl : Cert.Tile.Placed 1024 l0 ka d)
    (hra : ra + 128 ≤ 1024) (hka : ra = l0) (h1) (h2) (h3) (x) :
    (Cert.Tile.out d (tileQ m c t ra ca h1) (tileK m c t ka ca h2) (tileV m c t ka ca h3) x : EReal)
      = Cert.AttnBRefIdeal.Own.ref_v32 (m ((c : Thread nD τ).loc main_arg0)) (((cfg0.win 3).blk t).view.emb ((Rect.unit (s := S1024x1024) ![ra, ca] ![128, 128] h1).emb x)) := by
  have ht : t.val < 8 := t.isLt
  have hx0 : (x 0).val < 128 := (x 0).isLt
  have hx1 : (x 1).val < 128 := (x 1).isLt
  have hq := hl.query
  rw [Cert.AttnBRefIdeal.Own.ref_out _ _ ⟨1024 * t.val + ra + (x 0).val, by omega⟩ ⟨ca + (x 1).val, by omega⟩ (by blk_point [idx_val t])]
  refine (Cert.Tile.out_at hl _ _ _ x
    (Cert.AttnBRefIdeal.Own.scores (m ((c : Thread nD τ).loc main_arg0)) ⟨1024 * t.val + ra + (x 0).val, by omega⟩ b hb)
    (fun k => Cert.AttnBRefIdeal.Own.entries (m ((c : Thread nD τ).loc main_arg0)) ⟨1024 * (t.val) + k.val, by omega⟩ ⟨2048 + (ca + (x 1).val), by omega⟩)
    (fun j => products m c t hca hb hl.keys h1 h2 (x 0) _ rfl (by simp only; omega) j) (fun j => ?_)).trans ?_
  · unfold tileV Cert.AttnBRefIdeal.Own.entries Cert.Band.place
    blk_point [iblk, V, idx_val t]
  · refine Finset.sum_congr rfl fun k _ => ?_
    have e1 : l0 + (x 0).val = (1024 * t.val + ra + (x 0).val) % 1024 := by omega
    have e2 : b = (ca + (x 1).val) / 128 := by omega
    subst e2
    have e3 : (1024 * t.val + ra + (x 0).val) / 1024 * 1024 = 1024 * (t.val) := by omega
    simp only [e1, e3]

/-- One tile of the maxima. -/
theorem piece_max (c : Dev nD) (t : Fin cfg0.N) (ra ka ca b l0 : ℕ) (d : BitVec 32) (hca : ca = 128 * b) (hb : b < 8) (hl : Cert.Tile.Placed 1024 l0 ka d)
    (hra : ra + 128 ≤ 1024) (hka : ra = l0) (h1) (h2) (h4) (x) :
    (Cert.Tile.maxima d (tileQ m c t ra ca h1) (tileK m c t ka ca h2) x : EReal)
      = Cert.AttnBRefIdeal.Own.ref_v35 (m ((c : Thread nD τ).loc main_arg0)) (((cfg0.win 4).blk t).view.emb ((Rect.unit (s := S1024x128) ![ra, b] ![128, 1] h4).emb x)) := by
  have ht : t.val < 8 := t.isLt
  have hx0 : (x 0).val < 128 := (x 0).isLt
  have hx1 : (x 1).val < 1 := (x 1).isLt
  have hq := hl.query
  rw [Cert.AttnBRefIdeal.Own.ref_max _ _ ⟨1024 * t.val + ra + (x 0).val, by omega⟩ ⟨b, by omega⟩ (by blk_point [idx_val t]) hb]
  refine (Cert.Tile.maxima_at hl _ _ x
    (Cert.AttnBRefIdeal.Own.scores (m ((c : Thread nD τ).loc main_arg0)) ⟨1024 * t.val + ra + (x 0).val, by omega⟩ b hb)
    (fun j => products m c t hca hb hl.keys h1 h2 (x 0) _ rfl (by simp only; omega) j)).trans ?_
  have e1 : l0 + (x 0).val = (1024 * t.val + ra + (x 0).val) % 1024 := by omega
  simp only [e1]

/-- One tile of the denominators. -/
theorem piece_sum (c : Dev nD) (t : Fin cfg0.N) (ra ka ca b l0 : ℕ) (d : BitVec 32) (hca : ca = 128 * b) (hb : b < 8) (hl : Cert.Tile.Placed 1024 l0 ka d)
    (hra : ra + 128 ≤ 1024) (hka : ra = l0) (h1) (h2) (h4) (x) :
    (Cert.Tile.sums d (tileQ m c t ra ca h1) (tileK m c t ka ca h2) x : EReal)
      = Cert.AttnBRefIdeal.Own.ref_v38 (m ((c : Thread nD τ).loc main_arg0)) (((cfg0.win 5).blk t).view.emb ((Rect.unit (s := S1024x128) ![ra, b] ![128, 1] h4).emb x)) := by
  have ht : t.val < 8 := t.isLt
  have hx0 : (x 0).val < 128 := (x 0).isLt
  have hx1 : (x 1).val < 1 := (x 1).isLt
  have hq := hl.query
  rw [Cert.AttnBRefIdeal.Own.ref_sum _ _ ⟨1024 * t.val + ra + (x 0).val, by omega⟩ ⟨b, by omega⟩ (by blk_point [idx_val t]) hb]
  refine (Cert.Tile.sums_at hl _ _ x
    (Cert.AttnBRefIdeal.Own.scores (m ((c : Thread nD τ).loc main_arg0)) ⟨1024 * t.val + ra + (x 0).val, by omega⟩ b hb)
    (fun j => products m c t hca hb hl.keys h1 h2 (x 0) _ rfl (by simp only; omega) j)).trans ?_
  have e1 : l0 + (x 0).val = (1024 * t.val + ra + (x 0).val) % 1024 := by omega
  simp only [e1]

/-- The position of a tile's first query in its sequence, as the kernel computes it for the rows from `w` of block `t`. -/
def baseWord (t : Fin cfg0.N) (w : BitVec 32) : BitVec 32 :=
  Scalar.addi (Scalar.muli (BitVec.ofNat 32 (grid0.coords t 1).val) 1024#32) w

/-- The position of the tile's first key, as the kernel computes it. -/
def startWord (t : Fin cfg0.N) (w : BitVec 32) : BitVec 32 :=
  Scalar.minsi 768#32 (Scalar.maxsi 0#32 (Scalar.subi (baseWord t w) 64#32))

/-- The first query's position less the first key's. -/
def diffWord (t : Fin cfg0.N) (w : BitVec 32) : BitVec 32 := Scalar.subi (baseWord t w) (startWord t w)

/-- The rows of store `n`, as a word. -/
def rowWord (n : ℕ) : BitVec 32 := BitVec.ofNat 32 (128 * (n / 8))

/-- The position of the first query of store `n`. -/
def first (t : Fin cfg0.N) (n : ℕ) : ℕ := 128 * (n / 8)

/-- The words' values at every block and every row of tiles (decided). -/
theorem words : ∀ (t : Fin cfg0.N) (b : Fin 8), (startWord t (BitVec.ofNat 32 (128 * b.val))).toNat = min 768 (first t (8 * b.val) - 64)
    ∧ diffWord t (BitVec.ofNat 32 (128 * b.val)) = BitVec.ofInt 32 ((first t (8 * b.val) : ℤ) - (min 768 (first t (8 * b.val) - 64) : ℕ)) :=
  (by decide +kernel : ∀ (t : Fin grid0.N) (b : Fin 8), _)

/-- The first key's position of store `n`. -/
theorem start_val (t : Fin cfg0.N) (n : ℕ) (hn : n < 64) : (startWord t (rowWord n)).toNat = min 768 (first t n - 64) := by
  have h := (words t ⟨n / 8, by omega⟩).1
  have e : first t (8 * (n / 8)) = first t n := by unfold first; omega
  rw [← e]
  exact h

/-- Store `n`'s rows and columns lie in the block. -/
theorem rows_in (n : ℕ) (hn : n < 64) : ∀ a : Fin S1024x1024.rank, ![128 * (n / 8), 128 * (n % 8)] a + ![128, 128] a ≤ S1024x1024.size a := by
  intro a
  fin_cases a
  · show 128 * (n / 8) + 128 ≤ 1024
    omega
  · show 128 * (n % 8) + 128 ≤ 1024
    omega

/-- So do its keys'. -/
theorem keys_in (t : Fin cfg0.N) (n : ℕ) (hn : n < 64) : ∀ a : Fin S1024x1024.rank, ![(startWord t (rowWord n)).toNat, 128 * (n % 8)] a + ![256, 128] a ≤ S1024x1024.size a := by
  intro a
  fin_cases a
  · show (startWord t (rowWord n)).toNat + 256 ≤ 1024
    rw [start_val t n hn]
    omega
  · show 128 * (n % 8) + 128 ≤ 1024
    omega

/-- So do its rows and its lane. -/
theorem lane_in (n : ℕ) (hn : n < 64) : ∀ a : Fin S1024x128.rank, ![128 * (n / 8), n % 8] a + ![128, 1] a ≤ S1024x128.size a := by
  intro a
  fin_cases a
  · show 128 * (n / 8) + 128 ≤ 1024
    omega
  · show n % 8 + 1 ≤ 128
    omega

/-- Store `n` of the output: 128 rows of one head. -/
def outPiece (t : Fin cfg0.N) (q : FVec Ideal S1024x1024 .bf16) (k v : FVec Ideal S1024x1024 .bf16) (n : ℕ) (hn : n < 64) : View.Piece (Elt Ideal) S1024x1024 .bf16 :=
  ⟨Rect.unit (s := S1024x1024) ![128 * (n / 8), 128 * (n % 8)] ![128, 128] (rows_in n hn),
    Cert.Tile.out (diffWord t (rowWord n))
      (View.ld (Val := Elt Ideal) (e' := .bf16) q (Rect.unit (s := S1024x1024) ![128 * (n / 8), 128 * (n % 8)] ![128, 128] (rows_in n hn)))
      (View.ld (Val := Elt Ideal) (e' := .bf16) k (Rect.unit (s := S1024x1024) ![(startWord t (rowWord n)).toNat, 128 * (n % 8)] ![256, 128] (keys_in t n hn)))
      (View.ld (Val := Elt Ideal) (e' := .bf16) v (Rect.unit (s := S1024x1024) ![(startWord t (rowWord n)).toNat, 128 * (n % 8)] ![256, 128] (keys_in t n hn)))⟩

/-- Store `n` of the maxima: 128 rows of one lane. -/
def maxPiece (t : Fin cfg0.N) (q : FVec Ideal S1024x1024 .bf16) (k : FVec Ideal S1024x1024 .bf16) (n : ℕ) (hn : n < 64) : View.Piece (Elt Ideal) S1024x128 .f32 :=
  ⟨Rect.unit (s := S1024x128) ![128 * (n / 8), n % 8] ![128, 1] (lane_in n hn),
    Cert.Tile.maxima (diffWord t (rowWord n))
      (View.ld (Val := Elt Ideal) (e' := .bf16) q (Rect.unit (s := S1024x1024) ![128 * (n / 8), 128 * (n % 8)] ![128, 128] (rows_in n hn)))
      (View.ld (Val := Elt Ideal) (e' := .bf16) k (Rect.unit (s := S1024x1024) ![(startWord t (rowWord n)).toNat, 128 * (n % 8)] ![256, 128] (keys_in t n hn)))⟩

/-- Store `n` of the denominators: 128 rows of one lane. -/
def sumPiece (t : Fin cfg0.N) (q : FVec Ideal S1024x1024 .bf16) (k : FVec Ideal S1024x1024 .bf16) (n : ℕ) (hn : n < 64) : View.Piece (Elt Ideal) S1024x128 .f32 :=
  ⟨Rect.unit (s := S1024x128) ![128 * (n / 8), n % 8] ![128, 1] (lane_in n hn),
    Cert.Tile.sums (diffWord t (rowWord n))
      (View.ld (Val := Elt Ideal) (e' := .bf16) q (Rect.unit (s := S1024x1024) ![128 * (n / 8), 128 * (n % 8)] ![128, 128] (rows_in n hn)))
      (View.ld (Val := Elt Ideal) (e' := .bf16) k (Rect.unit (s := S1024x1024) ![(startWord t (rowWord n)).toNat, 128 * (n % 8)] ![256, 128] (keys_in t n hn)))⟩

/-- Where store `n`'s tile lies in its sequence of 1024 positions. -/
theorem placed (t : Fin cfg0.N) (n : ℕ) (hn : n < 64) : Cert.Tile.Placed 1024 (first t n) (startWord t (rowWord n)).toNat (diffWord t (rowWord n)) := by
  have hf : first t n + 128 ≤ 1024 := by
    have ht : t.val < 8 := t.isLt
    unfold first
    omega
  have hs := start_val t n hn
  refine ⟨?_, by omega, by omega, hf, by omega, by omega⟩
  have h := (words t ⟨n / 8, by omega⟩).2
  have e : first t (8 * (n / 8)) = first t n := by unfold first; omega
  rw [hs, ← e]
  exact h

/-- What the stores of the output leave. -/
theorem outStores (c : Dev nD) (t : Fin cfg0.N) (y : S1024x1024.Idx) :
    View.canon (Cert.Stores.listed (outPiece t (queries m c t) (keys m c t) (values m c t)) 64 le_rfl ++ []) y
      = Cert.AttnBRefIdeal.Own.ref_v32 (m ((c : Thread nD τ).loc main_arg0)) (((cfg0.win 3).blk t).view.emb y) := by
  have hy0 : (y 0).val < 1024 := (y 0).isLt
  have hy1 : (y 1).val < 1024 := (y 1).isLt
  refine Cert.Stores.listed_apply (e := .bf16) (outPiece t (queries m c t) (keys m c t) (values m c t)) (fun y => Cert.AttnBRefIdeal.Own.ref_v32 (m ((c : Thread nD τ).loc main_arg0)) (((cfg0.win 3).blk t).view.emb y))
    (fun n hn x => ?_) [] y ⟨(y 0).val / 128 * 8 + (y 1).val / 128, by omega, ?_⟩
  · exact piece_out m c t (128 * (n / 8)) _ _ (n % 8) _ _ rfl (by omega) (placed t n hn) (by omega) rfl (rows_in n hn) (keys_in t n hn) (keys_in t n hn) x
  · refine (Rect.mem_set_unit (inb := rows_in _ (by omega))).mpr fun a => ?_
    fin_cases a
    · show 128 * (((y 0).val / 128 * 8 + (y 1).val / 128) / 8) ≤ (y 0).val ∧ (y 0).val < 128 * (((y 0).val / 128 * 8 + (y 1).val / 128) / 8) + 128
      omega
    · show 128 * (((y 0).val / 128 * 8 + (y 1).val / 128) % 8) ≤ (y 1).val ∧ (y 1).val < 128 * (((y 0).val / 128 * 8 + (y 1).val / 128) % 8) + 128
      omega

/-- The first store into the maxima and the denominators: zero everywhere. -/
def fill (h : ∀ a : Fin S1024x128.rank, ![0, 0] a + ![1024, 128] a ≤ S1024x128.size a) : View.Piece (Elt Ideal) S1024x128 .f32 :=
  ⟨Rect.unit (s := S1024x128) ![0, 0] ![1024, 128] h, broadcast S1024x128 (Scalar.ofBits (F := Ideal) .f32 0x00000000#32)⟩

/-- What it leaves. -/
theorem fill_apply (h : ∀ a : Fin S1024x128.rank, ![0, 0] a + ![1024, 128] a ≤ S1024x128.size a) (y : S1024x128.Idx) : (View.canon [fill h] y : EReal) = 0 := by
  refine (congrFun (View.canon_cons_unit_lit (S := S1024x128) (off := ![0, 0]) h _ [] (by decide)) y).trans ?_
  pointwise

/-- What the stores of the maxima leave. -/
theorem maxStores (c : Dev nD) (t : Fin cfg0.N) (h) (y : S1024x128.Idx) :
    View.canon (Cert.Stores.listed (maxPiece t (queries m c t) (keys m c t)) 64 le_rfl ++ [fill h]) y
      = Cert.AttnBRefIdeal.Own.ref_v35 (m ((c : Thread nD τ).loc main_arg0)) (((cfg0.win 4).blk t).view.emb y) := by
  have hy0 : (y 0).val < 1024 := (y 0).isLt
  by_cases hy1 : (y 1).val < 8
  · refine Cert.Stores.listed_apply (e := .f32) (maxPiece t (queries m c t) (keys m c t)) (fun y => Cert.AttnBRefIdeal.Own.ref_v35 (m ((c : Thread nD τ).loc main_arg0)) (((cfg0.win 4).blk t).view.emb y))
      (fun n hn x => ?_) [fill h] y ⟨(y 0).val / 128 * 8 + (y 1).val, by omega, ?_⟩
    · exact piece_max m c t (128 * (n / 8)) _ _ (n % 8) _ _ rfl (by omega) (placed t n hn) (by omega) rfl (rows_in n hn) (keys_in t n hn) (lane_in n hn) x
    · refine (Rect.mem_set_unit (inb := lane_in _ (by omega))).mpr fun a => ?_
      fin_cases a
      · show 128 * (((y 0).val / 128 * 8 + (y 1).val) / 8) ≤ (y 0).val ∧ (y 0).val < 128 * (((y 0).val / 128 * 8 + (y 1).val) / 8) + 128
        omega
      · show ((y 0).val / 128 * 8 + (y 1).val) % 8 ≤ (y 1).val ∧ (y 1).val < ((y 0).val / 128 * 8 + (y 1).val) % 8 + 1
        omega
  · refine (Cert.Stores.listed_rest _ [fill h] y (fun n hn hm => ?_) 64 le_rfl).trans ((fill_apply h y).trans ?_)
    · have hm1 : n % 8 ≤ (y 1).val ∧ (y 1).val < n % 8 + 1 := (Rect.mem_set_unit (inb := lane_in n hn)).mp hm 1
      omega
    · refine (Cert.AttnBRefIdeal.Own.ref_max_rest _ _ ?_).symm
      have e : ((((cfg0.win 4).blk t).view.emb y) 1).val = (y 1).val := by blk_point [idx_val t]
      omega

/-- What the stores of the denominators leave. -/
theorem sumStores (c : Dev nD) (t : Fin cfg0.N) (h) (y : S1024x128.Idx) :
    View.canon (Cert.Stores.listed (sumPiece t (queries m c t) (keys m c t)) 64 le_rfl ++ [fill h]) y
      = Cert.AttnBRefIdeal.Own.ref_v38 (m ((c : Thread nD τ).loc main_arg0)) (((cfg0.win 5).blk t).view.emb y) := by
  have hy0 : (y 0).val < 1024 := (y 0).isLt
  by_cases hy1 : (y 1).val < 8
  · refine Cert.Stores.listed_apply (e := .f32) (sumPiece t (queries m c t) (keys m c t)) (fun y => Cert.AttnBRefIdeal.Own.ref_v38 (m ((c : Thread nD τ).loc main_arg0)) (((cfg0.win 5).blk t).view.emb y))
      (fun n hn x => ?_) [fill h] y ⟨(y 0).val / 128 * 8 + (y 1).val, by omega, ?_⟩
    · exact piece_sum m c t (128 * (n / 8)) _ _ (n % 8) _ _ rfl (by omega) (placed t n hn) (by omega) rfl (rows_in n hn) (keys_in t n hn) (lane_in n hn) x
    · refine (Rect.mem_set_unit (inb := lane_in _ (by omega))).mpr fun a => ?_
      fin_cases a
      · show 128 * (((y 0).val / 128 * 8 + (y 1).val) / 8) ≤ (y 0).val ∧ (y 0).val < 128 * (((y 0).val / 128 * 8 + (y 1).val) / 8) + 128
        omega
      · show ((y 0).val / 128 * 8 + (y 1).val) % 8 ≤ (y 1).val ∧ (y 1).val < ((y 0).val / 128 * 8 + (y 1).val) % 8 + 1
        omega
  · refine (Cert.Stores.listed_rest _ [fill h] y (fun n hn hm => ?_) 64 le_rfl).trans ((fill_apply h y).trans ?_)
    · have hm1 : n % 8 ≤ (y 1).val ∧ (y 1).val < n % 8 + 1 := (Rect.mem_set_unit (inb := lane_in n hn)).mp hm 1
      omega
    · refine (Cert.AttnBRefIdeal.Own.ref_sum_rest _ _ ?_).symm
      have e : ((((cfg0.win 5).blk t).view.emb y) 1).val = (y 1).val := by blk_point [idx_val t]
      omega

/-- The launch leaves the reference's output. -/
theorem final_3 (c : Dev nD) : (dats m 0 c).arrAt 3 (cfgs 0).N = Cert.AttnBRefIdeal.Own.ref_v32 (m ((c : Thread nD τ).loc main_arg0)) := by
  refine (dats m 0 c).arrAt_eq_of_covers 3 _ (by decide +kernel) fun t hf y => ?_
  blk_simp; rw [after0_3]
  unfold outsAt0; dsimp only; frame_out
  refine Eq.trans (congrFun (congrArg View.canon ?_) y) (outStores m c t y)
  sl_kernel_rfl

/-- The launch leaves the reference's maxima. -/
theorem final_4 (c : Dev nD) : (dats m 0 c).arrAt 4 (cfgs 0).N = Cert.AttnBRefIdeal.Own.ref_v35 (m ((c : Thread nD τ).loc main_arg0)) := by
  refine (dats m 0 c).arrAt_eq_of_covers 4 _ (by decide +kernel) fun t hf y => ?_
  blk_simp; rw [after0_4]
  unfold outsAt0; dsimp only; frame_out
  refine Eq.trans (congrFun (congrArg View.canon ?_) y) (maxStores m c t (by decide) y)
  sl_kernel_rfl

/-- The launch leaves the reference's denominators. -/
theorem final_5 (c : Dev nD) : (dats m 0 c).arrAt 5 (cfgs 0).N = Cert.AttnBRefIdeal.Own.ref_v38 (m ((c : Thread nD τ).loc main_arg0)) := by
  refine (dats m 0 c).arrAt_eq_of_covers 5 _ (by decide +kernel) fun t hf y => ?_
  blk_simp; rw [after0_5]
  unfold outsAt0; dsimp only; frame_out
  refine Eq.trans (congrFun (congrArg View.canon ?_) y) (sumStores m c t (by decide) y)
  sl_kernel_rfl

end Cert.AttnBIdeal.Own

end
-- ==== Proof.AttnCRef.lean ====
module

public import proofs.«01_k».proof.Proof.Gen.AttnCRefIdeal.Run
public import Idealize.ShloMosaic.Lib.Pipeline.ValueKit
public import Idealize.ShloMosaic.Lib.Pointwise
public import Idealize.ShloMosaic.Lib.Claim
public import proofs.«01_k».proof.Proof.Band

@[expose] public section

set_option maxRecDepth 16384

noncomputable section

open Idealize.ShloMosaic Idealize.ShloMosaic.TcCoe Idealize.SL.Sem
open Idealize.ShloMosaic.Pipeline (Dat)

namespace Cert.AttnCRefIdeal.Own

open Cert.AttnCRefIdeal Cert.AttnCRefIdeal.Gen

/-- The result `main_v32` of the reference, as a term of its arguments. -/
abbrev ref_v32 (a0 : FVec Ideal Cert.AttnCRefIdeal.S8192x3072 .bf16) : FVec Ideal Cert.AttnCRefIdeal.S8192x1024 .bf16 :=
  truncf .bf16 (shapeCast _ (transpose S32x256x8x128 [0, 3, 1, 2] (Host.dotGeneral dot_S32x256x8x128_S32x8x256x256_S32x8x128x256_1_3_3_2_02_01 none (shapeCast _ (extractStridedSlice S32x256x1x8x128 ![0, 0, 2, 0, 0] (shapeCast _ (extf .f32 a0 bitsLt_bf16_f32) shapeCasts_S8192x3072_S32x256x3x8x128) slices_S32x256x3x8x128_S32x256x1x8x128_0_0_2_0_0) shapeCasts_S32x256x1x8x128_S32x256x8x128) (Host.exp (subf (select (broadcastInDim S32x8x256x256 ![2, 3] bcast_S256x256_S32x8x256x256_2_3 (cmpi .sle (absi (subi (broadcastInDim S256x256 ![0, 1] bcast_S256x1_S256x256_0_1 (broadcastInDim S256x1 ![0] bcast_S256_S256x1_0 (iotaInDim S256 32 0))) (broadcastInDim S256x256 ![0, 1] bcast_S1x256_S256x256_0_1 (broadcastInDim S1x256 ![1] bcast_S256_S1x256_1 (iotaInDim S256 32 0))))) (broadcastInDim S256x256 ![] bcast_S_S256x256 (constantI S_ 32 64#32)))) (mulf (Host.dotGeneral dot_S32x256x8x128_S32x256x8x128_S32x8x256x256_3_3_1_1_02_02 none (shapeCast _ (extractStridedSlice S32x256x1x8x128 ![0, 0, 0, 0, 0] (shapeCast _ (extf .f32 a0 bitsLt_bf16_f32) shapeCasts_S8192x3072_S32x256x3x8x128) slices_S32x256x3x8x128_S32x256x1x8x128_0_0_0_0_0) shapeCasts_S32x256x1x8x128_S32x256x8x128) (shapeCast _ (extractStridedSlice S32x256x1x8x128 ![0, 0, 1, 0, 0] (shapeCast _ (extf .f32 a0 bitsLt_bf16_f32) shapeCasts_S8192x3072_S32x256x3x8x128) slices_S32x256x3x8x128_S32x256x1x8x128_0_0_1_0_0) shapeCasts_S32x256x1x8x128_S32x256x8x128)) (broadcastInDim S32x8x256x256 ![] bcast_S_S32x8x256x256 (Host.divf (constant S_ .f32 0x3F800000#32) (Host.sqrt (constant S_ .f32 0x43000000#32))))) (broadcastInDim S32x8x256x256 ![] bcast_S_S32x8x256x256 (id (constant S_ .f32 0xFF800000#32)))) (broadcastInDim S32x8x256x256 ![0, 1, 2, 3] bcast_S32x8x256x1_S32x8x256x256_0_1_2_3 (broadcastInDim S32x8x256x1 ![0, 1, 2] bcast_S32x8x256_S32x8x256x1_0_1_2 (Host.reduce FloatOps.maximumf (select (broadcastInDim S32x8x256x256 ![2, 3] bcast_S256x256_S32x8x256x256_2_3 (cmpi .sle (absi (subi (broadcastInDim S256x256 ![0, 1] bcast_S256x1_S256x256_0_1 (broadcastInDim S256x1 ![0] bcast_S256_S256x1_0 (iotaInDim S256 32 0))) (broadcastInDim S256x256 ![0, 1] bcast_S1x256_S256x256_0_1 (broadcastInDim S1x256 ![1] bcast_S256_S1x256_1 (iotaInDim S256 32 0))))) (broadcastInDim S256x256 ![] bcast_S_S256x256 (constantI S_ 32 64#32)))) (mulf (Host.dotGeneral dot_S32x256x8x128_S32x256x8x128_S32x8x256x256_3_3_1_1_02_02 none (shapeCast _ (extractStridedSlice S32x256x1x8x128 ![0, 0, 0, 0, 0] (shapeCast _ (extf .f32 a0 bitsLt_bf16_f32) shapeCasts_S8192x3072_S32x256x3x8x128) slices_S32x256x3x8x128_S32x256x1x8x128_0_0_0_0_0) shapeCasts_S32x256x1x8x128_S32x256x8x128) (shapeCast _ (extractStridedSlice S32x256x1x8x128 ![0, 0, 1, 0, 0] (shapeCast _ (extf .f32 a0 bitsLt_bf16_f32) shapeCasts_S8192x3072_S32x256x3x8x128) slices_S32x256x3x8x128_S32x256x1x8x128_0_0_1_0_0) shapeCasts_S32x256x1x8x128_S32x256x8x128)) (broadcastInDim S32x8x256x256 ![] bcast_S_S32x8x256x256 (Host.divf (constant S_ .f32 0x3F800000#32) (Host.sqrt (constant S_ .f32 0x43000000#32))))) (broadcastInDim S32x8x256x256 ![] bcast_S_S32x8x256x256 (id (constant S_ .f32 0xFF800000#32)))) (constant S_ .f32 0xFF800000#32) reducesTo_S32x8x256x256_S32x8x256_d3 h_S_)))))) transposes_S32x8x128x256_S32x256x8x128_0_3_1_2) shapeCasts_S32x256x8x128_S8192x1024) bitsLt_bf16_f32

/-- The result `main_v35` of the reference, as a term of its arguments. -/
abbrev ref_v35 (a0 : FVec Ideal Cert.AttnCRefIdeal.S8192x3072 .bf16) : FVec Ideal Cert.AttnCRefIdeal.S8192x128 .f32 :=
  pad S8192x128 ![0, 0] ![0, 120] ![0, 0] (shapeCast _ (transpose S32x256x8 [0, 2, 1] (Host.reduce FloatOps.maximumf (select (broadcastInDim S32x8x256x256 ![2, 3] bcast_S256x256_S32x8x256x256_2_3 (cmpi .sle (absi (subi (broadcastInDim S256x256 ![0, 1] bcast_S256x1_S256x256_0_1 (broadcastInDim S256x1 ![0] bcast_S256_S256x1_0 (iotaInDim S256 32 0))) (broadcastInDim S256x256 ![0, 1] bcast_S1x256_S256x256_0_1 (broadcastInDim S1x256 ![1] bcast_S256_S1x256_1 (iotaInDim S256 32 0))))) (broadcastInDim S256x256 ![] bcast_S_S256x256 (constantI S_ 32 64#32)))) (mulf (Host.dotGeneral dot_S32x256x8x128_S32x256x8x128_S32x8x256x256_3_3_1_1_02_02 none (shapeCast _ (extractStridedSlice S32x256x1x8x128 ![0, 0, 0, 0, 0] (shapeCast _ (extf .f32 a0 bitsLt_bf16_f32) shapeCasts_S8192x3072_S32x256x3x8x128) slices_S32x256x3x8x128_S32x256x1x8x128_0_0_0_0_0) shapeCasts_S32x256x1x8x128_S32x256x8x128) (shapeCast _ (extractStridedSlice S32x256x1x8x128 ![0, 0, 1, 0, 0] (shapeCast _ (extf .f32 a0 bitsLt_bf16_f32) shapeCasts_S8192x3072_S32x256x3x8x128) slices_S32x256x3x8x128_S32x256x1x8x128_0_0_1_0_0) shapeCasts_S32x256x1x8x128_S32x256x8x128)) (broadcastInDim S32x8x256x256 ![] bcast_S_S32x8x256x256 (Host.divf (constant S_ .f32 0x3F800000#32) (Host.sqrt (constant S_ .f32 0x43000000#32))))) (broadcastInDim S32x8x256x256 ![] bcast_S_S32x8x256x256 (id (constant S_ .f32 0xFF800000#32)))) (constant S_ .f32 0xFF800000#32) reducesTo_S32x8x256x256_S32x8x256_d3 h_S_) transposes_S32x8x256_S32x256x8_0_2_1) shapeCasts_S32x256x8_S8192x8) (sitofp .f32 (constantI S_ 32 0#32)) pads_S8192x8_S8192x128_000_01200 h_S_

/-- The result `main_v38` of the reference, as a term of its arguments. -/
abbrev ref_v38 (a0 : FVec Ideal Cert.AttnCRefIdeal.S8192x3072 .bf16) : FVec Ideal Cert.AttnCRefIdeal.S8192x128 .f32 :=
  pad S8192x128 ![0, 0] ![0, 120] ![0, 0] (shapeCast _ (transpose S32x256x8 [0, 2, 1] (Host.reduceAdd (Host.exp (subf (select (broadcastInDim S32x8x256x256 ![2, 3] bcast_S256x256_S32x8x256x256_2_3 (cmpi .sle (absi (subi (broadcastInDim S256x256 ![0, 1] bcast_S256x1_S256x256_0_1 (broadcastInDim S256x1 ![0] bcast_S256_S256x1_0 (iotaInDim S256 32 0))) (broadcastInDim S256x256 ![0, 1] bcast_S1x256_S256x256_0_1 (broadcastInDim S1x256 ![1] bcast_S256_S1x256_1 (iotaInDim S256 32 0))))) (broadcastInDim S256x256 ![] bcast_S_S256x256 (constantI S_ 32 64#32)))) (mulf (Host.dotGeneral dot_S32x256x8x128_S32x256x8x128_S32x8x256x256_3_3_1_1_02_02 none (shapeCast _ (extractStridedSlice S32x256x1x8x128 ![0, 0, 0, 0, 0] (shapeCast _ (extf .f32 a0 bitsLt_bf16_f32) shapeCasts_S8192x3072_S32x256x3x8x128) slices_S32x256x3x8x128_S32x256x1x8x128_0_0_0_0_0) shapeCasts_S32x256x1x8x128_S32x256x8x128) (shapeCast _ (extractStridedSlice S32x256x1x8x128 ![0, 0, 1, 0, 0] (shapeCast _ (extf .f32 a0 bitsLt_bf16_f32) shapeCasts_S8192x3072_S32x256x3x8x128) slices_S32x256x3x8x128_S32x256x1x8x128_0_0_1_0_0) shapeCasts_S32x256x1x8x128_S32x256x8x128)) (broadcastInDim S32x8x256x256 ![] bcast_S_S32x8x256x256 (Host.divf (constant S_ .f32 0x3F800000#32) (Host.sqrt (constant S_ .f32 0x43000000#32))))) (broadcastInDim S32x8x256x256 ![] bcast_S_S32x8x256x256 (id (constant S_ .f32 0xFF800000#32)))) (broadcastInDim S32x8x256x256 ![0, 1, 2, 3] bcast_S32x8x256x1_S32x8x256x256_0_1_2_3 (broadcastInDim S32x8x256x1 ![0, 1, 2] bcast_S32x8x256_S32x8x256x1_0_1_2 (Host.reduce FloatOps.maximumf (select (broadcastInDim S32x8x256x256 ![2, 3] bcast_S256x256_S32x8x256x256_2_3 (cmpi .sle (absi (subi (broadcastInDim S256x256 ![0, 1] bcast_S256x1_S256x256_0_1 (broadcastInDim S256x1 ![0] bcast_S256_S256x1_0 (iotaInDim S256 32 0))) (broadcastInDim S256x256 ![0, 1] bcast_S1x256_S256x256_0_1 (broadcastInDim S1x256 ![1] bcast_S256_S1x256_1 (iotaInDim S256 32 0))))) (broadcastInDim S256x256 ![] bcast_S_S256x256 (constantI S_ 32 64#32)))) (mulf (Host.dotGeneral dot_S32x256x8x128_S32x256x8x128_S32x8x256x256_3_3_1_1_02_02 none (shapeCast _ (extractStridedSlice S32x256x1x8x128 ![0, 0, 0, 0, 0] (shapeCast _ (extf .f32 a0 bitsLt_bf16_f32) shapeCasts_S8192x3072_S32x256x3x8x128) slices_S32x256x3x8x128_S32x256x1x8x128_0_0_0_0_0) shapeCasts_S32x256x1x8x128_S32x256x8x128) (shapeCast _ (extractStridedSlice S32x256x1x8x128 ![0, 0, 1, 0, 0] (shapeCast _ (extf .f32 a0 bitsLt_bf16_f32) shapeCasts_S8192x3072_S32x256x3x8x128) slices_S32x256x3x8x128_S32x256x1x8x128_0_0_1_0_0) shapeCasts_S32x256x1x8x128_S32x256x8x128)) (broadcastInDim S32x8x256x256 ![] bcast_S_S32x8x256x256 (Host.divf (constant S_ .f32 0x3F800000#32) (Host.sqrt (constant S_ .f32 0x43000000#32))))) (broadcastInDim S32x8x256x256 ![] bcast_S_S32x8x256x256 (id (constant S_ .f32 0xFF800000#32)))) (constant S_ .f32 0xFF800000#32) reducesTo_S32x8x256x256_S32x8x256_d3 h_S_))))) (constant S_ .f32 0x00000000#32) reducesTo_S32x8x256x256_S32x8x256_d3 h_S_) transposes_S32x8x256_S32x256x8_0_2_1) shapeCasts_S32x256x8_S8192x8) (sitofp .f32 (constantI S_ 32 0#32)) pads_S8192x8_S8192x128_000_01200 h_S_

/-- The entries of the argument, by row and column. -/
abbrev entries (a0 : FVec Ideal Cert.AttnCRefIdeal.S8192x3072 .bf16) (i : Fin 8192) (j : Fin 3072) : EReal := a0 (ix2 i j)

/-- The scores of a row and a head. -/
abbrev scores (a0 : FVec Ideal Cert.AttnCRefIdeal.S8192x3072 .bf16) (i : Fin 8192) (g : ℕ) (hg : g < 8) : Fin 256 → EReal :=
  Cert.Band.score 256 (entries a0) i (i.val / 256 * 256) g hg (by omega)

/-- Zero, converted from an integer. -/
theorem sitofp_zero : (FloatOps.sitofp .f32 0#32 : Ideal .f32) = (0 : EReal) := by
  show ((((0#32 : BitVec 32).toInt : ℝ)) : EReal) = 0
  simp

/-- An entry of the reference's output. -/
theorem ref_out (a0 : FVec Ideal Cert.AttnCRefIdeal.S8192x3072 .bf16) (y : S8192x1024.Idx) (i : Fin 8192) (j : Fin 1024) (hy : y = ix2 i j) :
    (ref_v32 a0 y : EReal) = ∑ k : Fin 256, Cert.Band.weight (i.val % 256) (scores a0 i (j.val / 128) (by omega)) k
      * entries a0 ⟨i.val / 256 * 256 + k.val, by omega⟩ ⟨2048 + j.val, by omega⟩ := by
  subst hy
  pointwise [ref_v32]
  refine Finset.sum_congr rfl fun k _ => (mul_comm _ _).trans ?_
  refine congrArg₂ (fun x y : EReal => x * y) ?_ ?_
  · refine Cert.Band.weight_row (p := i.val % 256) (n := 256) (by omega) (by omega) (a := scores a0 i (j.val / 128) (by omega))
      (a2 := Cert.Band.score 256 (entries a0) ⟨i.val / 256 * 256 + i.val % 256, by omega⟩ (i.val / 256 * 256) (j.val / 128) (by omega) (by omega))
      (fun k => ?_) Cert.Band.scale_eq Cert.Band.ofBits_bot Cert.Band.ofBits_bot k
    rw [show (⟨i.val / 256 * 256 + i.val % 256, by omega⟩ : Fin 8192) = i from Fin.ext (by simp only; omega)]
  · unfold entries
    blk_point

/-- An entry of the reference's maxima. -/
theorem ref_max (a0 : FVec Ideal Cert.AttnCRefIdeal.S8192x3072 .bf16) (y : S8192x128.Idx) (i : Fin 8192) (j : Fin 128) (hy : y = ix2 i j) (hj : j.val < 8) :
    (ref_v35 a0 y : EReal) = Cert.Band.rowMax (Cert.Band.band (i.val % 256) (scores a0 i j.val hj)) := by
  subst hy
  pointwise [ref_v35]
  refine (dif_pos hj).trans ?_
  refine (Cert.Band.max_row (p := i.val % 256) (n := 256) (by omega) (by omega)
      (a := Cert.Band.score 256 (entries a0) ⟨i.val / 256 * 256 + i.val % 256, by omega⟩ (i.val / 256 * 256) j.val (by omega) (by omega))
      Cert.Band.scale_eq Cert.Band.ofBits_bot Cert.Band.ofBits_bot).trans ?_
  rw [show (⟨i.val / 256 * 256 + i.val % 256, by omega⟩ : Fin 8192) = i from Fin.ext (by simp only; omega)]

/-- An entry of the reference's denominators. -/
theorem ref_sum (a0 : FVec Ideal Cert.AttnCRefIdeal.S8192x3072 .bf16) (y : S8192x128.Idx) (i : Fin 8192) (j : Fin 128) (hy : y = ix2 i j) (hj : j.val < 8) :
    (ref_v38 a0 y : EReal) = ∑ k : Fin 256, Cert.Band.weight (i.val % 256) (scores a0 i j.val hj) k := by
  subst hy
  pointwise [ref_v38]
  refine (dif_pos hj).trans ?_
  refine Finset.sum_congr rfl fun k _ => ?_
  refine Cert.Band.weight_row (p := i.val % 256) (n := 256) (by omega) (by omega) (a := scores a0 i j.val hj)
    (a2 := Cert.Band.score 256 (entries a0) ⟨i.val / 256 * 256 + i.val % 256, by omega⟩ (i.val / 256 * 256) j.val (by omega) (by omega))
    (fun k => ?_) Cert.Band.scale_eq Cert.Band.ofBits_bot Cert.Band.ofBits_bot k
  rw [show (⟨i.val / 256 * 256 + i.val % 256, by omega⟩ : Fin 8192) = i from Fin.ext (by simp only; omega)]

/-- The lanes past the heads hold zero. -/
theorem ref_max_rest (a0 : FVec Ideal Cert.AttnCRefIdeal.S8192x3072 .bf16) (y : S8192x128.Idx) (hj : ¬(y 1).val < 8) : (ref_v35 a0 y : EReal) = 0 := by
  pointwise [ref_v35]
  exact (dif_neg hj).trans sitofp_zero

/-- The lanes past the heads hold zero. -/
theorem ref_sum_rest (a0 : FVec Ideal Cert.AttnCRefIdeal.S8192x3072 .bf16) (y : S8192x128.Idx) (hj : ¬(y 1).val < 8) : (ref_v38 a0 y : EReal) = 0 := by
  pointwise [ref_v38]
  exact (dif_neg hj).trans sitofp_zero

end Cert.AttnCRefIdeal.Own

end
-- ==== Proof.AttnCValue.lean ====
module

public import proofs.«01_k».proof.Proof.Gen.AttnCIdeal.Frame
public import proofs.«01_k».proof.Proof.Gen.AttnCRefIdeal.Run
public import Idealize.ShloMosaic.Lib.Pipeline.ValueKit
public import Idealize.ShloMosaic.Lib.Pointwise
public import Idealize.ShloMosaic.Lib.Claim
public import proofs.«01_k».proof.Proof.Tile
public import proofs.«01_k».proof.Proof.AttnCRef
public import proofs.«01_k».proof.Proof.Stores

@[expose] public section

set_option maxRecDepth 16384

noncomputable section

open Idealize.ShloMosaic Idealize.ShloMosaic.TcCoe Idealize.SL.Sem
open Idealize.ShloMosaic.Pipeline (Dat)

namespace Cert.AttnCIdeal.Own

open Cert.AttnCIdeal Cert.AttnCIdeal.Gen

variable (m : (ℓ : Loc nD τ sig) → Buf (Elt Ideal) ℓ)

/-- Every window's block index at every grid point, in closed form (decided). -/
theorem idx_val : ∀ t : Fin cfg0.N, win0_0.index t = ![t.val, 0]
    ∧ win0_1.index t = ![t.val, 1]
    ∧ win0_2.index t = ![t.val, 2]
    ∧ win0_3.index t = ![t.val, 0]
    ∧ win0_4.index t = ![t.val, 0]
    ∧ win0_5.index t = ![t.val, 0] :=
  (by decide +kernel : ∀ t : Fin grid0.N, _)

/-- The queries of a grid point's block. -/
abbrev queries (c : Dev nD) (t : Fin cfg0.N) : FVec Ideal S1024x1024 .bf16 := iblk m c 0 t

/-- The keys of a grid point's block. -/
abbrev keys (c : Dev nD) (t : Fin cfg0.N) : FVec Ideal S1024x1024 .bf16 := iblk m c 1 t

/-- The values of a grid point's block. -/
abbrev values (c : Dev nD) (t : Fin cfg0.N) : FVec Ideal S1024x1024 .bf16 := iblk m c 2 t

/-- A tile of 128 queries of one head, from row `ra` of the block. -/
abbrev tileQ (c : Dev nD) (t : Fin cfg0.N) (ra ca : ℕ) (h : ∀ a : Fin S1024x1024.rank, ![ra, ca] a + ![128, 128] a ≤ S1024x1024.size a) : FVec Ideal S128x128 .bf16 :=
  View.ld (Val := Elt Ideal) (e' := .bf16) (queries m c t) (Rect.unit (s := S1024x1024) ![ra, ca] ![128, 128] h)

/-- A tile of 256 keys of one head, from row `ka` of the block. -/
abbrev tileK (c : Dev nD) (t : Fin cfg0.N) (ka ca : ℕ) (h : ∀ a : Fin S1024x1024.rank, ![ka, ca] a + ![256, 128] a ≤ S1024x1024.size a) : FVec Ideal S256x128 .bf16 :=
  View.ld (Val := Elt Ideal) (e' := .bf16) (keys m c t) (Rect.unit (s := S1024x1024) ![ka, ca] ![256, 128] h)

/-- A tile of 256 values of one head, from row `ka` of the block. -/
abbrev tileV (c : Dev nD) (t : Fin cfg0.N) (ka ca : ℕ) (h : ∀ a : Fin S1024x1024.rank, ![ka, ca] a + ![256, 128] a ≤ S1024x1024.size a) : FVec Ideal S256x128 .bf16 :=
  View.ld (Val := Elt Ideal) (e' := .bf16) (values m c t) (Rect.unit (s := S1024x1024) ![ka, ca] ![256, 128] h)

/-- The products of a tile's queries and keys are scores of the argument. -/
theorem products (c : Dev nD) (t : Fin cfg0.N) {ra ka ca b : ℕ} (hca : ca = 128 * b) (hb : b < 8) {st : ℕ} (hst : st + 256 ≤ 256) (h1) (h2)
    (r : Fin 128) (i : Fin 8192) (hi : i.val = 1024 * t.val + ra + r.val) (hka : i.val / 256 * 256 + st = 1024 * t.val + ka) (j : Fin 256) :
    ∑ e : Fin 128, (tileQ m c t ra ca h1 (ix2 r e) : EReal) * tileK m c t ka ca h2 (ix2 j e)
      = Cert.AttnCRefIdeal.Own.scores (m ((c : Thread nD τ).loc main_arg0)) i b hb (Cert.Band.place st hst j) := by
  have ht : t.val < 8 := t.isLt
  subst hca
  unfold Cert.AttnCRefIdeal.Own.scores Cert.Band.score Cert.AttnCRefIdeal.Own.entries Cert.Band.place tileQ tileK
  refine Finset.sum_congr rfl fun e _ => ?_
  blk_point [iblk, V, idx_val t]

/-- One tile of the output. -/
theorem piece_out (c : Dev nD) (t : Fin cfg0.N) (ra ka ca b l0 : ℕ) (d : BitVec 32) (hca : ca = 128 * b) (hb : b < 8) (hl : Cert.Tile.Placed 256 l0 0 d)
    (hra : ra + 128 ≤ 1024) (hka : ra = ka + l0) (hk : ka % 256 = 0) (h1) (h2) (h3) (x) :
    (Cert.Tile.out d (tileQ m c t ra ca h1) (tileK m c t ka ca h2) (tileV m c t ka ca h3) x : EReal)
      = Cert.AttnCRefIdeal.Own.ref_v32 (m ((c : Thread nD τ).loc main_arg0)) (((cfg0.win 3).blk t).view.emb ((Rect.unit (s := S1024x1024) ![ra, ca] ![128, 128] h1).emb x)) := by
  have ht : t.val < 8 := t.isLt
  have hx0 : (x 0).val < 128 := (x 0).isLt
  have hx1 : (x 1).val < 128 := (x 1).isLt
  have hq := hl.query
  rw [Cert.AttnCRefIdeal.Own.ref_out _ _ ⟨1024 * t.val + ra + (x 0).val, by omega⟩ ⟨ca + (x 1).val, by omega⟩ (by blk_point [idx_val t])]
  refine (Cert.Tile.out_at hl _ _ _ x
    (Cert.AttnCRefIdeal.Own.scores (m ((c : Thread nD τ).loc main_arg0)) ⟨1024 * t.val + ra + (x 0).val, by omega⟩ b hb)
    (fun k => Cert.AttnCRefIdeal.Own.entries (m ((c : Thread nD τ).loc main_arg0)) ⟨1024 * t.val + ka + k.val, by omega⟩ ⟨2048 + (ca + (x 1).val), by omega⟩)
    (fun j => products m c t hca hb hl.keys h1 h2 (x 0) _ rfl (by simp only; omega) j) (fun j => ?_)).trans ?_
  · unfold tileV Cert.AttnCRefIdeal.Own.entries Cert.Band.place
    blk_point [iblk, V, idx_val t]
  · refine Finset.sum_congr rfl fun k _ => ?_
    have e1 : l0 + (x 0).val = (1024 * t.val + ra + (x 0).val) % 256 := by omega
    have e2 : b = (ca + (x 1).val) / 128 := by omega
    subst e2
    have e3 : (1024 * t.val + ra + (x 0).val) / 256 * 256 = 1024 * t.val + ka := by omega
    simp only [e1, e3]

/-- One tile of the maxima. -/
theorem piece_max (c : Dev nD) (t : Fin cfg0.N) (ra ka ca b l0 : ℕ) (d : BitVec 32) (hca : ca = 128 * b) (hb : b < 8) (hl : Cert.Tile.Placed 256 l0 0 d)
    (hra : ra + 128 ≤ 1024) (hka : ra = ka + l0) (hk : ka % 256 = 0) (h1) (h2) (h4) (x) :
    (Cert.Tile.maxima d (tileQ m c t ra ca h1) (tileK m c t ka ca h2) x : EReal)
      = Cert.AttnCRefIdeal.Own.ref_v35 (m ((c : Thread nD τ).loc main_arg0)) (((cfg0.win 4).blk t).view.emb ((Rect.unit (s := S1024x128) ![ra, b] ![128, 1] h4).emb x)) := by
  have ht : t.val < 8 := t.isLt
  have hx0 : (x 0).val < 128 := (x 0).isLt
  have hx1 : (x 1).val < 1 := (x 1).isLt
  have hq := hl.query
  rw [Cert.AttnCRefIdeal.Own.ref_max _ _ ⟨1024 * t.val + ra + (x 0).val, by omega⟩ ⟨b, by omega⟩ (by blk_point [idx_val t]) hb]
  refine (Cert.Tile.maxima_at hl _ _ x
    (Cert.AttnCRefIdeal.Own.scores (m ((c : Thread nD τ).loc main_arg0)) ⟨1024 * t.val + ra + (x 0).val, by omega⟩ b hb)
    (fun j => products m c t hca hb hl.keys h1 h2 (x 0) _ rfl (by simp only; omega) j)).trans ?_
  have e1 : l0 + (x 0).val = (1024 * t.val + ra + (x 0).val) % 256 := by omega
  simp only [e1]

/-- One tile of the denominators. -/
theorem piece_sum (c : Dev nD) (t : Fin cfg0.N) (ra ka ca b l0 : ℕ) (d : BitVec 32) (hca : ca = 128 * b) (hb : b < 8) (hl : Cert.Tile.Placed 256 l0 0 d)
    (hra : ra + 128 ≤ 1024) (hka : ra = ka + l0) (hk : ka % 256 = 0) (h1) (h2) (h4) (x) :
    (Cert.Tile.sums d (tileQ m c t ra ca h1) (tileK m c t ka ca h2) x : EReal)
      = Cert.AttnCRefIdeal.Own.ref_v38 (m ((c : Thread nD τ).loc main_arg0)) (((cfg0.win 5).blk t).view.emb ((Rect.unit (s := S1024x128) ![ra, b] ![128, 1] h4).emb x)) := by
  have ht : t.val < 8 := t.isLt
  have hx0 : (x 0).val < 128 := (x 0).isLt
  have hx1 : (x 1).val < 1 := (x 1).isLt
  have hq := hl.query
  rw [Cert.AttnCRefIdeal.Own.ref_sum _ _ ⟨1024 * t.val + ra + (x 0).val, by omega⟩ ⟨b, by omega⟩ (by blk_point [idx_val t]) hb]
  refine (Cert.Tile.sums_at hl _ _ x
    (Cert.AttnCRefIdeal.Own.scores (m ((c : Thread nD τ).loc main_arg0)) ⟨1024 * t.val + ra + (x 0).val, by omega⟩ b hb)
    (fun j => products m c t hca hb hl.keys h1 h2 (x 0) _ rfl (by simp only; omega) j)).trans ?_
  have e1 : l0 + (x 0).val = (1024 * t.val + ra + (x 0).val) % 256 := by omega
  simp only [e1]

/-- Store `n`'s rows and columns lie in the block. -/
theorem rows_in (n : ℕ) (hn : n < 64) : ∀ a : Fin S1024x1024.rank, ![128 * (n / 8), 128 * (n % 8)] a + ![128, 128] a ≤ S1024x1024.size a := by
  intro a
  fin_cases a
  · show 128 * (n / 8) + 128 ≤ 1024
    omega
  · show 128 * (n % 8) + 128 ≤ 1024
    omega

/-- So do its keys'. -/
theorem keys_in (n : ℕ) (hn : n < 64) : ∀ a : Fin S1024x1024.rank, ![256 * (n / 16), 128 * (n % 8)] a + ![256, 128] a ≤ S1024x1024.size a := by
  intro a
  fin_cases a
  · show 256 * (n / 16) + 256 ≤ 1024
    omega
  · show 128 * (n % 8) + 128 ≤ 1024
    omega

/-- So do its rows and its lane. -/
theorem lane_in (n : ℕ) (hn : n < 64) : ∀ a : Fin S1024x128.rank, ![128 * (n / 8), n % 8] a + ![128, 1] a ≤ S1024x128.size a := by
  intro a
  fin_cases a
  · show 128 * (n / 8) + 128 ≤ 1024
    omega
  · show n % 8 + 1 ≤ 128
    omega

/-- Store `n` of the output: 128 rows of one head. -/
def outPiece (q k v : FVec Ideal S1024x1024 .bf16) (n : ℕ) (hn : n < 64) : View.Piece (Elt Ideal) S1024x1024 .bf16 :=
  ⟨Rect.unit (s := S1024x1024) ![128 * (n / 8), 128 * (n % 8)] ![128, 128] (rows_in n hn),
    Cert.Tile.out (BitVec.ofNat 32 (128 * (n / 8 % 2)))
      (View.ld (Val := Elt Ideal) (e' := .bf16) q (Rect.unit (s := S1024x1024) ![128 * (n / 8), 128 * (n % 8)] ![128, 128] (rows_in n hn)))
      (View.ld (Val := Elt Ideal) (e' := .bf16) k (Rect.unit (s := S1024x1024) ![256 * (n / 16), 128 * (n % 8)] ![256, 128] (keys_in n hn)))
      (View.ld (Val := Elt Ideal) (e' := .bf16) v (Rect.unit (s := S1024x1024) ![256 * (n / 16), 128 * (n % 8)] ![256, 128] (keys_in n hn)))⟩

/-- Store `n` of the maxima: 128 rows of one lane. -/
def maxPiece (q k : FVec Ideal S1024x1024 .bf16) (n : ℕ) (hn : n < 64) : View.Piece (Elt Ideal) S1024x128 .f32 :=
  ⟨Rect.unit (s := S1024x128) ![128 * (n / 8), n % 8] ![128, 1] (lane_in n hn),
    Cert.Tile.maxima (BitVec.ofNat 32 (128 * (n / 8 % 2)))
      (View.ld (Val := Elt Ideal) (e' := .bf16) q (Rect.unit (s := S1024x1024) ![128 * (n / 8), 128 * (n % 8)] ![128, 128] (rows_in n hn)))
      (View.ld (Val := Elt Ideal) (e' := .bf16) k (Rect.unit (s := S1024x1024) ![256 * (n / 16), 128 * (n % 8)] ![256, 128] (keys_in n hn)))⟩

/-- Store `n` of the denominators: 128 rows of one lane. -/
def sumPiece (q k : FVec Ideal S1024x1024 .bf16) (n : ℕ) (hn : n < 64) : View.Piece (Elt Ideal) S1024x128 .f32 :=
  ⟨Rect.unit (s := S1024x128) ![128 * (n / 8), n % 8] ![128, 1] (lane_in n hn),
    Cert.Tile.sums (BitVec.ofNat 32 (128 * (n / 8 % 2)))
      (View.ld (Val := Elt Ideal) (e' := .bf16) q (Rect.unit (s := S1024x1024) ![128 * (n / 8), 128 * (n % 8)] ![128, 128] (rows_in n hn)))
      (View.ld (Val := Elt Ideal) (e' := .bf16) k (Rect.unit (s := S1024x1024) ![256 * (n / 16), 128 * (n % 8)] ![256, 128] (keys_in n hn)))⟩

/-- Where store `n`'s tile lies in its sequence of 256 positions. -/
theorem placed (n : ℕ) : Cert.Tile.Placed 256 (128 * (n / 8 % 2)) 0 (BitVec.ofNat 32 (128 * (n / 8 % 2))) :=
  ⟨by rcases Nat.mod_two_eq_zero_or_one (n / 8) with h | h <;> rw [h] <;> rfl, by omega, by omega, by omega, by omega, by omega⟩

/-- What the stores of the output leave. -/
theorem outStores (c : Dev nD) (t : Fin cfg0.N) (y : S1024x1024.Idx) :
    View.canon (Cert.Stores.listed (outPiece (queries m c t) (keys m c t) (values m c t)) 64 le_rfl ++ []) y
      = Cert.AttnCRefIdeal.Own.ref_v32 (m ((c : Thread nD τ).loc main_arg0)) (((cfg0.win 3).blk t).view.emb y) := by
  have hy0 : (y 0).val < 1024 := (y 0).isLt
  have hy1 : (y 1).val < 1024 := (y 1).isLt
  refine Cert.Stores.listed_apply (e := .bf16) (outPiece (queries m c t) (keys m c t) (values m c t)) (fun y => Cert.AttnCRefIdeal.Own.ref_v32 (m ((c : Thread nD τ).loc main_arg0)) (((cfg0.win 3).blk t).view.emb y))
    (fun n hn x => ?_) [] y ⟨(y 0).val / 128 * 8 + (y 1).val / 128, by omega, ?_⟩
  · exact piece_out m c t _ _ _ (n % 8) _ _ rfl (by omega) (placed n) (by omega) (by omega) (by omega) (rows_in n hn) (keys_in n hn) (keys_in n hn) x
  · refine (Rect.mem_set_unit (inb := rows_in _ (by omega))).mpr fun a => ?_
    fin_cases a
    · show 128 * (((y 0).val / 128 * 8 + (y 1).val / 128) / 8) ≤ (y 0).val ∧ (y 0).val < 128 * (((y 0).val / 128 * 8 + (y 1).val / 128) / 8) + 128
      omega
    · show 128 * (((y 0).val / 128 * 8 + (y 1).val / 128) % 8) ≤ (y 1).val ∧ (y 1).val < 128 * (((y 0).val / 128 * 8 + (y 1).val / 128) % 8) + 128
      omega

/-- The first store into the maxima and the denominators: zero everywhere. -/
def fill (h : ∀ a : Fin S1024x128.rank, ![0, 0] a + ![1024, 128] a ≤ S1024x128.size a) : View.Piece (Elt Ideal) S1024x128 .f32 :=
  ⟨Rect.unit (s := S1024x128) ![0, 0] ![1024, 128] h, broadcast S1024x128 (Scalar.ofBits (F := Ideal) .f32 0x00000000#32)⟩

/-- What it leaves. -/
theorem fill_apply (h : ∀ a : Fin S1024x128.rank, ![0, 0] a + ![1024, 128] a ≤ S1024x128.size a) (y : S1024x128.Idx) : (View.canon [fill h] y : EReal) = 0 := by
  refine (congrFun (View.canon_cons_unit_lit (S := S1024x128) (off := ![0, 0]) h _ [] (by decide)) y).trans ?_
  pointwise

/-- What the stores of the maxima leave. -/
theorem maxStores (c : Dev nD) (t : Fin cfg0.N) (h) (y : S1024x128.Idx) :
    View.canon (Cert.Stores.listed (maxPiece (queries m c t) (keys m c t)) 64 le_rfl ++ [fill h]) y
      = Cert.AttnCRefIdeal.Own.ref_v35 (m ((c : Thread nD τ).loc main_arg0)) (((cfg0.win 4).blk t).view.emb y) := by
  have hy0 : (y 0).val < 1024 := (y 0).isLt
  by_cases hy1 : (y 1).val < 8
  · refine Cert.Stores.listed_apply (e := .f32) (maxPiece (queries m c t) (keys m c t)) (fun y => Cert.AttnCRefIdeal.Own.ref_v35 (m ((c : Thread nD τ).loc main_arg0)) (((cfg0.win 4).blk t).view.emb y))
      (fun n hn x => ?_) [fill h] y ⟨(y 0).val / 128 * 8 + (y 1).val, by omega, ?_⟩
    · exact piece_max m c t _ _ _ (n % 8) _ _ rfl (by omega) (placed n) (by omega) (by omega) (by omega) (rows_in n hn) (keys_in n hn) (lane_in n hn) x
    · refine (Rect.mem_set_unit (inb := lane_in _ (by omega))).mpr fun a => ?_
      fin_cases a
      · show 128 * (((y 0).val / 128 * 8 + (y 1).val) / 8) ≤ (y 0).val ∧ (y 0).val < 128 * (((y 0).val / 128 * 8 + (y 1).val) / 8) + 128
        omega
      · show ((y 0).val / 128 * 8 + (y 1).val) % 8 ≤ (y 1).val ∧ (y 1).val < ((y 0).val / 128 * 8 + (y 1).val) % 8 + 1
        omega
  · refine (Cert.Stores.listed_rest _ [fill h] y (fun n hn hm => ?_) 64 le_rfl).trans ((fill_apply h y).trans ?_)
    · have hm1 : n % 8 ≤ (y 1).val ∧ (y 1).val < n % 8 + 1 := (Rect.mem_set_unit (inb := lane_in n hn)).mp hm 1
      omega
    · refine (Cert.AttnCRefIdeal.Own.ref_max_rest _ _ ?_).symm
      have e : ((((cfg0.win 4).blk t).view.emb y) 1).val = (y 1).val := by blk_point [idx_val t]
      omega

/-- What the stores of the denominators leave. -/
theorem sumStores (c : Dev nD) (t : Fin cfg0.N) (h) (y : S1024x128.Idx) :
    View.canon (Cert.Stores.listed (sumPiece (queries m c t) (keys m c t)) 64 le_rfl ++ [fill h]) y
      = Cert.AttnCRefIdeal.Own.ref_v38 (m ((c : Thread nD τ).loc main_arg0)) (((cfg0.win 5).blk t).view.emb y) := by
  have hy0 : (y 0).val < 1024 := (y 0).isLt
  by_cases hy1 : (y 1).val < 8
  · refine Cert.Stores.listed_apply (e := .f32) (sumPiece (queries m c t) (keys m c t)) (fun y => Cert.AttnCRefIdeal.Own.ref_v38 (m ((c : Thread nD τ).loc main_arg0)) (((cfg0.win 5).blk t).view.emb y))
      (fun n hn x => ?_) [fill h] y ⟨(y 0).val / 128 * 8 + (y 1).val, by omega, ?_⟩
    · exact piece_sum m c t _ _ _ (n % 8) _ _ rfl (by omega) (placed n) (by omega) (by omega) (by omega) (rows_in n hn) (keys_in n hn) (lane_in n hn) x
    · refine (Rect.mem_set_unit (inb := lane_in _ (by omega))).mpr fun a => ?_
      fin_cases a
      · show 128 * (((y 0).val / 128 * 8 + (y 1).val) / 8) ≤ (y 0).val ∧ (y 0).val < 128 * (((y 0).val / 128 * 8 + (y 1).val) / 8) + 128
        omega
      · show ((y 0).val / 128 * 8 + (y 1).val) % 8 ≤ (y 1).val ∧ (y 1).val < ((y 0).val / 128 * 8 + (y 1).val) % 8 + 1
        omega
  · refine (Cert.Stores.listed_rest _ [fill h] y (fun n hn hm => ?_) 64 le_rfl).trans ((fill_apply h y).trans ?_)
    · have hm1 : n % 8 ≤ (y 1).val ∧ (y 1).val < n % 8 + 1 := (Rect.mem_set_unit (inb := lane_in n hn)).mp hm 1
      omega
    · refine (Cert.AttnCRefIdeal.Own.ref_sum_rest _ _ ?_).symm
      have e : ((((cfg0.win 5).blk t).view.emb y) 1).val = (y 1).val := by blk_point [idx_val t]
      omega

/-- The launch leaves the reference's output. -/
theorem final_3 (c : Dev nD) : (dats m 0 c).arrAt 3 (cfgs 0).N = Cert.AttnCRefIdeal.Own.ref_v32 (m ((c : Thread nD τ).loc main_arg0)) := by
  refine (dats m 0 c).arrAt_eq_of_covers 3 _ (by decide +kernel) fun t hf y => ?_
  blk_simp; rw [after0_3]
  unfold outsAt0; dsimp only; frame_out
  refine Eq.trans (congrFun (congrArg View.canon ?_) y) (outStores m c t y)
  sl_kernel_rfl

/-- The launch leaves the reference's maxima. -/
theorem final_4 (c : Dev nD) : (dats m 0 c).arrAt 4 (cfgs 0).N = Cert.AttnCRefIdeal.Own.ref_v35 (m ((c : Thread nD τ).loc main_arg0)) := by
  refine (dats m 0 c).arrAt_eq_of_covers 4 _ (by decide +kernel) fun t hf y => ?_
  blk_simp; rw [after0_4]
  unfold outsAt0; dsimp only; frame_out
  refine Eq.trans (congrFun (congrArg View.canon ?_) y) (maxStores m c t (by decide) y)
  sl_kernel_rfl

/-- The launch leaves the reference's denominators. -/
theorem final_5 (c : Dev nD) : (dats m 0 c).arrAt 5 (cfgs 0).N = Cert.AttnCRefIdeal.Own.ref_v38 (m ((c : Thread nD τ).loc main_arg0)) := by
  refine (dats m 0 c).arrAt_eq_of_covers 5 _ (by decide +kernel) fun t hf y => ?_
  blk_simp; rw [after0_5]
  unfold outsAt0; dsimp only; frame_out
  refine Eq.trans (congrFun (congrArg View.canon ?_) y) (sumStores m c t (by decide) y)
  sl_kernel_rfl

end Cert.AttnCIdeal.Own

end
-- ==== Proof.GatesValue.lean ====
module

public import proofs.«01_k».proof.Proof.Gen.GatesIdeal.Frame
public import proofs.«01_k».proof.Proof.Gen.GatesRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GatesRefIdeal.Own

open Cert.GatesRefIdeal Cert.GatesRefIdeal.Gen

/-- The result `main_v10` of the reference, as a term of its arguments. -/
abbrev ref (a0 : FVec Ideal Cert.GatesRefIdeal.S8192x4096 .bf16) (a1 : FVec Ideal Cert.GatesRefIdeal.S4096x25600 .bf16) : FVec Ideal Cert.GatesRefIdeal.S8192x8192 .bf16 :=
  truncf .bf16 (Host.divf (broadcastInDim S8192x8192 ![] bcast_S_S8192x8192 (constant S_ .f32 0x3F800000#32)) (addf (broadcastInDim S8192x8192 ![] bcast_S_S8192x8192 (constant S_ .f32 0x3F800000#32)) (Host.exp (Host.negf (extractStridedSlice S8192x8192 ![0, 17408] (Host.dotGeneral dot_S8192x4096_S4096x25600_S8192x25600_1_0_0_1_n_n none (extf .f32 a0 bitsLt_bf16_f32) (extf .f32 a1 bitsLt_bf16_f32)) slices_S8192x25600_S8192x8192_0_17408))))) bitsLt_bf16_f32

end Cert.GatesRefIdeal.Own

namespace Cert.GatesIdeal.Own

open Cert.GatesIdeal Cert.GatesIdeal.Gen

variable (m : (ℓ : Loc nD τ sig) → Buf (Elt Ideal) ℓ)

/-- Every window's block index at every grid point, in closed form (decided). -/
theorem idx_val : ∀ t : Fin cfg0.N, win0_0.index t = ![t.val / 8, 0]
    ∧ win0_1.index t = ![0, 17 + (t.val % 8)]
    ∧ win0_2.index t = ![t.val / 8, t.val % 8] :=
  (by decide +kernel : ∀ t : Fin grid0.N, _)

set_option maxHeartbeats 1600000 in
/-- POINT over the 8 tile stores of a point: what they leave at block index `y` is the reference at the array index `y` sits at. -/
theorem point (c : Dev nD) (t : Fin cfg0.N) (y) :
    out0_2 (iblk m c 0 t) (iblk m c 1 t) y
      = Cert.GatesRefIdeal.Own.ref (m ((c : Thread nD τ).loc main_arg0)) (m ((c : Thread nD τ).loc main_arg1)) (((cfg0.win 2).blk t).view.emb
        y) := by
  canon_tiles x h
  all_goals (open_payloads; pointwise [Cert.GatesRefIdeal.Own.ref]; unfold Ideal.logistic; blk_point [iblk, V, idx_val t])

theorem final (c : Dev nD) : (dats m 0 c).arrAt 2 (cfgs 0).N = Cert.GatesRefIdeal.Own.ref (m ((c : Thread nD τ).loc main_arg0)) (m ((c : Thread nD τ).loc main_arg1)) := by
  refine (dats m 0 c).arrAt_eq_of_covers 2 _ (by decide +kernel) fun t hf y => ?_
  blk_simp; rw [after0_2]
  exact point m c t y

end Cert.GatesIdeal.Own

end
-- ==== Proof.UvValue.lean ====
module

public import proofs.«01_k».proof.Proof.Gen.UvIdeal.Frame
public import proofs.«01_k».proof.Proof.Gen.UvRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UvRefIdeal.Own

open Cert.UvRefIdeal Cert.UvRefIdeal.Gen

/-- The result `main_v12` of the reference, as a term of its arguments. -/
abbrev ref_v12 (a0 : FVec Ideal Cert.UvRefIdeal.S8192x4096 .bf16) (a1 : FVec Ideal Cert.UvRefIdeal.S4096x25600 .bf16) : FVec Ideal Cert.UvRefIdeal.S8192x8192 .bf16 :=
  truncf .bf16 (mulf (mulf (broadcastInDim S8192x8192 ![] bcast_S_S8192x8192 (constant S_ .f32 0x3F000000#32)) (extractStridedSlice S8192x8192 ![0, 9216] (Host.dotGeneral dot_S8192x4096_S4096x25600_S8192x25600_1_0_0_1_n_n none (extf .f32 a0 bitsLt_bf16_f32) (extf .f32 a1 bitsLt_bf16_f32)) slices_S8192x25600_S8192x8192_0_9216)) (addf (broadcastInDim S8192x8192 ![] bcast_S_S8192x8192 (constant S_ .f32 0x3F800000#32)) (Host.erf (mulf (extractStridedSlice S8192x8192 ![0, 9216] (Host.dotGeneral dot_S8192x4096_S4096x25600_S8192x25600_1_0_0_1_n_n none (extf .f32 a0 bitsLt_bf16_f32) (extf .f32 a1 bitsLt_bf16_f32)) slices_S8192x25600_S8192x8192_0_9216) (broadcastInDim S8192x8192 ![] bcast_S_S8192x8192 (constant S_ .f32 0x3F3504F3#32)))))) bitsLt_bf16_f32

/-- The result `main_v25` of the reference, as a term of its arguments. -/
abbrev ref_v25 (a2 : FVec Ideal Cert.UvRefIdeal.S8192x4096 .f32) (a3 : FVec Ideal Cert.UvRefIdeal.S4096 .f32) : FVec Ideal Cert.UvRefIdeal.S8192x4096 .f32 :=
  mulf (mulf a2 (broadcastInDim S8192x4096 ![0, 1] bcast_S8192x1_S8192x4096_0_1 (Host.rsqrt (addf (Host.divf (broadcastInDim S8192x1 ![0] bcast_S8192_S8192x1_0 (Host.reduceAdd (mulf a2 a2) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 a3))

end Cert.UvRefIdeal.Own

namespace Cert.UvIdeal.Own

open Cert.UvIdeal Cert.UvIdeal.Gen

/-- The error function of the ideal instance, in the two forms it is written. -/
theorem erf_eq (x : Ideal .f32) : FloatOps.erf x = Ideal.erf x := rfl

variable (m : (ℓ : Loc nD τ sig) → Buf (Elt Ideal) ℓ)

/-- Every window's block index at every grid point, in closed form (decided). -/
theorem idx_val : ∀ t : Fin cfg0.N, win0_0.index t = ![t.val / 8, 0]
    ∧ win0_1.index t = ![0, 9 + (t.val % 8)]
    ∧ win0_2.index t = ![(t.val / 8) * 8 + (t.val % 8), 0]
    ∧ win0_3.index t = ![0, 0]
    ∧ win0_4.index t = ![t.val / 8, t.val % 8]
    ∧ win0_5.index t = ![(t.val / 8) * 8 + (t.val % 8), 0] :=
  (by decide +kernel : ∀ t : Fin grid0.N, _)

-- window 3's array `main_v0` is made by @main's host operations before the region (= shapeCast _ main_arg3 shapeCasts_S4096_S1x4096): read `V m c main_v0` with `entry_read`, never by a rewriting lemma

set_option maxHeartbeats 1600000 in
/-- POINT over the 8 tile stores of a point: what they leave at block index `y` is the reference at the array index `y` sits at. -/
theorem point_4 (c : Dev nD) (t : Fin cfg0.N) (y) :
    out0_4 (iblk m c 0 t) (iblk m c 1 t) (iblk m c 2 t) (iblk m c 3 t) y
      = Cert.UvRefIdeal.Own.ref_v12 (m ((c : Thread nD τ).loc main_arg0)) (m ((c : Thread nD τ).loc main_arg1)) (((cfg0.win 4).blk
        t).view.emb y) := by
  canon_tiles x h; all_goals (open_payloads; pointwise [Cert.UvRefIdeal.Own.ref_v12]; simp only [erf_eq]; blk_point [iblk, V, idx_val t])

theorem final_4 (c : Dev nD) : (dats m 0 c).arrAt 4 (cfgs 0).N = Cert.UvRefIdeal.Own.ref_v12 (m ((c : Thread nD τ).loc main_arg0)) (m ((c : Thread nD τ).loc main_arg1)) := by
  refine (dats m 0 c).arrAt_eq_of_covers 4 _ (by decide +kernel) fun t hf y => ?_
  blk_simp; rw [after0_4]
  exact point_4 m c t y

/-- POINT: what the body stores at block index `y` of point `t` is the reference at the array index `y` sits at. -/
theorem point_5 (c : Dev nD) (t : Fin cfg0.N) (y) :
    k0_pay3 (iblk m c 2 t) (iblk m c 3 t) y
      = Cert.UvRefIdeal.Own.ref_v25 (m ((c : Thread nD τ).loc main_arg2)) (m ((c : Thread nD τ).loc main_arg3)) (((cfg0.win 5).blk
        t).view.emb y) := by
  pointwise [k0_pay3, Cert.UvRefIdeal.Own.ref_v25]; blk_point [iblk, V, idx_val t]

/-- BRIDGE: the result array after the run. -/
theorem final_5 (c : Dev nD) : (dats m 0 c).arrAt 5 (cfgs 0).N = Cert.UvRefIdeal.Own.ref_v25 (m ((c : Thread nD τ).loc main_arg2)) (m ((c : Thread nD τ).loc main_arg3)) := by
  refine (dats m 0 c).arrAt_eq_of_covers 5 _ (by decide +kernel) fun t hf y => ?_
  blk_simp; rw [after0_5]; frame_out
  exact point_5 m c t y

end Cert.UvIdeal.Own

end
-- ==== Proof.MergeValue.lean ====
module

public import proofs.«01_k».proof.Proof.Gen.MergeIdeal.Frame
public import proofs.«01_k».proof.Proof.Gen.MergeRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeRefIdeal.Own

open Cert.MergeRefIdeal Cert.MergeRefIdeal.Gen

/-- The result `main_v15` of the reference, as a term of its arguments. -/
abbrev ref (a0 : FVec Ideal Cert.MergeRefIdeal.S8192x1024 .bf16) (a1 : FVec Ideal Cert.MergeRefIdeal.S8192x4096 .bf16) (a2 : FVec Ideal Cert.MergeRefIdeal.S8x5120x512 .bf16) (a3 : FVec Ideal Cert.MergeRefIdeal.S8192x8192 .bf16) : FVec Ideal Cert.MergeRefIdeal.S8192x4096 .bf16 :=
  truncf .bf16 (addf (mulf (extractStridedSlice S8192x4096 ![0, 0] (extf .f32 a3 bitsLt_bf16_f32) slices_S8192x8192_S8192x4096_0_0) (Host.dotGeneral dot_S8192x1024_S1024x4096_S8192x4096_1_0_0_1_n_n none (extf .f32 a0 bitsLt_bf16_f32) (extractStridedSlice S1024x4096 ![0, 0] (shapeCast _ (transpose S5120x8x512 [1, 0, 2] (extf .f32 a2 bitsLt_bf16_f32) transposes_S8x5120x512_S5120x8x512_1_0_2) shapeCasts_S5120x8x512_S5120x4096) slices_S5120x4096_S1024x4096_0_0))) (mulf (extractStridedSlice S8192x4096 ![0, 4096] (extf .f32 a3 bitsLt_bf16_f32) slices_S8192x8192_S8192x4096_0_4096) (Host.dotGeneral dot_S8192x4096_S4096x4096_S8192x4096_1_0_0_1_n_n none (extf .f32 a1 bitsLt_bf16_f32) (extractStridedSlice S4096x4096 ![1024, 0] (shapeCast _ (transpose S5120x8x512 [1, 0, 2] (extf .f32 a2 bitsLt_bf16_f32) transposes_S8x5120x512_S5120x8x512_1_0_2) shapeCasts_S5120x8x512_S5120x4096) slices_S5120x4096_S4096x4096_1024_0)))) bitsLt_bf16_f32

end Cert.MergeRefIdeal.Own

namespace Cert.MergeIdeal.Own

open Cert.MergeIdeal Cert.MergeIdeal.Gen

variable (m : (ℓ : Loc nD τ sig) → Buf (Elt Ideal) ℓ)

/-- Every window's block index at every grid point, in closed form (decided). -/
theorem idx_val : ∀ t : Fin cfg0.N, win0_0.index t = ![t.val / 8, 0]
    ∧ win0_1.index t = ![t.val / 8, 0]
    ∧ win0_2.index t = ![t.val % 8, 0, 0]
    ∧ win0_3.index t = ![t.val / 8, t.val % 8]
    ∧ win0_4.index t = ![t.val / 8, 8 + (t.val % 8)]
    ∧ win0_5.index t = ![t.val / 8, t.val % 8] :=
  (by decide +kernel : ∀ t : Fin grid0.N, _)

set_option maxHeartbeats 1600000 in
/-- POINT over the 8 tile stores of a point: what they leave at block index `y` is the reference at the array index `y` sits at. -/
theorem point (c : Dev nD) (t : Fin cfg0.N) (y) :
    out0_5 (iblk m c 0 t) (iblk m c 1 t) (iblk m c 2 t) (iblk m c 3 t) (iblk m c 4 t) y
      = Cert.MergeRefIdeal.Own.ref (m ((c : Thread nD τ).loc main_arg0)) (m ((c : Thread nD τ).loc main_arg1)) (m ((c : Thread nD τ).loc
        main_arg2)) (m ((c : Thread nD τ).loc main_arg3)) (((cfg0.win 5).blk t).view.emb y) := by
  canon_tiles x h; all_goals (open_payloads; pointwise [Cert.MergeRefIdeal.Own.ref]; blk_point [iblk, V, idx_val t])

theorem final (c : Dev nD) : (dats m 0 c).arrAt 5 (cfgs 0).N = Cert.MergeRefIdeal.Own.ref (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]
  exact point m c t y

end Cert.MergeIdeal.Own

end
-- ==== Proof.OutProjValue.lean ====
module

public import proofs.«01_k».proof.Proof.Gen.OutProjIdeal.Frame
public import proofs.«01_k».proof.Proof.Gen.OutProjRefIdeal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OutProjRefIdeal.Own

open Cert.OutProjRefIdeal Cert.OutProjRefIdeal.Gen

/-- The result `main_v5` of the reference, as a term of its arguments. -/
abbrev ref_v5 (a0 : FVec Ideal Cert.OutProjRefIdeal.S8192x4096 .bf16) (a1 : FVec Ideal Cert.OutProjRefIdeal.S4x4096x1024 .bf16) (a2 : FVec Ideal Cert.OutProjRefIdeal.S8192x4096 .f32) : FVec Ideal Cert.OutProjRefIdeal.S8192x4096 .f32 :=
  addf a2 (Host.dotGeneral dot_S8192x4096_S4096x4096_S8192x4096_1_0_0_1_n_n none (extf .f32 a0 bitsLt_bf16_f32) (shapeCast _ (transpose S4096x4x1024 [1, 0, 2] (extf .f32 a1 bitsLt_bf16_f32) transposes_S4x4096x1024_S4096x4x1024_1_0_2) shapeCasts_S4096x4x1024_S4096x4096))

/-- The result `main_v12` of the reference, as a term of its arguments. -/
abbrev ref_v12 (a0 : FVec Ideal Cert.OutProjRefIdeal.S8192x4096 .bf16) (a1 : FVec Ideal Cert.OutProjRefIdeal.S4x4096x1024 .bf16) (a2 : FVec Ideal Cert.OutProjRefIdeal.S8192x4096 .f32) (a3 : FVec Ideal Cert.OutProjRefIdeal.S4096 .f32) : FVec Ideal Cert.OutProjRefIdeal.S8192x4096 .bf16 :=
  truncf .bf16 (mulf (addf a2 (Host.dotGeneral dot_S8192x4096_S4096x4096_S8192x4096_1_0_0_1_n_n none (extf .f32 a0 bitsLt_bf16_f32) (shapeCast _ (transpose S4096x4x1024 [1, 0, 2] (extf .f32 a1 bitsLt_bf16_f32) transposes_S4x4096x1024_S4096x4x1024_1_0_2) shapeCasts_S4096x4x1024_S4096x4096))) (broadcastInDim S8192x4096 ![0, 1] bcast_S1x4096_S8192x4096_0_1 (broadcastInDim S1x4096 ![1] bcast_S4096_S1x4096_1 a3))) bitsLt_bf16_f32

/-- The result `main_v13` of the reference, as a term of its arguments. -/
abbrev ref_v13 (a0 : FVec Ideal Cert.OutProjRefIdeal.S8192x4096 .bf16) (a1 : FVec Ideal Cert.OutProjRefIdeal.S4x4096x1024 .bf16) (a2 : FVec Ideal Cert.OutProjRefIdeal.S8192x4096 .f32) : FVec Ideal Cert.OutProjRefIdeal.S8192x128 .f32 :=
  broadcastInDim S8192x128 ![0, 1] bcast_S8192x1_S8192x128_0_1 (broadcastInDim S8192x1 ![0] bcast_S8192_S8192x1_0 (Host.reduceAdd (mulf (addf a2 (Host.dotGeneral dot_S8192x4096_S4096x4096_S8192x4096_1_0_0_1_n_n none (extf .f32 a0 bitsLt_bf16_f32) (shapeCast _ (transpose S4096x4x1024 [1, 0, 2] (extf .f32 a1 bitsLt_bf16_f32) transposes_S4x4096x1024_S4096x4x1024_1_0_2) shapeCasts_S4096x4x1024_S4096x4096))) (addf a2 (Host.dotGeneral dot_S8192x4096_S4096x4096_S8192x4096_1_0_0_1_n_n none (extf .f32 a0 bitsLt_bf16_f32) (shapeCast _ (transpose S4096x4x1024 [1, 0, 2] (extf .f32 a1 bitsLt_bf16_f32) transposes_S4x4096x1024_S4096x4x1024_1_0_2) shapeCasts_S4096x4x1024_S4096x4096)))) (constant S_ .f32 0x00000000#32) reducesTo_S8192x4096_S8192_d1 h_S_))

end Cert.OutProjRefIdeal.Own

namespace Cert.OutProjIdeal.Own

open Cert.OutProjIdeal Cert.OutProjIdeal.Gen

variable (m : (ℓ : Loc nD τ sig) → Buf (Elt Ideal) ℓ)

/-- Every window's block index at every grid point, in closed form (decided). -/
theorem idx_val : ∀ t : Fin cfg0.N, win0_0.index t = ![t.val / 4, 0]
    ∧ win0_1.index t = ![t.val % 4, 0, 0]
    ∧ win0_2.index t = ![t.val / 4, t.val % 4]
    ∧ win0_3.index t = ![0, t.val % 4]
    ∧ win0_4.index t = ![t.val / 4, t.val % 4]
    ∧ win0_5.index t = ![t.val / 4, t.val % 4]
    ∧ win0_6.index t = ![t.val / 4, 0] :=
  (by decide +kernel : ∀ t : Fin grid0.N, _)

-- window 3's array `main_v0` is made by @main's host operations before the region (= shapeCast _ main_arg3 shapeCasts_S4096_S1x4096): read `V m c main_v0` with `entry_read`, never by a rewriting lemma

set_option maxHeartbeats 1600000 in
/-- POINT of window 4 at a point of kit case A (`frame_out` opens the kit word: N tile STORES, value_cases.md §(c) store side). -/
theorem point_4_A (c : Dev nD) (t : Fin cfg0.N) (h0 : t.val % 4 = 0) (y) :
    (out0_A_4 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) ((hcond0_0 t).mpr h0) (iblk m c 0 t) (iblk m c 1 t)
      (iblk m c 2 t) (iblk m c 3 t)) y
      = Cert.OutProjRefIdeal.Own.ref_v5 (m ((c : Thread nD τ).loc main_arg0)) (m ((c : Thread nD τ).loc main_arg1)) (m ((c : Thread nD τ).loc
        main_arg2)) (((cfg0.win 4).blk t).view.emb y) := by
  frame_open
  simp (disch := decide) only [↓ View.readCov_skip, ↓ View.readCov_cons_toLoadRect, ↓ View.readCov_fill]
  frame_out
  canon_tiles x h; all_goals (open_payloads; pointwise [Cert.OutProjRefIdeal.Own.ref_v5]; blk_point [iblk, V, idx_val t])

set_option maxHeartbeats 1600000 in
/-- POINT of window 4 at a point of kit case B (`frame_out` opens the kit word: N tile STORES, value_cases.md §(c) store side). -/
theorem point_4_B (c : Dev nD) (t : Fin cfg0.N) (h0 : ¬t.val % 4 = 0) (y) :
    (out0_B_4 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (fun h => h0 ((hcond0_0 t).mp h)) (iblk m c 0 t) (iblk
      m c 1 t) (iblk m c 2 t) (iblk m c 3 t) (outsAt0 m c (t.val - 1) (Nat.lt_of_le_of_lt (Nat.sub_le _ _) t.isLt)).2.2)
      y
      = Cert.OutProjRefIdeal.Own.ref_v5 (m ((c : Thread nD τ).loc main_arg0)) (m ((c : Thread nD τ).loc main_arg1)) (m ((c : Thread nD τ).loc
        main_arg2)) (((cfg0.win 4).blk t).view.emb y) := by
  frame_open
  simp (disch := decide) only [↓ View.readCov_skip, ↓ View.readCov_cons_toLoadRect, ↓ View.readCov_fill]
  frame_out
  canon_tiles x h; all_goals (open_payloads; pointwise [Cert.OutProjRefIdeal.Own.ref_v5]; blk_point [iblk, V, idx_val t])

theorem final_4 (c : Dev nD) : (dats m 0 c).arrAt 4 (cfgs 0).N = Cert.OutProjRefIdeal.Own.ref_v5 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]
  by_cases h : t.val % 4 = 0
  · rw [outsAt0_A m c t h]; dsimp only; exact point_4_A m c t h y
  · rw [outsAt0_B m c t h]; dsimp only; exact point_4_B m c t h y

set_option maxHeartbeats 1600000 in
/-- POINT of window 5 at a point of kit case A (`frame_out` opens the kit word: N tile STORES, value_cases.md §(c) store side). -/
theorem point_5_A (c : Dev nD) (t : Fin cfg0.N) (h0 : t.val % 4 = 0) (y) :
    (out0_A_5 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) ((hcond0_0 t).mpr h0) (iblk m c 0 t) (iblk m c 1 t)
      (iblk m c 2 t) (iblk m c 3 t)) y
      = Cert.OutProjRefIdeal.Own.ref_v12 (m ((c : Thread nD τ).loc main_arg0)) (m ((c : Thread nD τ).loc main_arg1)) (m ((c : Thread nD τ).loc
        main_arg2)) (m ((c : Thread nD τ).loc main_arg3)) (((cfg0.win 5).blk t).view.emb y) := by
  frame_open
  simp (disch := decide) only [↓ View.readCov_skip, ↓ View.readCov_cons_toLoadRect, ↓ View.readCov_fill]
  frame_out
  canon_tiles x h; all_goals (open_payloads; pointwise [Cert.OutProjRefIdeal.Own.ref_v12]; blk_point [iblk, V, idx_val t])

set_option maxHeartbeats 1600000 in
/-- POINT of window 5 at a point of kit case B (`frame_out` opens the kit word: N tile STORES, value_cases.md §(c) store side). -/
theorem point_5_B (c : Dev nD) (t : Fin cfg0.N) (h0 : ¬t.val % 4 = 0) (y) :
    (out0_B_5 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (fun h => h0 ((hcond0_0 t).mp h)) (iblk m c 0 t) (iblk
      m c 1 t) (iblk m c 2 t) (iblk m c 3 t) (outsAt0 m c (t.val - 1) (Nat.lt_of_le_of_lt (Nat.sub_le _ _) t.isLt)).2.2)
      y
      = Cert.OutProjRefIdeal.Own.ref_v12 (m ((c : Thread nD τ).loc main_arg0)) (m ((c : Thread nD τ).loc main_arg1)) (m ((c : Thread nD τ).loc
        main_arg2)) (m ((c : Thread nD τ).loc main_arg3)) (((cfg0.win 5).blk t).view.emb y) := by
  frame_open
  simp (disch := decide) only [↓ View.readCov_skip, ↓ View.readCov_cons_toLoadRect, ↓ View.readCov_fill]
  frame_out
  canon_tiles x h; all_goals (open_payloads; pointwise [Cert.OutProjRefIdeal.Own.ref_v12]; blk_point [iblk, V, idx_val t])

theorem final_5 (c : Dev nD) : (dats m 0 c).arrAt 5 (cfgs 0).N = Cert.OutProjRefIdeal.Own.ref_v12 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]
  by_cases h : t.val % 4 = 0
  · rw [outsAt0_A m c t h]; dsimp only; exact point_5_A m c t h y
  · rw [outsAt0_B m c t h]; dsimp only; exact point_5_B m c t h y

end Cert.OutProjIdeal.Own

end
-- ==== Proof.OutProjSums.lean ====
module

public import proofs.«01_k».proof.Proof.Gen.OutProjIdeal.Frame
public import proofs.«01_k».proof.Proof.Gen.OutProjRefIdeal.Run
public import Idealize.ShloMosaic.Lib.Pipeline.ValueKit
public import Idealize.ShloMosaic.Lib.Pointwise
public import Idealize.ShloMosaic.Lib.Claim
public import proofs.«01_k».proof.Proof.OutProjValue
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OutProjIdeal.Own

open Cert.OutProjIdeal Cert.OutProjIdeal.Gen

variable (m : (ℓ : Loc nD τ sig) → Buf (Elt Ideal) ℓ)

/-- The squares that a grid point adds for a row of its block: those of the point's 1024 columns of the sum. -/
def squares (r : S1024x1024.Idx → EReal) (a : S1024x4096.Idx → EReal) (w : S1x4096x1024.Idx → EReal) (y : S1024x128.Idx) : EReal :=
  ∑ j : Fin 1024, (r (ix2 (y 0) j) + ∑ k : Fin 4096, a (ix2 (y 0) k) * w (ix3 0 k j))
    * (r (ix2 (y 0) j) + ∑ k : Fin 4096, a (ix2 (y 0) k) * w (ix3 0 k j))

/-- What one store leaves: the sums so far of its 128 rows, and the squares of the rows' columns. -/
theorem piece (r : S1024x1024.Idx → EReal) (a : S1024x4096.Idx → EReal) (w : S1x4096x1024.Idx → EReal) (p : S1024x128.Idx → EReal)
    (d : ℕ) (h1) (h2) (h3) (x) :
    k0_pay4 (F := Ideal) (View.ld (Val := Elt Ideal) (e' := .f32) r (Rect.unit (s := S1024x1024) ![d, 0] ![128, 1024] h1))
        (View.ld (Val := Elt Ideal) (e' := .bf16) a (Rect.unit (s := S1024x4096) ![d, 0] ![128, 4096] h2)) w
        (View.ld (Val := Elt Ideal) (e' := .f32) p (Rect.unit (s := S1024x128) ![d, 0] ![128, 128] h3)) x
      = p ((Rect.unit (s := S1024x128) ![d, 0] ![128, 128] h3).emb x) + squares r a w ((Rect.unit (s := S1024x128) ![d, 0] ![128, 128] h3).emb x) := by
  open_payloads
  pointwise [squares]
  have e : (Rect.unit (s := S1024x128) ![d, 0] ![128, 128] h3).emb x = ix2 ⟨d + (x 0).val, by have := h3 0; have := (x 0).isLt; simp at *; omega⟩ (x 1) := by
    blk_ext
  rw [e]
  rfl

/-- The eight stores of a point, the last first: each adds the squares of 128 rows to the sums `p`. -/
def stores (r : FVec Ideal S1024x1024 .f32) (a : FVec Ideal S1024x4096 .bf16) (w : FVec Ideal S1x4096x1024 .bf16) (p : FVec Ideal S1024x128 .f32) :
    List (View.Piece (Elt Ideal) S1024x128 .f32) :=
    [⟨Rect.unit (s := S1024x128) ![896, 0] ![128, 128] inb_S1024x128_S128x128_896_0,
       k0_pay4 (F := Ideal) (View.ld (Val := Elt Ideal) (e' := .f32) r (Rect.unit (s := S1024x1024) ![896, 0] ![128, 1024] inb_S1024x1024_S128x1024_896_0))
         (View.ld (Val := Elt Ideal) (e' := .bf16) a (Rect.unit (s := S1024x4096) ![896, 0] ![128, 4096] inb_S1024x4096_S128x4096_896_0)) w (View.ld (Val := Elt Ideal) (e' := .f32) p (Rect.unit (s := S1024x128) ![896, 0] ![128, 128] inb_S1024x128_S128x128_896_0))⟩,
     ⟨Rect.unit (s := S1024x128) ![768, 0] ![128, 128] inb_S1024x128_S128x128_768_0,
       k0_pay4 (F := Ideal) (View.ld (Val := Elt Ideal) (e' := .f32) r (Rect.unit (s := S1024x1024) ![768, 0] ![128, 1024] inb_S1024x1024_S128x1024_768_0))
         (View.ld (Val := Elt Ideal) (e' := .bf16) a (Rect.unit (s := S1024x4096) ![768, 0] ![128, 4096] inb_S1024x4096_S128x4096_768_0)) w (View.ld (Val := Elt Ideal) (e' := .f32) p (Rect.unit (s := S1024x128) ![768, 0] ![128, 128] inb_S1024x128_S128x128_768_0))⟩,
     ⟨Rect.unit (s := S1024x128) ![640, 0] ![128, 128] inb_S1024x128_S128x128_640_0,
       k0_pay4 (F := Ideal) (View.ld (Val := Elt Ideal) (e' := .f32) r (Rect.unit (s := S1024x1024) ![640, 0] ![128, 1024] inb_S1024x1024_S128x1024_640_0))
         (View.ld (Val := Elt Ideal) (e' := .bf16) a (Rect.unit (s := S1024x4096) ![640, 0] ![128, 4096] inb_S1024x4096_S128x4096_640_0)) w (View.ld (Val := Elt Ideal) (e' := .f32) p (Rect.unit (s := S1024x128) ![640, 0] ![128, 128] inb_S1024x128_S128x128_640_0))⟩,
     ⟨Rect.unit (s := S1024x128) ![512, 0] ![128, 128] inb_S1024x128_S128x128_512_0,
       k0_pay4 (F := Ideal) (View.ld (Val := Elt Ideal) (e' := .f32) r (Rect.unit (s := S1024x1024) ![512, 0] ![128, 1024] inb_S1024x1024_S128x1024_512_0))
         (View.ld (Val := Elt Ideal) (e' := .bf16) a (Rect.unit (s := S1024x4096) ![512, 0] ![128, 4096] inb_S1024x4096_S128x4096_512_0)) w (View.ld (Val := Elt Ideal) (e' := .f32) p (Rect.unit (s := S1024x128) ![512, 0] ![128, 128] inb_S1024x128_S128x128_512_0))⟩,
     ⟨Rect.unit (s := S1024x128) ![384, 0] ![128, 128] inb_S1024x128_S128x128_384_0,
       k0_pay4 (F := Ideal) (View.ld (Val := Elt Ideal) (e' := .f32) r (Rect.unit (s := S1024x1024) ![384, 0] ![128, 1024] inb_S1024x1024_S128x1024_384_0))
         (View.ld (Val := Elt Ideal) (e' := .bf16) a (Rect.unit (s := S1024x4096) ![384, 0] ![128, 4096] inb_S1024x4096_S128x4096_384_0)) w (View.ld (Val := Elt Ideal) (e' := .f32) p (Rect.unit (s := S1024x128) ![384, 0] ![128, 128] inb_S1024x128_S128x128_384_0))⟩,
     ⟨Rect.unit (s := S1024x128) ![256, 0] ![128, 128] inb_S1024x128_S128x128_256_0,
       k0_pay4 (F := Ideal) (View.ld (Val := Elt Ideal) (e' := .f32) r (Rect.unit (s := S1024x1024) ![256, 0] ![128, 1024] inb_S1024x1024_S128x1024_256_0))
         (View.ld (Val := Elt Ideal) (e' := .bf16) a (Rect.unit (s := S1024x4096) ![256, 0] ![128, 4096] inb_S1024x4096_S128x4096_256_0)) w (View.ld (Val := Elt Ideal) (e' := .f32) p (Rect.unit (s := S1024x128) ![256, 0] ![128, 128] inb_S1024x128_S128x128_256_0))⟩,
     ⟨Rect.unit (s := S1024x128) ![128, 0] ![128, 128] inb_S1024x128_S128x128_128_0,
       k0_pay4 (F := Ideal) (View.ld (Val := Elt Ideal) (e' := .f32) r (Rect.unit (s := S1024x1024) ![128, 0] ![128, 1024] inb_S1024x1024_S128x1024_128_0))
         (View.ld (Val := Elt Ideal) (e' := .bf16) a (Rect.unit (s := S1024x4096) ![128, 0] ![128, 4096] inb_S1024x4096_S128x4096_128_0)) w (View.ld (Val := Elt Ideal) (e' := .f32) p (Rect.unit (s := S1024x128) ![128, 0] ![128, 128] inb_S1024x128_S128x128_128_0))⟩,
     ⟨Rect.unit (s := S1024x128) ![0, 0] ![128, 128] inb_S1024x128_S128x128_0_0,
       k0_pay4 (F := Ideal) (View.ld (Val := Elt Ideal) (e' := .f32) r (Rect.unit (s := S1024x1024) ![0, 0] ![128, 1024] inb_S1024x1024_S128x1024_0_0))
         (View.ld (Val := Elt Ideal) (e' := .bf16) a (Rect.unit (s := S1024x4096) ![0, 0] ![128, 4096] inb_S1024x4096_S128x4096_0_0)) w (View.ld (Val := Elt Ideal) (e' := .f32) p (Rect.unit (s := S1024x128) ![0, 0] ![128, 128] inb_S1024x128_S128x128_0_0))⟩]

/-- What the eight stores leave, whatever was stored before them. -/
theorem stores_apply (r : FVec Ideal S1024x1024 .f32) (a : FVec Ideal S1024x4096 .bf16) (w : FVec Ideal S1x4096x1024 .bf16) (p : FVec Ideal S1024x128 .f32)
    (L : List (View.Piece (Elt Ideal) S1024x128 .f32)) (y : S1024x128.Idx) :
    View.canon (stores r a w p ++ L) y = ((p y : EReal) + squares r a w y : EReal) := by
  refine View.canon_append_of_piecesOf (Val := Elt Ideal) (e := .f32) (fun y => (p y : EReal) + squares r a w y) L (stores r a w p) ?_ y ?_
  · unfold stores
    exact ⟨fun x => piece r a w p 896 _ _ _ x, fun x => piece r a w p 768 _ _ _ x, fun x => piece r a w p 640 _ _ _ x, fun x => piece r a w p 512 _ _ _ x, fun x => piece r a w p 384 _ _ _ x, fun x => piece r a w p 256 _ _ _ x, fun x => piece r a w p 128 _ _ _ x, fun x => piece r a w p 0 _ _ _ x, trivial⟩
  · exact View.cover_of_tiledL (s := S1024x128) (stores r a w p) ![128, 128] (by sl_kernel_rfl) y

/-- At the first point of a block row the sums start from zero and take the point's own squares. -/
theorem point_6_A (c : Dev nD) (t : Fin cfg0.N) (h0 : t.val % 4 = 0) (y) :
    (out0_A_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) ((hcond0_0 t).mpr h0) (iblk m c 0 t) (iblk m c 1 t)
      (iblk m c 2 t) (iblk m c 3 t)) y
      = (0 : EReal) + squares (iblk m c 2 t) (iblk m c 0 t) (iblk m c 1 t) y := by
  frame_open
  simp (disch := decide) only [↓ View.readCov_skip, ↓ View.readCov_cons_toLoadRect, ↓ View.readCov_fill]
  frame_out
  have hz : (k0_pay5 (F := Ideal) y : EReal) = 0 := by pointwise [k0_pay5]
  refine Eq.trans ?_ (congrArg (fun z : EReal => z + squares (iblk m c 2 t) (iblk m c 0 t) (iblk m c 1 t) y) hz)
  exact stores_apply (iblk m c 2 t) (iblk m c 0 t) (iblk m c 1 t) (k0_pay5 (F := Ideal))
    [⟨Rect.unit (s := S1024x128) ![0, 0] ![1024, 128] inb_S1024x128_S1024x128_0_0, k0_pay5 (F := Ideal)⟩] y

/-- At every further point of a block row the point's own squares are added to the sums so far. -/
theorem point_6_B (c : Dev nD) (t : Fin cfg0.N) (h0 : ¬t.val % 4 = 0) (y) :
    (out0_B_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (fun h => h0 ((hcond0_0 t).mp h)) (iblk m c 0 t) (iblk
      m c 1 t) (iblk m c 2 t) (iblk m c 3 t) (outsAt0 m c (t.val - 1) (Nat.lt_of_le_of_lt (Nat.sub_le _ _) t.isLt)).2.2)
      y
      = ((outsAt0 m c (t.val - 1) (Nat.lt_of_le_of_lt (Nat.sub_le _ _) t.isLt)).2.2 y : EReal) + squares (iblk m c 2 t) (iblk m c 0 t) (iblk m c 1 t) y := by
  frame_open
  simp (disch := decide) only [↓ View.readCov_skip, ↓ View.readCov_cons_toLoadRect, ↓ View.readCov_fill]
  frame_out
  generalize (outsAt0 m c (t.val - 1) _).2.2 = p
  exact stores_apply (iblk m c 2 t) (iblk m c 0 t) (iblk m c 1 t) p [] y

/-- After the last point of a block row a row's sum has the squares of the four points of the block row. -/
theorem sums_at (c : Dev nD) (t : Fin cfg0.N) (ht : t.val % 4 = 3) (y) :
    ((outsAt0 m c t.val t.isLt).2.2 y : EReal)
      = 0 + ∑ s : Fin 4, squares (iblk m c 2 ⟨4 * (t.val / 4) + s.val, Pipeline.run_point_lt_of_flush t ht s⟩)
          (iblk m c 0 ⟨4 * (t.val / 4) + s.val, Pipeline.run_point_lt_of_flush t ht s⟩)
          (iblk m c 1 ⟨4 * (t.val / 4) + s.val, Pipeline.run_point_lt_of_flush t ht s⟩) y := by
  refine Pipeline.eq_sum_fin_of_reset_step_apply_of_flush (ι := S1024x128.Idx) (M := EReal) (fun n h => (outsAt0 m c n h).2.2) 4 (fun _ => 0)
    (fun t y => squares (iblk m c 2 t) (iblk m c 0 t) (iblk m c 1 t) y) (fun t h y => ?_) (fun t h y => ?_) t ht y
  · rw [outsAt0_A m c t h]; dsimp only; exact point_6_A m c t h y
  · rw [outsAt0_B m c t h]; dsimp only; exact point_6_B m c t h y

set_option maxHeartbeats 1600000 in
/-- What the launch leaves in the third result is the reference's sums of squares. -/
theorem final_6 (c : Dev nD) : (dats m 0 c).arrAt 6 (cfgs 0).N = Cert.OutProjRefIdeal.Own.ref_v13 (m ((c : Thread nD τ).loc main_arg0)) (m ((c : Thread nD τ).loc main_arg1)) (m ((c : Thread nD τ).loc main_arg2)) := by
  refine (dats m 0 c).arrAt_eq_of_covers 6 _ (by decide +kernel) fun t hf y => ?_
  have ht : t.val % 4 = 3 := (flush0_6 t).mp hf
  blk_simp; rw [after0_6]
  refine (sums_at m c t ht y).trans ?_
  rw [zero_add]
  pointwise [Cert.OutProjRefIdeal.Own.ref_v13]
  unfold squares
  refine Fin.sum_mul_add_congr fun s k hl => ?_
  blk_point [iblk, V, idx_val t, idx_val ⟨_, Pipeline.run_point_lt_of_flush t ht s⟩]

end Cert.OutProjIdeal.Own

end
-- ==== Proof.RowScale.lean ====
module

public import Idealize.ShloMosaic.Lib.Pointwise
public import Idealize.ShloMosaic.Lib.IdealHost

@[expose] public section

noncomputable section

open Idealize.ShloMosaic

namespace Cert.RowScale

/-- The width of a row as a real number. -/
theorem ofBits_width : Ideal.ofBits .f32 0x45800000#32 = ((4096 : ℝ) : EReal) := by
  simp [Ideal.ofBits, Ideal.ieee, -EReal.coe_mul]; norm_num

/-- The normalisation's epsilon is a positive real. -/
theorem ofBits_eps : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

/-- The normalisation factor of a row whose sum of squares is not negative: neither negative nor infinite. -/
theorem factor_bounds {s : EReal} (hs : 0 ≤ s) :
    0 ≤ Ideal.rsqrt (Ideal.div s (Ideal.ofBits .f32 0x45800000#32) + Ideal.ofBits .f32 0x358637BD#32)
      ∧ Ideal.rsqrt (Ideal.div s (Ideal.ofBits .f32 0x45800000#32) + Ideal.ofBits .f32 0x358637BD#32) ≠ ⊤ := by
  obtain ⟨e, he, heq⟩ := ofBits_eps
  rw [ofBits_width, heq, Ideal.div_coe (by norm_num)]
  induction s with
  | bot => exact absurd hs (by simp)
  | top =>
    rw [EReal.top_mul_coe_of_pos (by norm_num), EReal.top_add_coe, Ideal.rsqrt_top]
    simp
  | coe r =>
    have hr : 0 ≤ r := by exact_mod_cast hs
    have hp : 0 < r * (1 / 4096) + e := by positivity
    rw [← EReal.coe_mul, ← EReal.coe_add, Ideal.rsqrt_coe, if_neg (not_lt.mpr hp.le), if_neg hp.ne']
    exact ⟨by exact_mod_cast inv_nonneg.mpr (Real.sqrt_nonneg _), EReal.coe_ne_top _⟩

/-- A factor that is neither negative nor infinite comes out of a sum. -/
theorem mul_sum {n : ℕ} (r : EReal) (h0 : 0 ≤ r) (ht : r ≠ ⊤) (f : Fin n → EReal) :
    r * ∑ i, f i = ∑ i, r * f i := by
  classical
  have key : ∀ s : Finset (Fin n), r * ∑ i ∈ s, f i = ∑ i ∈ s, r * f i := by
    intro s
    induction s using Finset.induction_on with
    | empty => simp
    | insert a s ha ih =>
      rw [Finset.sum_insert ha, Finset.sum_insert ha, EReal.left_distrib_of_nonneg_of_ne_top h0 ht, ih]
  exact key Finset.univ

/-- A factor common to the left operands of a contraction comes out of it. -/
theorem scaled_contraction {n : ℕ} (r : EReal) (h0 : 0 ≤ r) (ht : r ≠ ⊤) (x w : Fin n → EReal) :
    ∑ i, x i * r * w i = r * ∑ i, x i * w i := by
  rw [mul_sum r h0 ht]
  exact Finset.sum_congr rfl fun i _ => by rw [mul_comm (x i) r, mul_assoc]

/-- The normalisation factor of a row comes out of a contraction over the row. -/
theorem normalised_contraction {n : ℕ} {s : EReal} (hs : 0 ≤ s) (x w : Fin n → EReal) :
    ∑ i, x i * Ideal.rsqrt (Ideal.div s (Ideal.ofBits .f32 0x45800000#32) + Ideal.ofBits .f32 0x358637BD#32) * w i
      = Ideal.rsqrt (Ideal.div s (Ideal.ofBits .f32 0x45800000#32) + Ideal.ofBits .f32 0x358637BD#32) * ∑ i, x i * w i :=
  scaled_contraction _ (factor_bounds hs).1 (factor_bounds hs).2 x w

/-- The gated product of two contractions over a normalised row: with the factor outside the contractions and with the
    row normalised first. -/
theorem gated_rows {n : ℕ} {s s' : EReal} (hs : 0 ≤ s') (hr : s = s') {x w u x' w' u' : Fin n → EReal}
    (hx : ∀ i, x i = x' i) (hw : ∀ i, w i = w' i) (hu : ∀ i, u i = u' i) :
    (Ideal.rsqrt (Ideal.div s (Ideal.ofBits .f32 0x45800000#32) + Ideal.ofBits .f32 0x358637BD#32) * ∑ i, x i * w i)
        * Ideal.div 1 (1 + Ideal.exp (-(Ideal.rsqrt (Ideal.div s (Ideal.ofBits .f32 0x45800000#32) + Ideal.ofBits .f32 0x358637BD#32) * ∑ i, x i * w i)))
        * (Ideal.rsqrt (Ideal.div s (Ideal.ofBits .f32 0x45800000#32) + Ideal.ofBits .f32 0x358637BD#32) * ∑ i, x i * u i)
      = (∑ i, x' i * Ideal.rsqrt (Ideal.div s' (Ideal.ofBits .f32 0x45800000#32) + Ideal.ofBits .f32 0x358637BD#32) * w' i)
        * Ideal.div 1 (1 + Ideal.exp (-∑ i, x' i * Ideal.rsqrt (Ideal.div s' (Ideal.ofBits .f32 0x45800000#32) + Ideal.ofBits .f32 0x358637BD#32) * w' i))
        * ∑ i, x' i * Ideal.rsqrt (Ideal.div s' (Ideal.ofBits .f32 0x45800000#32) + Ideal.ofBits .f32 0x358637BD#32) * u' i := by
  obtain rfl := funext hx
  obtain rfl := funext hw
  obtain rfl := funext hu
  subst hr
  rw [normalised_contraction hs, normalised_contraction hs]

end Cert.RowScale

end
-- ==== Proof.GateUpValue.lean ====
module

public import proofs.«01_k».proof.Proof.Gen.GateUpIdeal.Frame
public import proofs.«01_k».proof.Proof.Gen.GateUpRefIdeal.Run
public import Idealize.ShloMosaic.Lib.Pipeline.ValueKit
public import Idealize.ShloMosaic.Lib.Pointwise
public import Idealize.ShloMosaic.Lib.Claim
public import proofs.«01_k».proof.Proof.RowScale

@[expose] public section

set_option maxRecDepth 16384

noncomputable section

open Idealize.ShloMosaic Idealize.ShloMosaic.TcCoe Idealize.SL.Sem
open Idealize.ShloMosaic.Pipeline (Dat)

namespace Cert.GateUpRefIdeal.Own

open Cert.GateUpRefIdeal Cert.GateUpRefIdeal.Gen

/-- The result `main_v15` of the reference, as a term of its arguments. -/
abbrev ref (a0 : FVec Ideal Cert.GateUpRefIdeal.S8192x4096 .bf16) (a1 : FVec Ideal Cert.GateUpRefIdeal.S8192x128 .f32) (a2 : FVec Ideal Cert.GateUpRefIdeal.S4096x11008 .bf16) (a3 : FVec Ideal Cert.GateUpRefIdeal.S4096x11008 .bf16) : FVec Ideal Cert.GateUpRefIdeal.S8192x11008 .bf16 :=
  truncf .bf16 (mulf (mulf (Host.dotGeneral dot_S8192x4096_S4096x11008_S8192x11008_1_0_0_1_n_n none (mulf (extf .f32 a0 bitsLt_bf16_f32) (broadcastInDim S8192x4096 ![0, 1] bcast_S8192x1_S8192x4096_0_1 (Host.rsqrt (addf (Host.divf (extractStridedSlice S8192x1 ![0, 0] a1 slices_S8192x128_S8192x1_0_0) (broadcastInDim S8192x1 ![] bcast_S_S8192x1 (constant S_ .f32 0x45800000#32))) (broadcastInDim S8192x1 ![] bcast_S_S8192x1 (constant S_ .f32 0x358637BD#32)))))) (extf .f32 a2 bitsLt_bf16_f32)) (Host.divf (broadcastInDim S8192x11008 ![] bcast_S_S8192x11008 (constant S_ .f32 0x3F800000#32)) (addf (broadcastInDim S8192x11008 ![] bcast_S_S8192x11008 (constant S_ .f32 0x3F800000#32)) (Host.exp (Host.negf (Host.dotGeneral dot_S8192x4096_S4096x11008_S8192x11008_1_0_0_1_n_n none (mulf (extf .f32 a0 bitsLt_bf16_f32) (broadcastInDim S8192x4096 ![0, 1] bcast_S8192x1_S8192x4096_0_1 (Host.rsqrt (addf (Host.divf (extractStridedSlice S8192x1 ![0, 0] a1 slices_S8192x128_S8192x1_0_0) (broadcastInDim S8192x1 ![] bcast_S_S8192x1 (constant S_ .f32 0x45800000#32))) (broadcastInDim S8192x1 ![] bcast_S_S8192x1 (constant S_ .f32 0x358637BD#32)))))) (extf .f32 a2 bitsLt_bf16_f32))))))) (Host.dotGeneral dot_S8192x4096_S4096x11008_S8192x11008_1_0_0_1_n_n none (mulf (extf .f32 a0 bitsLt_bf16_f32) (broadcastInDim S8192x4096 ![0, 1] bcast_S8192x1_S8192x4096_0_1 (Host.rsqrt (addf (Host.divf (extractStridedSlice S8192x1 ![0, 0] a1 slices_S8192x128_S8192x1_0_0) (broadcastInDim S8192x1 ![] bcast_S_S8192x1 (constant S_ .f32 0x45800000#32))) (broadcastInDim S8192x1 ![] bcast_S_S8192x1 (constant S_ .f32 0x358637BD#32)))))) (extf .f32 a3 bitsLt_bf16_f32))) bitsLt_bf16_f32

end Cert.GateUpRefIdeal.Own

namespace Cert.GateUpIdeal.Own

open Cert.GateUpIdeal Cert.GateUpIdeal.Gen

variable (m : (ℓ : Loc nD τ sig) → Buf (Elt Ideal) ℓ)

/-- Every window's block index at every grid point, in closed form (decided). -/
theorem idx_val : ∀ t : Fin cfg0.N, win0_0.index t = ![t.val / 43, 0]
    ∧ win0_1.index t = ![t.val / 43, 0]
    ∧ win0_2.index t = ![0, t.val % 43]
    ∧ win0_3.index t = ![0, t.val % 43]
    ∧ win0_4.index t = ![t.val / 43, t.val % 43] :=
  (by decide +kernel : ∀ t : Fin grid0.N, _)

set_option maxHeartbeats 3200000 in
/-- POINT over the 16 tile stores of a point: what they leave at block index `y` is the reference at the array index `y` sits at. -/
theorem point (c : Dev nD) (hss : ∀ i : Fin 8192, (0 : EReal) ≤ m ((c : Thread nD τ).loc main_arg1) (ix2 i 0)) (t : Fin cfg0.N) (y) :
    out0_4 (iblk m c 0 t) (iblk m c 1 t) (iblk m c 2 t) (iblk m c 3 t) y
      = Cert.GateUpRefIdeal.Own.ref (m ((c : Thread nD τ).loc main_arg0)) (m ((c : Thread nD τ).loc main_arg1)) (m ((c : Thread nD τ).loc
        main_arg2)) (m ((c : Thread nD τ).loc main_arg3)) (((cfg0.win 4).blk t).view.emb y) := by
  canon_tiles x h
  all_goals
    open_payloads
    pointwise [Cert.GateUpRefIdeal.Own.ref]
    unfold Ideal.logistic
    refine Cert.RowScale.gated_rows (hss _) ?_ (fun i => ?_) (fun i => ?_) (fun i => ?_) <;> blk_point [iblk, V, idx_val t]

/-- What the launch leaves in its result is the reference's result. -/
theorem final (c : Dev nD) (hss : ∀ i : Fin 8192, (0 : EReal) ≤ m ((c : Thread nD τ).loc main_arg1) (ix2 i 0)) : (dats m 0 c).arrAt 4 (cfgs 0).N = Cert.GateUpRefIdeal.Own.ref (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  exact point m c hss t y

end Cert.GateUpIdeal.Own

end
-- ==== Proof.DownValue.lean ====
module

public import proofs.«01_k».proof.Proof.Gen.DownIdeal.Frame
public import proofs.«01_k».proof.Proof.Gen.DownRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownRefIdeal.Own

open Cert.DownRefIdeal Cert.DownRefIdeal.Gen

/-- The result `main_v5` of the reference, as a term of its arguments. -/
abbrev ref (a0 : FVec Ideal Cert.DownRefIdeal.S8192x11008 .bf16) (a1 : FVec Ideal Cert.DownRefIdeal.S8x11008x512 .bf16) (a2 : FVec Ideal Cert.DownRefIdeal.S8192x4096 .f32) : FVec Ideal Cert.DownRefIdeal.S8192x4096 .f32 :=
  addf a2 (Host.dotGeneral dot_S8192x11008_S11008x4096_S8192x4096_1_0_0_1_n_n none (extf .f32 a0 bitsLt_bf16_f32) (shapeCast _ (transpose S11008x8x512 [1, 0, 2] (extf .f32 a1 bitsLt_bf16_f32) transposes_S8x11008x512_S11008x8x512_1_0_2) shapeCasts_S11008x8x512_S11008x4096))

end Cert.DownRefIdeal.Own

namespace Cert.DownIdeal.Own

open Cert.DownIdeal Cert.DownIdeal.Gen

variable (m : (ℓ : Loc nD τ sig) → Buf (Elt Ideal) ℓ)

/-- Every window's block index at every grid point, in closed form (decided). -/
theorem idx_val : ∀ t : Fin cfg0.N, win0_0.index t = ![t.val / 8, 0]
    ∧ win0_1.index t = ![t.val % 8, 0, 0]
    ∧ win0_2.index t = ![t.val / 8, t.val % 8]
    ∧ win0_3.index t = ![t.val / 8, t.val % 8] :=
  (by decide +kernel : ∀ t : Fin grid0.N, _)

/-- POINT: what the body stores at block index `y` of point `t` is the reference at the array index `y` sits at. -/
theorem point (c : Dev nD) (t : Fin cfg0.N) (y) :
    k0_pay1 (iblk m c 2 t) (iblk m c 0 t) (iblk m c 1 t) y
      = Cert.DownRefIdeal.Own.ref (m ((c : Thread nD τ).loc main_arg0)) (m ((c : Thread nD τ).loc main_arg1)) (m ((c : Thread nD τ).loc
        main_arg2)) (((cfg0.win 3).blk t).view.emb y) := by
  pointwise [k0_pay1, Cert.DownRefIdeal.Own.ref]; blk_point [iblk, V, idx_val t]

/-- BRIDGE: the result array after the run. -/
theorem final (c : Dev nD) : (dats m 0 c).arrAt 3 (cfgs 0).N = Cert.DownRefIdeal.Own.ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

end Cert.DownIdeal.Own

end
-- ==== Proof.FinalValue.lean ====
module

public import proofs.«01_k».proof.Proof.Gen.FinalIdeal.Frame
public import proofs.«01_k».proof.Proof.Gen.FinalRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FinalRefIdeal.Own

open Cert.FinalRefIdeal Cert.FinalRefIdeal.Gen

/-- The result `main_v12` of the reference, as a term of its arguments. -/
abbrev ref (a0 : FVec Ideal Cert.FinalRefIdeal.S8192x4096 .f32) (a1 : FVec Ideal Cert.FinalRefIdeal.S4096 .f32) : FVec Ideal Cert.FinalRefIdeal.S8192x4096 .f32 :=
  mulf (mulf a0 (broadcastInDim S8192x4096 ![0, 1] bcast_S8192x1_S8192x4096_0_1 (Host.rsqrt (addf (Host.divf (broadcastInDim S8192x1 ![0] bcast_S8192_S8192x1_0 (Host.reduceAdd (mulf a0 a0) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 a1))

end Cert.FinalRefIdeal.Own

namespace Cert.FinalIdeal.Own

open Cert.FinalIdeal Cert.FinalIdeal.Gen

variable (m : (ℓ : Loc nD τ sig) → Buf (Elt Ideal) ℓ)

/-- Every window's block index at every grid point, in closed form (decided). -/
theorem idx_val : ∀ t : Fin cfg0.N, win0_0.index t = ![t.val, 0]
    ∧ win0_1.index t = ![0, 0]
    ∧ win0_2.index t = ![t.val, 0] :=
  (by decide +kernel : ∀ t : Fin grid0.N, _)

-- window 1's array `main_v0` is made by @main's host operations before the region (= shapeCast _ main_arg1 shapeCasts_S4096_S1x4096): read `V m c main_v0` with `entry_read`, never by a rewriting lemma

/-- POINT: what the body stores at block index `y` of point `t` is the reference at the array index `y` sits at. -/
theorem point (c : Dev nD) (t : Fin cfg0.N) (y) :
    k0_pay1 (iblk m c 0 t) (iblk m c 1 t) y
      = Cert.FinalRefIdeal.Own.ref (m ((c : Thread nD τ).loc main_arg0)) (m ((c : Thread nD τ).loc main_arg1)) (((cfg0.win 2).blk t).view.emb
        y) := by
  pointwise [k0_pay1, Cert.FinalRefIdeal.Own.ref]; blk_point [iblk, V, idx_val t]

/-- BRIDGE: the result array after the run. -/
theorem final (c : Dev nD) : (dats m 0 c).arrAt 2 (cfgs 0).N = Cert.FinalRefIdeal.Own.ref (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.FinalIdeal.Own

end
-- ==== Proof.RopeRef.lean ====
module

public import proofs.«01_k».proof.Proof.Gen.QkvARefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.RopeRef

open Cert.QkvARefIdeal Cert.QkvARefIdeal.Gen

/-- The rows of `a0` times the columns of `a1`, the columns in nine groups of eight heads. -/
def proj (a0 : FVec Ideal S8192x4096 .bf16) (a1 : FVec Ideal S4096x25600 .bf16) : FVec Ideal S2x4096x9x8x128 .f32 :=
  shapeCast _ (Host.dotGeneral dot_S8192x4096_S4096x9216_S8192x9216_1_0_0_1_n_n none (extf .f32 a0 bitsLt_bf16_f32)
    (extractStridedSlice S4096x9216 ![0, 0] (extf .f32 a1 bitsLt_bf16_f32) slices_S4096x25600_S4096x9216_0_0)) shapeCasts_S8192x9216_S2x4096x9x8x128

/-- One of the nine groups. -/
def part (g : ℕ) (h : S2x4096x9x8x128.Slices ![0, 0, g, 0, 0] S2x4096x1x8x128) (z : FVec Ideal S2x4096x9x8x128 .f32) : FVec Ideal S2x4096x8x128 .f32 :=
  shapeCast _ (extractStridedSlice S2x4096x1x8x128 ![0, 0, g, 0, 0] z h) shapeCasts_S2x4096x1x8x128_S2x4096x8x128

/-- A table of the positions, the same for every sequence and head. -/
def across (a : FVec Ideal S4096x16 .f32) : FVec Ideal S2x4096x8x16 .f32 :=
  broadcastInDim S2x4096x8x16 ![0, 1, 2, 3] bcast_S1x4096x1x16_S2x4096x8x16_0_1_2_3 (broadcastInDim S1x4096x1x16 ![1, 3] bcast_S4096x16_S1x4096x1x16_1_3 a)

/-- Lanes 0 to 15. -/
def lower (x : FVec Ideal S2x4096x8x128 .f32) : FVec Ideal S2x4096x8x16 .f32 :=
  extractStridedSlice S2x4096x8x16 ![0, 0, 0, 0] x slices_S2x4096x8x128_S2x4096x8x16_0_0_0_0

/-- Lanes 16 to 31. -/
def upper (x : FVec Ideal S2x4096x8x128 .f32) : FVec Ideal S2x4096x8x16 .f32 :=
  extractStridedSlice S2x4096x8x16 ![0, 0, 0, 16] x slices_S2x4096x8x128_S2x4096x8x16_0_0_0_16

/-- The heads rotated by their positions' angles. -/
def rotary (x : FVec Ideal S2x4096x8x128 .f32) (cos sin : FVec Ideal S4096x16 .f32) : FVec Ideal S2x4096x8x128 .f32 :=
  concatenate S2x4096x8x128 3 [⟨S2x4096x8x16, subf (mulf (lower x) (across cos)) (mulf (upper x) (across sin))⟩,
    ⟨S2x4096x8x16, addf (mulf (upper x) (across cos)) (mulf (lower x) (across sin))⟩,
    ⟨S2x4096x8x96, extractStridedSlice S2x4096x8x96 ![0, 0, 0, 32] x slices_S2x4096x8x128_S2x4096x8x96_0_0_0_32⟩]
    concatenates_S2x4096x8x16_S2x4096x8x16_S2x4096x8x96_S2x4096x8x128_d3

/-- A group as one of three side by side. -/
def single (x : FVec Ideal S2x4096x8x128 .f32) : FVec Ideal S2x4096x1x8x128 .f32 :=
  broadcastInDim S2x4096x1x8x128 ![0, 1, 3, 4] bcast_S2x4096x8x128_S2x4096x1x8x128_0_1_3_4 x

/-- Queries, keys and values side by side. -/
def beside (q k v : FVec Ideal S2x4096x8x128 .f32) : FVec Ideal S8192x3072 .bf16 :=
  truncf .bf16 (shapeCast _ (concatenate S2x4096x3x8x128 2 [⟨S2x4096x1x8x128, single q⟩, ⟨S2x4096x1x8x128, single k⟩, ⟨S2x4096x1x8x128, single v⟩]
    concatenates_S2x4096x1x8x128_S2x4096x1x8x128_S2x4096x1x8x128_S2x4096x3x8x128_d2) shapeCasts_S2x4096x3x8x128_S8192x3072) bitsLt_bf16_f32

/-- The reference for the head group whose queries, keys and values are the groups `g`, `3 + g` and `6 + g` of the projection. -/
def ref (g₁ g₂ g₃ : ℕ) (h₁ : S2x4096x9x8x128.Slices ![0, 0, g₁, 0, 0] S2x4096x1x8x128) (h₂ : S2x4096x9x8x128.Slices ![0, 0, g₂, 0, 0] S2x4096x1x8x128)
    (h₃ : S2x4096x9x8x128.Slices ![0, 0, g₃, 0, 0] S2x4096x1x8x128)
    (a0 : FVec Ideal S8192x4096 .bf16) (a1 : FVec Ideal S4096x25600 .bf16) (cos sin : FVec Ideal S4096x16 .f32) : FVec Ideal S8192x3072 .bf16 :=
  beside (rotary (part g₁ h₁ (proj a0 a1)) cos sin) (rotary (part g₂ h₂ (proj a0 a1)) cos sin) (part g₃ h₃ (proj a0 a1))

/-- A row of `a0` times a column of `a1`. -/
def entry (a0 : FVec Ideal S8192x4096 .bf16) (a1 : FVec Ideal S4096x25600 .bf16) (i : Fin 8192) (n : Fin 25600) : EReal :=
  ∑ k : Fin 4096, (a0 (ix2 i k) : EReal) * a1 (ix2 k n)

/-- An entry of a group of the projection. -/
theorem part_at (a0 : FVec Ideal S8192x4096 .bf16) (a1 : FVec Ideal S4096x25600 .bf16) (g : ℕ) (hg : g < 9) (h) (s : Fin 2) (p : Fin 4096) (b : Fin 8) (e : Fin 128) :
    (part g h (proj a0 a1) (ix4 s p b e) : EReal) = entry a0 a1 ⟨4096 * s.val + p.val, by omega⟩ ⟨1024 * g + 128 * b.val + e.val, by omega⟩ := by
  pointwise [part, proj, entry]
  blk_point

/-- A head's lanes rotated: lanes 0 to 15 pair with lanes 16 to 31, the others keep their value. -/
def turned (z : Fin 128 → EReal) (cos sin : Fin 16 → EReal) (e : Fin 128) : EReal :=
  if h : e.val < 16 then z e * cos ⟨e.val, h⟩ - z ⟨e.val + 16, by omega⟩ * sin ⟨e.val, h⟩
  else if h' : e.val < 32 then z e * cos ⟨e.val - 16, by omega⟩ + z ⟨e.val - 16, by omega⟩ * sin ⟨e.val - 16, by omega⟩
  else z e

/-- A rotated head's entry. -/
theorem rotary_at (x : FVec Ideal S2x4096x8x128 .f32) (cos sin : FVec Ideal S4096x16 .f32) (s : Fin 2) (p : Fin 4096) (b : Fin 8) (e : Fin 128) :
    (rotary x cos sin (ix4 s p b e) : EReal) = turned (fun e => x (ix4 s p b e)) (fun d => cos (ix2 p d)) (fun d => sin (ix2 p d)) e := by
  unfold turned
  pointwise [rotary, lower, upper, across]
  by_cases h : e.val < 16
  · rw [dif_pos h, dif_pos h]
    simp only [Nat.add_comm]
  · rw [dif_neg h, dif_neg h]
    by_cases h' : e.val < 32
    · have e1 : (⟨16 + (e.val - 16), by omega⟩ : Fin 128) = e := Fin.ext (by simp only; omega)
      rw [dif_pos (by omega), dif_pos h', e1]
    · have e1 : (⟨32 + (e.val - 16 - 16), by omega⟩ : Fin 128) = e := Fin.ext (by simp only; omega)
      rw [dif_neg (by omega), dif_neg h', e1]

/-- An entry of queries, keys and values side by side. -/
theorem beside_at (q k v : FVec Ideal S2x4096x8x128 .f32) (i : Fin 8192) (j : Fin 3072) :
    (beside q k v (ix2 i j) : EReal)
      = if j.val / 1024 = 0 then (q (ix4 ⟨i.val / 4096, by omega⟩ ⟨i.val % 4096, by omega⟩ ⟨j.val / 128 % 8, by omega⟩ ⟨j.val % 128, by omega⟩) : EReal)
        else if j.val / 1024 = 1 then (k (ix4 ⟨i.val / 4096, by omega⟩ ⟨i.val % 4096, by omega⟩ ⟨j.val / 128 % 8, by omega⟩ ⟨j.val % 128, by omega⟩) : EReal)
        else (v (ix4 ⟨i.val / 4096, by omega⟩ ⟨i.val % 4096, by omega⟩ ⟨j.val / 128 % 8, by omega⟩ ⟨j.val % 128, by omega⟩) : EReal) := by
  pointwise [beside, single]
  by_cases h : j.val / 1024 = 0
  · exact (dif_pos (by omega)).trans (if_pos h).symm
  · refine (dif_neg (by omega)).trans (Eq.trans ?_ (if_neg h).symm)
    by_cases h' : j.val / 1024 = 1
    · exact (dif_pos (by omega)).trans (if_pos h').symm
    · exact (dif_neg (by omega)).trans (if_neg h').symm

/-- The lanes of head `b` of the queries, keys or values (`w` = 0, 1, 2) of head group `g` in row `i` of the projection. -/
def lanes (a0 : FVec Ideal S8192x4096 .bf16) (a1 : FVec Ideal S4096x25600 .bf16) (g w b : ℕ) (hg : g < 3) (hw : w < 3) (hb : b < 8) (i : Fin 8192) (e : Fin 128) : EReal :=
  entry a0 a1 i ⟨1024 * (g + 3 * w) + 128 * b + e.val, by omega⟩

/-- An entry of the reference. -/
theorem ref_at (a0 : FVec Ideal S8192x4096 .bf16) (a1 : FVec Ideal S4096x25600 .bf16) (cos sin : FVec Ideal S4096x16 .f32)
    (g : ℕ) (hg : g < 3) {g₂ g₃ : ℕ} (e₂ : g₂ = g + 3) (e₃ : g₃ = g + 6) (h₁) (h₂) (h₃) (i : Fin 8192) (j : Fin 3072) :
    (ref g g₂ g₃ h₁ h₂ h₃ a0 a1 cos sin (ix2 i j) : EReal)
      = if j.val / 1024 = 2 then lanes a0 a1 g (j.val / 1024) (j.val / 128 % 8) hg (by omega) (by omega) i ⟨j.val % 128, by omega⟩
        else turned (lanes a0 a1 g (j.val / 1024) (j.val / 128 % 8) hg (by omega) (by omega) i)
          (fun d => cos (ix2 ⟨i.val % 4096, by omega⟩ d)) (fun d => sin (ix2 ⟨i.val % 4096, by omega⟩ d)) ⟨j.val % 128, by omega⟩ := by
  subst e₂ e₃
  have at_part (n : ℕ) (hn : n < 9) (h) (w : ℕ) (hw : w < 3) (e : n = g + 3 * w) (l : Fin 128) :
      (part n h (proj a0 a1) (ix4 ⟨i.val / 4096, by omega⟩ ⟨i.val % 4096, by omega⟩ ⟨j.val / 128 % 8, by omega⟩ l) : EReal)
        = lanes a0 a1 g w (j.val / 128 % 8) hg hw (by omega) i l := by
    subst e
    rw [part_at a0 a1 _ hn]
    unfold lanes
    congr 1
    exact Fin.ext (by simp only; omega)
  unfold ref
  rw [beside_at]
  have hj : j.val / 1024 = 0 ∨ j.val / 1024 = 1 ∨ j.val / 1024 = 2 := by omega
  rcases hj with h | h | h
  · rw [if_pos h, if_neg (by omega), rotary_at]
    congr 1
    funext l
    exact at_part _ (by omega) _ _ (by omega) (by omega) l
  · rw [if_neg (by omega), if_pos h, if_neg (by omega), rotary_at]
    congr 1
    funext l
    exact at_part _ (by omega) _ _ (by omega) (by omega) l
  · rw [if_neg (by omega), if_neg (by omega), if_pos h]
    exact at_part _ (by omega) _ _ (by omega) (by omega) _

end Cert.RopeRef

end
-- ==== Proof.Rope.lean ====
module

public import proofs.«01_k».proof.Proof.Gen.QkvAIdeal.Skeleton
public import Idealize.ShloMosaic.Lib.Pipeline.ValueKit
public import Idealize.ShloMosaic.Lib.Pointwise
public import proofs.«01_k».proof.Proof.RopeRef
public import proofs.«01_k».proof.Proof.Stores

@[expose] public section

set_option maxRecDepth 16384

noncomputable section

open Idealize.ShloMosaic Idealize.ShloMosaic.TcCoe Idealize.SL.Sem

namespace Cert.Rope

open Cert.QkvAIdeal Cert.QkvAIdeal.Gen

/-- A table's tile, or the constant `k` where the tile is one of values. -/
def pick (isv : BitVec 1) (k : BitVec 32) (t : FVec Ideal S128x128 .f32) : FVec Ideal S128x128 .f32 :=
  Scalar.select isv (broadcast S128x128 (Scalar.ofBits (F := Ideal) .f32 k)) (shapeCast S128x128 t shapeCasts_S128x128_S128x128)

/-- A head's tile with each lane blended with the lanes 16 above and below it. -/
def mix (z c sa sb : FVec Ideal S128x128 .f32) : FVec Ideal S128x128 .bf16 :=
  truncf .bf16 (addf (addf (mulf z c) (mulf (dynamicRotate 1 112#32 none z rotates_S128x128_d1) sa))
    (mulf (dynamicRotate 1 16#32 none z rotates_S128x128_d1) sb)) bitsLt_bf16_f32

/-- The tile of one head: 128 rows of the projection, blended by the tables' rows. -/
def tile (isv : BitVec 1) (a : FVec Ideal S128x4096 .bf16) (w : FVec Ideal S4096x1024 .bf16) (c sa sb : FVec Ideal S128x128 .f32)
    (b : ℕ) (h : S128x1024.Slices ![0, 128 * b] S128x128) : FVec Ideal S128x128 .bf16 :=
  mix (extractStridedSlice S128x128 ![0, 128 * b]
      (matmul dot_S128x4096_S4096x1024_S128x1024_1_0_0_1_n_n none a w (constant S128x1024 .f32 0x00000000#32)) h)
    (pick isv 0x3F800000#32 c) (pick isv 0x00000000#32 sa) (pick isv 0x00000000#32 sb)

/-- A lane blended with the lanes 16 above and below it; a value's lane kept. -/
def blend (isv : BitVec 1) (z : Fin 128 → EReal) (c sa sb : EReal) (e : Fin 128) : EReal :=
  z e * (if isv = 1#1 then 1 else c) + z ⟨(e.val + 16) % 128, by omega⟩ * (if isv = 1#1 then 0 else sa)
    + z ⟨(e.val + 112) % 128, by omega⟩ * (if isv = 1#1 then 0 else sb)

/-- An entry of a tile. -/
theorem tile_at (isv : BitVec 1) (a : FVec Ideal S128x4096 .bf16) (w : FVec Ideal S4096x1024 .bf16) (c sa sb : FVec Ideal S128x128 .f32)
    (b : ℕ) (hb : b < 8) (h) (r e : Fin 128) :
    (tile isv a w c sa sb b h (ix2 r e) : EReal)
      = blend isv (fun e => ∑ k : Fin 4096, (a (ix2 r k) : EReal) * w (ix2 k ⟨128 * b + e.val, by omega⟩)) (c (ix2 r e)) (sa (ix2 r e)) (sb (ix2 r e)) e := by
  unfold blend
  pointwise [tile, mix, pick]
  have e1 : (e.val + 128 - 112) % 128 = (e.val + 16) % 128 := by omega
  have e2 : (e.val + 128 - 16) % 128 = (e.val + 112) % 128 := by omega
  simp only [e1, e2]
  by_cases hv : isv = 1#1
  · subst hv
    simp [Scalar.select]
  · simp [Scalar.select, hv]

/-- A lane's factor. -/
def factor (cos : Fin 16 → EReal) (e : Fin 128) : EReal :=
  if h : e.val < 16 then cos ⟨e.val, h⟩ else if h' : e.val < 32 then cos ⟨e.val - 16, by omega⟩ else 1

/-- The factor of the lane 16 above. -/
def above (sin : Fin 16 → EReal) (e : Fin 128) : EReal :=
  if h : e.val < 16 then -sin ⟨e.val, h⟩ else 0

/-- The factor of the lane 16 below. -/
def below (sin : Fin 16 → EReal) (e : Fin 128) : EReal :=
  if h : e.val < 16 then 0 else if h' : e.val < 32 then sin ⟨e.val - 16, by omega⟩ else 0

/-- With the factors of the tables, the blend rotates. -/
theorem blend_turned (z : Fin 128 → EReal) (cos sin : Fin 16 → EReal) (e : Fin 128) :
    blend 0#1 z (factor cos e) (above sin e) (below sin e) e = Cert.RopeRef.turned z cos sin e := by
  unfold blend Cert.RopeRef.turned factor above below
  rw [if_neg (by decide), if_neg (by decide), if_neg (by decide)]
  by_cases h : e.val < 16
  · simp only [dif_pos h]
    rw [mul_zero, add_zero, mul_neg, ← sub_eq_add_neg]
    congr 3
    exact Fin.ext (by simp only; omega)
  · simp only [dif_neg h]
    by_cases h' : e.val < 32
    · simp only [dif_pos h']
      rw [mul_zero, add_zero]
      congr 3
      exact Fin.ext (by simp only; omega)
    · simp only [dif_neg h']
      rw [mul_zero, mul_zero, mul_one, add_zero, add_zero]

/-- A value's lane is kept. -/
theorem blend_kept (z : Fin 128 → EReal) (c sa sb : EReal) (e : Fin 128) : blend 1#1 z c sa sb e = z e := by
  unfold blend
  rw [if_pos rfl, if_pos rfl, if_pos rfl, mul_one, mul_zero, mul_zero, add_zero, add_zero]

/-- The columns of head `b` lie in the block. -/
theorem slices_at : ∀ b : Fin 8, S128x1024.Slices ![0, 128 * b.val] S128x128 := by decide

/-- The rows of store `n` of an array of 1024 rows lie in it. -/
theorem rows_in (w : ℕ) (n : ℕ) (hn : n < 64) : ∀ a : Fin (⟨2, ![1024, w]⟩ : Shape).rank, ![128 * (n / 8), 0] a + ![128, w] a ≤ (⟨2, ![1024, w]⟩ : Shape).size a := by
  intro a
  fin_cases a
  · show 128 * (n / 8) + 128 ≤ 1024
    omega
  · show 0 + w ≤ w
    omega

/-- The tile of store `n` lies in the block. -/
theorem tile_in (n : ℕ) (hn : n < 64) : ∀ a : Fin S1024x1024.rank, ![128 * (n / 8), 128 * (n % 8)] a + ![128, 128] a ≤ S1024x1024.size a := by
  intro a
  fin_cases a
  · show 128 * (n / 8) + 128 ≤ 1024
    omega
  · show 128 * (n % 8) + 128 ≤ 1024
    omega

/-- Store `n`: 128 rows of one head. -/
def piece (isv : BitVec 1) (x0 : FVec Ideal S1024x4096 .bf16) (x1 : FVec Ideal S4096x1024 .bf16) (x2 x3 x4 : FVec Ideal S1024x128 .f32) (n : ℕ) (hn : n < 64) :
    View.Piece (Elt Ideal) S1024x1024 .bf16 :=
  ⟨Rect.unit (s := S1024x1024) ![128 * (n / 8), 128 * (n % 8)] ![128, 128] (tile_in n hn),
    tile isv
      (View.ld (Val := Elt Ideal) (e' := .bf16) x0 (Rect.unit (s := S1024x4096) ![128 * (n / 8), 0] ![128, 4096] (rows_in 4096 n hn)))
      (View.ld (Val := Elt Ideal) (e' := .bf16) x1 (Rect.unit (s := S4096x1024) ![0, 0] ![4096, 1024] (by decide)))
      (View.ld (Val := Elt Ideal) (e' := .f32) x2 (Rect.unit (s := S1024x128) ![128 * (n / 8), 0] ![128, 128] (rows_in 128 n hn)))
      (View.ld (Val := Elt Ideal) (e' := .f32) x3 (Rect.unit (s := S1024x128) ![128 * (n / 8), 0] ![128, 128] (rows_in 128 n hn)))
      (View.ld (Val := Elt Ideal) (e' := .f32) x4 (Rect.unit (s := S1024x128) ![128 * (n / 8), 0] ![128, 128] (rows_in 128 n hn)))
      (n % 8) (slices_at ⟨n % 8, by omega⟩)⟩

/-- What the stores leave in the block: row `r` and column `j` of the blended product. -/
def block (isv : BitVec 1) (x0 : FVec Ideal S1024x4096 .bf16) (x1 : FVec Ideal S4096x1024 .bf16) (x2 x3 x4 : FVec Ideal S1024x128 .f32) (r j : Fin 1024) : EReal :=
  blend isv (fun e => ∑ k : Fin 4096, (x0 (ix2 r k) : EReal) * x1 (ix2 k ⟨128 * (j.val / 128) + e.val, by omega⟩))
    (x2 (ix2 r ⟨j.val % 128, by omega⟩)) (x3 (ix2 r ⟨j.val % 128, by omega⟩)) (x4 (ix2 r ⟨j.val % 128, by omega⟩)) ⟨j.val % 128, by omega⟩

/-- An element of a rectangle of an array of two axes. -/
theorem load_at {R C : ℕ} {f : EltTy} (v : (⟨2, ![R, C]⟩ : Shape).Idx → Elt Ideal f) (o₀ o₁ p q : ℕ) (h) (i : Fin p) (j : Fin q) (i' : Fin R) (j' : Fin C)
    (hi : i'.val = o₀ + i.val) (hj : j'.val = o₁ + j.val) :
    View.ld (Val := Elt Ideal) (e' := f) v (Rect.unit (s := ⟨2, ![R, C]⟩) ![o₀, o₁] ![p, q] h) (ix2 i j) = v (ix2 i' j') := by
  refine congrArg v (funext fun a => Fin.ext ?_)
  fin_cases a
  · show o₀ + 1 * i.val = i'.val
    omega
  · show o₁ + 1 * j.val = j'.val
    omega

/-- One tile of the block. -/
theorem piece_at (isv : BitVec 1) (x0 : FVec Ideal S1024x4096 .bf16) (x1 : FVec Ideal S4096x1024 .bf16) (x2 x3 x4 : FVec Ideal S1024x128 .f32) (n : ℕ) (hn : n < 64) (x : S128x128.Idx) :
    ((piece isv x0 x1 x2 x3 x4 n hn).2 x : EReal)
      = block isv x0 x1 x2 x3 x4 ⟨128 * (n / 8) + (x 0).val, by have := (x 0).isLt; change _ < 128 at this; omega⟩
          ⟨128 * (n % 8) + (x 1).val, by have := (x 1).isLt; change _ < 128 at this; omega⟩ := by
  have hx0 : (x 0).val < 128 := (x 0).isLt
  have hx1 : (x 1).val < 128 := (x 1).isLt
  have e1 : (128 * (n % 8) + (x 1).val) / 128 = n % 8 := by omega
  have e2 : (128 * (n % 8) + (x 1).val) % 128 = (x 1).val := by omega
  obtain ⟨r, e, rfl⟩ : ∃ r e : Fin 128, x = ix2 r e := ⟨x 0, x 1, by blk_point⟩
  refine (tile_at isv _ _ _ _ _ (n % 8) (by omega) _ r e).trans ?_
  unfold block
  simp only [e1, e2]
  congr 1
  · funext e'
    refine Finset.sum_congr rfl fun k _ => ?_
    exact congrArg₂ (· * ·) (load_at (f := .bf16) x0 _ _ _ _ _ r k _ _ rfl (Nat.zero_add _).symm) (load_at (f := .bf16) x1 _ _ _ _ _ k _ _ _ (Nat.zero_add _).symm (Nat.zero_add _).symm)
  all_goals exact load_at (f := .f32) _ _ _ _ _ _ r e _ _ rfl (Nat.zero_add _).symm

/-- What all the stores leave. -/
theorem stores_at (isv : BitVec 1) (x0 : FVec Ideal S1024x4096 .bf16) (x1 : FVec Ideal S4096x1024 .bf16) (x2 x3 x4 : FVec Ideal S1024x128 .f32) (y : S1024x1024.Idx) :
    (View.canon (Cert.Stores.listed (piece isv x0 x1 x2 x3 x4) 64 le_rfl ++ []) y : EReal) = block isv x0 x1 x2 x3 x4 (y 0) (y 1) := by
  have hy0 : (y 0).val < 1024 := (y 0).isLt
  have hy1 : (y 1).val < 1024 := (y 1).isLt
  refine Cert.Stores.listed_apply (e := .bf16) (piece isv x0 x1 x2 x3 x4) (fun y => block isv x0 x1 x2 x3 x4 (y 0) (y 1))
    (fun n hn x => ?_) [] y ⟨(y 0).val / 128 * 8 + (y 1).val / 128, by omega, ?_⟩
  · refine (piece_at isv x0 x1 x2 x3 x4 n hn x).trans ?_
    congr 1
    · exact Fin.ext (congrArg (128 * (n / 8) + ·) (Nat.one_mul _).symm)
    · exact Fin.ext (congrArg (128 * (n % 8) + ·) (Nat.one_mul _).symm)
  · refine (Rect.mem_set_unit (inb := tile_in _ (by omega))).mpr fun a => ?_
    fin_cases a
    · show 128 * (((y 0).val / 128 * 8 + (y 1).val / 128) / 8) ≤ (y 0).val ∧ (y 0).val < 128 * (((y 0).val / 128 * 8 + (y 1).val / 128) / 8) + 128
      omega
    · show 128 * (((y 0).val / 128 * 8 + (y 1).val / 128) % 8) ≤ (y 1).val ∧ (y 1).val < 128 * (((y 0).val / 128 * 8 + (y 1).val / 128) % 8) + 128
      omega

/-- The table of a lane's own factors: the cosines twice, then ones. -/
def tableC (cos : FVec Ideal S4096x16 .f32) : FVec Ideal S4096x128 .f32 :=
  concatenate S4096x128 1 [⟨S4096x16, cos⟩, ⟨S4096x16, cos⟩, ⟨S4096x96, broadcastInDim S4096x96 ![] bcast_S_S4096x96 (constant (F := Ideal) S_ .f32 0x3F800000#32)⟩]
    concatenates_S4096x16_S4096x16_S4096x96_S4096x128_d1

/-- The table of the factors of the lane 16 above: the sines negated, then zeros. -/
def tableA (sin : FVec Ideal S4096x16 .f32) : FVec Ideal S4096x128 .f32 :=
  concatenate S4096x128 1 [⟨S4096x16, Host.negf sin⟩, ⟨S4096x112, broadcastInDim S4096x112 ![] bcast_S_S4096x112 (constant (F := Ideal) S_ .f32 0x00000000#32)⟩]
    concatenates_S4096x16_S4096x112_S4096x128_d1

/-- The table of the factors of the lane 16 below: zeros, the sines, then zeros. -/
def tableB (sin : FVec Ideal S4096x16 .f32) : FVec Ideal S4096x128 .f32 :=
  concatenate S4096x128 1 [⟨S4096x16, broadcastInDim S4096x16 ![] bcast_S_S4096x16 (constant (F := Ideal) S_ .f32 0x00000000#32)⟩, ⟨S4096x16, sin⟩,
    ⟨S4096x96, broadcastInDim S4096x96 ![] bcast_S_S4096x96 (constant (F := Ideal) S_ .f32 0x00000000#32)⟩]
    concatenates_S4096x16_S4096x16_S4096x96_S4096x128_d1

theorem tableC_at (cos : FVec Ideal S4096x16 .f32) (p : Fin 4096) (e : Fin 128) :
    (tableC cos (ix2 p e) : EReal) = factor (fun d => cos (ix2 p d)) e := by
  unfold factor
  pointwise [tableC]
  by_cases h : e.val < 16
  · rw [dif_pos h, dif_pos h]
  · rw [dif_neg h, dif_neg h]
    by_cases h' : e.val < 32
    · rw [dif_pos (by omega : e.val - 16 < 16), dif_pos h']
    · rw [dif_neg (by omega : ¬e.val - 16 < 16), dif_neg h']

theorem tableA_at (sin : FVec Ideal S4096x16 .f32) (p : Fin 4096) (e : Fin 128) :
    (tableA sin (ix2 p e) : EReal) = above (fun d => sin (ix2 p d)) e := by
  unfold above
  pointwise [tableA]

theorem tableB_at (sin : FVec Ideal S4096x16 .f32) (p : Fin 4096) (e : Fin 128) :
    (tableB sin (ix2 p e) : EReal) = below (fun d => sin (ix2 p d)) e := by
  unfold below
  pointwise [tableB]
  by_cases h : e.val < 16
  · rw [dif_pos h, dif_pos h]
  · rw [dif_neg h, dif_neg h]
    by_cases h' : e.val < 32
    · rw [dif_pos (by omega : e.val - 16 < 16), dif_pos h']
    · rw [dif_neg (by omega : ¬e.val - 16 < 16), dif_neg h']

/-- A block of the kernel is the reference's: block row `s`, and queries, keys or values as `w` is 0, 1 or 2. -/
theorem block_ref (a0 : FVec Ideal S8192x4096 .bf16) (a1 : FVec Ideal S4096x25600 .bf16) (cos sin : FVec Ideal S4096x16 .f32)
    (g : ℕ) (hg : g < 3) {g₂ g₃ : ℕ} (e₂ : g₂ = g + 3) (e₃ : g₃ = g + 6) (h₁) (h₂) (h₃) (s w : ℕ) (hs : s < 8) (hw : w < 3)
    (isv : BitVec 1) (hv : isv = if w = 2 then 1#1 else 0#1)
    (x0 : FVec Ideal S1024x4096 .bf16) (x1 : FVec Ideal S4096x1024 .bf16) (x2 x3 x4 : FVec Ideal S1024x128 .f32)
    (k0 : ∀ (r : Fin 1024) (k : Fin 4096), x0 (ix2 r k) = a0 (ix2 ⟨1024 * s + r.val, by omega⟩ k))
    (k1 : ∀ (k : Fin 4096) (j : Fin 1024), x1 (ix2 k j) = a1 (ix2 k ⟨1024 * (g + 3 * w) + j.val, by omega⟩))
    (k2 : ∀ (r : Fin 1024) (e : Fin 128), x2 (ix2 r e) = tableC cos (ix2 ⟨(1024 * s + r.val) % 4096, by omega⟩ e))
    (k3 : ∀ (r : Fin 1024) (e : Fin 128), x3 (ix2 r e) = tableA sin (ix2 ⟨(1024 * s + r.val) % 4096, by omega⟩ e))
    (k4 : ∀ (r : Fin 1024) (e : Fin 128), x4 (ix2 r e) = tableB sin (ix2 ⟨(1024 * s + r.val) % 4096, by omega⟩ e))
    (r j : Fin 1024) :
    block isv x0 x1 x2 x3 x4 r j
      = Cert.RopeRef.ref g g₂ g₃ h₁ h₂ h₃ a0 a1 cos sin (ix2 ⟨1024 * s + r.val, by omega⟩ ⟨1024 * w + j.val, by omega⟩) := by
  rw [Cert.RopeRef.ref_at a0 a1 cos sin g hg e₂ e₃]
  unfold block
  have q1 : (1024 * w + j.val) / 1024 = w := by omega
  have q2 : (1024 * w + j.val) / 128 % 8 = j.val / 128 := by omega
  have q3 : (1024 * w + j.val) % 128 = j.val % 128 := by omega
  simp only [q1, q2, q3]
  have hz : (fun e : Fin 128 => ∑ k : Fin 4096, (x0 (ix2 r k) : EReal) * x1 (ix2 k ⟨128 * (j.val / 128) + e.val, by omega⟩))
      = Cert.RopeRef.lanes a0 a1 g w (j.val / 128) hg hw (by omega) ⟨1024 * s + r.val, by omega⟩ := by
    funext e
    unfold Cert.RopeRef.lanes Cert.RopeRef.entry
    refine Finset.sum_congr rfl fun k _ => ?_
    rw [k0, k1]
    congr 3
    exact Fin.ext (by simp only; omega)
  rw [hz, k2, k3, k4, tableC_at, tableA_at, tableB_at, hv]
  by_cases h : w = 2
  · rw [if_pos h, if_pos h, blend_kept]
  · rw [if_neg h, if_neg h, blend_turned]
    refine congrArg (fun z => Cert.RopeRef.turned z _ _ _) (funext fun e => ?_)
    simp only [q1, q2]

end Cert.Rope

end
-- ==== Proof.QkvAValue.lean ====
module

public import proofs.«01_k».proof.Proof.Gen.QkvAIdeal.Frame
public import proofs.«01_k».proof.Proof.Gen.QkvARefIdeal.Run
public import Idealize.ShloMosaic.Lib.Pipeline.ValueKit
public import Idealize.ShloMosaic.Lib.Pointwise
public import Idealize.ShloMosaic.Lib.Claim
public import proofs.«01_k».proof.Proof.Rope

@[expose] public section

set_option maxRecDepth 16384

noncomputable section

open Idealize.ShloMosaic Idealize.ShloMosaic.TcCoe Idealize.SL.Sem
open Idealize.ShloMosaic.Pipeline (Dat)

namespace Cert.QkvARefIdeal.Own

open Cert.QkvARefIdeal Cert.QkvARefIdeal.Gen

/-- The result `main_v48` of the reference, as a term of its arguments. -/
abbrev ref (a0 : FVec Ideal Cert.QkvARefIdeal.S8192x4096 .bf16) (a1 : FVec Ideal Cert.QkvARefIdeal.S4096x25600 .bf16) (a2 : FVec Ideal Cert.QkvARefIdeal.S4096x16 .f32) (a3 : FVec Ideal Cert.QkvARefIdeal.S4096x16 .f32) : FVec Ideal Cert.QkvARefIdeal.S8192x3072 .bf16 :=
  Cert.RopeRef.ref 0 3 6 slices_S2x4096x9x8x128_S2x4096x1x8x128_0_0_0_0_0 slices_S2x4096x9x8x128_S2x4096x1x8x128_0_0_3_0_0 slices_S2x4096x9x8x128_S2x4096x1x8x128_0_0_6_0_0 a0 a1 a2 a3

/-- What the reference's run returns. -/
theorem res_eq (m : (ℓ : Loc nD τ sig) → Buf (Elt Ideal) ℓ) (c : Dev nD) :
    Cert.QkvARefIdeal.Value.res_out0 m c
      = ref (m ((c : Thread nD τ).loc main_arg0)) (m ((c : Thread nD τ).loc main_arg1)) (m ((c : Thread nD τ).loc main_arg2)) (m ((c : Thread nD τ).loc main_arg3)) := by
  unfold Cert.QkvARefIdeal.Value.res_out0 Cert.QkvARefIdeal.Value.res_main_v48
  sl_kernel_rfl

end Cert.QkvARefIdeal.Own

namespace Cert.QkvAIdeal.Own

open Cert.QkvAIdeal Cert.QkvAIdeal.Gen

variable (m : (ℓ : Loc nD τ sig) → Buf (Elt Ideal) ℓ)

/-- Every window's block index at every grid point, in closed form (decided). -/
theorem idx_val : ∀ t : Fin cfg0.N, win0_0.index t = ![t.val / 3, 0]
    ∧ win0_1.index t = ![0, 0 + 3 * (t.val % 3)]
    ∧ win0_2.index t = ![t.val / 3 % 4, 0]
    ∧ win0_3.index t = ![t.val / 3 % 4, 0]
    ∧ win0_4.index t = ![t.val / 3 % 4, 0]
    ∧ win0_5.index t = ![t.val / 3, t.val % 3] :=
  (by decide +kernel : ∀ t : Fin grid0.N, _)

/-- Whether a point's block is one of values. -/
def isValue (t : Fin cfg0.N) : BitVec 1 := Scalar.cmpi .eq (BitVec.ofNat 32 (grid0.coords t 1).val) 2#32

theorem isValue_eq : ∀ t : Fin cfg0.N, isValue t = if t.val % 3 = 2 then 1#1 else 0#1 :=
  (by decide +kernel : ∀ t : Fin grid0.N, _)

/-- The table of a lane's own factors is made from the cosines. -/
theorem made_c (c : Dev nD) : V m c main_v1 = Cert.Rope.tableC (m ((c : Thread nD τ).loc main_arg2)) := by
  unfold V
  after_results
  rfl

/-- The table of the factors of the lane above is made from the sines. -/
theorem made_a (c : Dev nD) : V m c main_v4 = Cert.Rope.tableA (m ((c : Thread nD τ).loc main_arg3)) := by
  unfold V
  after_results
  rfl

/-- The table of the factors of the lane below is made from the sines. -/
theorem made_b (c : Dev nD) : V m c main_v7 = Cert.Rope.tableB (m ((c : Thread nD τ).loc main_arg3)) := by
  unfold V
  after_results
  rfl

/-- What a point leaves at block index `y` is the reference at the array index `y` sits at. -/
theorem point (c : Dev nD) (t : Fin cfg0.N) (y) :
    (View.canon (Cert.Stores.listed (Cert.Rope.piece (isValue t) (iblk m c 0 t) (iblk m c 1 t) (iblk m c 2 t) (iblk m c 3 t) (iblk m c 4 t)) 64 le_rfl ++ []) y : EReal)
      = Cert.QkvARefIdeal.Own.ref (m ((c : Thread nD τ).loc main_arg0)) (m ((c : Thread nD τ).loc main_arg1)) (m ((c : Thread nD τ).loc main_arg2))
          (m ((c : Thread nD τ).loc main_arg3)) (((cfg0.win 5).blk t).view.emb y) := by
  have ht : t.val < 24 := t.isLt
  have hy0 : (y 0).val < 1024 := (y 0).isLt
  have hy1 : (y 1).val < 1024 := (y 1).isLt
  have hy : ((cfg0.win 5).blk t).view.emb y = ix2 ⟨1024 * (t.val / 3) + (y 0).val, by omega⟩ ⟨1024 * (t.val % 3) + (y 1).val, by omega⟩ := by
    blk_point [idx_val t]
  rw [hy, Cert.Rope.stores_at]
  refine Cert.Rope.block_ref _ _ _ _ 0 (by decide) rfl rfl _ _ _ (t.val / 3) (t.val % 3) (by omega) (by omega) (isValue t) (isValue_eq t) _ _ _ _ _
    (fun r k => ?_) (fun k j => ?_) (fun r e => ?_) (fun r e => ?_) (fun r e => ?_) (y 0) (y 1)
  · blk_point [iblk, V, idx_val t]
  · blk_point [iblk, V, idx_val t]
  · rw [← made_c]
    blk_point [iblk, idx_val t]
  · rw [← made_a]
    blk_point [iblk, idx_val t]
  · rw [← made_b]
    blk_point [iblk, idx_val t]

theorem final (c : Dev nD) : (dats m 0 c).arrAt 5 (cfgs 0).N = Cert.QkvARefIdeal.Own.ref (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]
  refine Eq.trans (congrFun (congrArg View.canon ?_) y) (point m c t y)
  sl_kernel_rfl

end Cert.QkvAIdeal.Own

end
-- ==== Proof.QkvBValue.lean ====
module

public import proofs.«01_k».proof.Proof.Gen.QkvBIdeal.Frame
public import proofs.«01_k».proof.Proof.Gen.QkvBRefIdeal.Run
public import Idealize.ShloMosaic.Lib.Pipeline.ValueKit
public import Idealize.ShloMosaic.Lib.Pointwise
public import Idealize.ShloMosaic.Lib.Claim
public import proofs.«01_k».proof.Proof.Rope

@[expose] public section

set_option maxRecDepth 16384

noncomputable section

open Idealize.ShloMosaic Idealize.ShloMosaic.TcCoe Idealize.SL.Sem
open Idealize.ShloMosaic.Pipeline (Dat)

namespace Cert.QkvBRefIdeal.Own

open Cert.QkvBRefIdeal Cert.QkvBRefIdeal.Gen

/-- The result `main_v48` of the reference, as a term of its arguments. -/
abbrev ref (a0 : FVec Ideal Cert.QkvBRefIdeal.S8192x4096 .bf16) (a1 : FVec Ideal Cert.QkvBRefIdeal.S4096x25600 .bf16) (a2 : FVec Ideal Cert.QkvBRefIdeal.S4096x16 .f32) (a3 : FVec Ideal Cert.QkvBRefIdeal.S4096x16 .f32) : FVec Ideal Cert.QkvBRefIdeal.S8192x3072 .bf16 :=
  Cert.RopeRef.ref 1 4 7 slices_S2x4096x9x8x128_S2x4096x1x8x128_0_0_1_0_0 slices_S2x4096x9x8x128_S2x4096x1x8x128_0_0_4_0_0 slices_S2x4096x9x8x128_S2x4096x1x8x128_0_0_7_0_0 a0 a1 a2 a3

/-- What the reference's run returns. -/
theorem res_eq (m : (ℓ : Loc nD τ sig) → Buf (Elt Ideal) ℓ) (c : Dev nD) :
    Cert.QkvBRefIdeal.Value.res_out0 m c
      = ref (m ((c : Thread nD τ).loc main_arg0)) (m ((c : Thread nD τ).loc main_arg1)) (m ((c : Thread nD τ).loc main_arg2)) (m ((c : Thread nD τ).loc main_arg3)) := by
  unfold Cert.QkvBRefIdeal.Value.res_out0 Cert.QkvBRefIdeal.Value.res_main_v48
  sl_kernel_rfl

end Cert.QkvBRefIdeal.Own

namespace Cert.QkvBIdeal.Own

open Cert.QkvBIdeal Cert.QkvBIdeal.Gen

variable (m : (ℓ : Loc nD τ sig) → Buf (Elt Ideal) ℓ)

/-- Every window's block index at every grid point, in closed form (decided). -/
theorem idx_val : ∀ t : Fin cfg0.N, win0_0.index t = ![t.val / 3, 0]
    ∧ win0_1.index t = ![0, 1 + 3 * (t.val % 3)]
    ∧ win0_2.index t = ![t.val / 3 % 4, 0]
    ∧ win0_3.index t = ![t.val / 3 % 4, 0]
    ∧ win0_4.index t = ![t.val / 3 % 4, 0]
    ∧ win0_5.index t = ![t.val / 3, t.val % 3] :=
  (by decide +kernel : ∀ t : Fin grid0.N, _)

/-- Whether a point's block is one of values. -/
def isValue (t : Fin cfg0.N) : BitVec 1 := Scalar.cmpi .eq (BitVec.ofNat 32 (grid0.coords t 1).val) 2#32

theorem isValue_eq : ∀ t : Fin cfg0.N, isValue t = if t.val % 3 = 2 then 1#1 else 0#1 :=
  (by decide +kernel : ∀ t : Fin grid0.N, _)

/-- The table of a lane's own factors is made from the cosines. -/
theorem made_c (c : Dev nD) : V m c main_v1 = Cert.Rope.tableC (m ((c : Thread nD τ).loc main_arg2)) := by
  unfold V
  after_results
  rfl

/-- The table of the factors of the lane above is made from the sines. -/
theorem made_a (c : Dev nD) : V m c main_v4 = Cert.Rope.tableA (m ((c : Thread nD τ).loc main_arg3)) := by
  unfold V
  after_results
  rfl

/-- The table of the factors of the lane below is made from the sines. -/
theorem made_b (c : Dev nD) : V m c main_v7 = Cert.Rope.tableB (m ((c : Thread nD τ).loc main_arg3)) := by
  unfold V
  after_results
  rfl

/-- What a point leaves at block index `y` is the reference at the array index `y` sits at. -/
theorem point (c : Dev nD) (t : Fin cfg0.N) (y) :
    (View.canon (Cert.Stores.listed (Cert.Rope.piece (isValue t) (iblk m c 0 t) (iblk m c 1 t) (iblk m c 2 t) (iblk m c 3 t) (iblk m c 4 t)) 64 le_rfl ++ []) y : EReal)
      = Cert.QkvBRefIdeal.Own.ref (m ((c : Thread nD τ).loc main_arg0)) (m ((c : Thread nD τ).loc main_arg1)) (m ((c : Thread nD τ).loc main_arg2))
          (m ((c : Thread nD τ).loc main_arg3)) (((cfg0.win 5).blk t).view.emb y) := by
  have ht : t.val < 24 := t.isLt
  have hy0 : (y 0).val < 1024 := (y 0).isLt
  have hy1 : (y 1).val < 1024 := (y 1).isLt
  have hy : ((cfg0.win 5).blk t).view.emb y = ix2 ⟨1024 * (t.val / 3) + (y 0).val, by omega⟩ ⟨1024 * (t.val % 3) + (y 1).val, by omega⟩ := by
    blk_point [idx_val t]
  rw [hy, Cert.Rope.stores_at]
  refine Cert.Rope.block_ref _ _ _ _ 1 (by decide) rfl rfl _ _ _ (t.val / 3) (t.val % 3) (by omega) (by omega) (isValue t) (isValue_eq t) _ _ _ _ _
    (fun r k => ?_) (fun k j => ?_) (fun r e => ?_) (fun r e => ?_) (fun r e => ?_) (y 0) (y 1)
  · blk_point [iblk, V, idx_val t]
  · blk_point [iblk, V, idx_val t]
  · rw [← made_c]
    blk_point [iblk, idx_val t]
  · rw [← made_a]
    blk_point [iblk, idx_val t]
  · rw [← made_b]
    blk_point [iblk, idx_val t]

theorem final (c : Dev nD) : (dats m 0 c).arrAt 5 (cfgs 0).N = Cert.QkvBRefIdeal.Own.ref (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]
  refine Eq.trans (congrFun (congrArg View.canon ?_) y) (point m c t y)
  sl_kernel_rfl

end Cert.QkvBIdeal.Own

end
-- ==== Proof.QkvCValue.lean ====
module

public import proofs.«01_k».proof.Proof.Gen.QkvCIdeal.Frame
public import proofs.«01_k».proof.Proof.Gen.QkvCRefIdeal.Run
public import Idealize.ShloMosaic.Lib.Pipeline.ValueKit
public import Idealize.ShloMosaic.Lib.Pointwise
public import Idealize.ShloMosaic.Lib.Claim
public import proofs.«01_k».proof.Proof.Rope

@[expose] public section

set_option maxRecDepth 16384

noncomputable section

open Idealize.ShloMosaic Idealize.ShloMosaic.TcCoe Idealize.SL.Sem
open Idealize.ShloMosaic.Pipeline (Dat)

namespace Cert.QkvCRefIdeal.Own

open Cert.QkvCRefIdeal Cert.QkvCRefIdeal.Gen

/-- The result `main_v48` of the reference, as a term of its arguments. -/
abbrev ref (a0 : FVec Ideal Cert.QkvCRefIdeal.S8192x4096 .bf16) (a1 : FVec Ideal Cert.QkvCRefIdeal.S4096x25600 .bf16) (a2 : FVec Ideal Cert.QkvCRefIdeal.S4096x16 .f32) (a3 : FVec Ideal Cert.QkvCRefIdeal.S4096x16 .f32) : FVec Ideal Cert.QkvCRefIdeal.S8192x3072 .bf16 :=
  Cert.RopeRef.ref 2 5 8 slices_S2x4096x9x8x128_S2x4096x1x8x128_0_0_2_0_0 slices_S2x4096x9x8x128_S2x4096x1x8x128_0_0_5_0_0 slices_S2x4096x9x8x128_S2x4096x1x8x128_0_0_8_0_0 a0 a1 a2 a3

/-- What the reference's run returns. -/
theorem res_eq (m : (ℓ : Loc nD τ sig) → Buf (Elt Ideal) ℓ) (c : Dev nD) :
    Cert.QkvCRefIdeal.Value.res_out0 m c
      = ref (m ((c : Thread nD τ).loc main_arg0)) (m ((c : Thread nD τ).loc main_arg1)) (m ((c : Thread nD τ).loc main_arg2)) (m ((c : Thread nD τ).loc main_arg3)) := by
  unfold Cert.QkvCRefIdeal.Value.res_out0 Cert.QkvCRefIdeal.Value.res_main_v48
  sl_kernel_rfl

end Cert.QkvCRefIdeal.Own

namespace Cert.QkvCIdeal.Own

open Cert.QkvCIdeal Cert.QkvCIdeal.Gen

variable (m : (ℓ : Loc nD τ sig) → Buf (Elt Ideal) ℓ)

/-- Every window's block index at every grid point, in closed form (decided). -/
theorem idx_val : ∀ t : Fin cfg0.N, win0_0.index t = ![t.val / 3, 0]
    ∧ win0_1.index t = ![0, 2 + 3 * (t.val % 3)]
    ∧ win0_2.index t = ![t.val / 3 % 4, 0]
    ∧ win0_3.index t = ![t.val / 3 % 4, 0]
    ∧ win0_4.index t = ![t.val / 3 % 4, 0]
    ∧ win0_5.index t = ![t.val / 3, t.val % 3] :=
  (by decide +kernel : ∀ t : Fin grid0.N, _)

/-- Whether a point's block is one of values. -/
def isValue (t : Fin cfg0.N) : BitVec 1 := Scalar.cmpi .eq (BitVec.ofNat 32 (grid0.coords t 1).val) 2#32

theorem isValue_eq : ∀ t : Fin cfg0.N, isValue t = if t.val % 3 = 2 then 1#1 else 0#1 :=
  (by decide +kernel : ∀ t : Fin grid0.N, _)

/-- The table of a lane's own factors is made from the cosines. -/
theorem made_c (c : Dev nD) : V m c main_v1 = Cert.Rope.tableC (m ((c : Thread nD τ).loc main_arg2)) := by
  unfold V
  after_results
  rfl

/-- The table of the factors of the lane above is made from the sines. -/
theorem made_a (c : Dev nD) : V m c main_v4 = Cert.Rope.tableA (m ((c : Thread nD τ).loc main_arg3)) := by
  unfold V
  after_results
  rfl

/-- The table of the factors of the lane below is made from the sines. -/
theorem made_b (c : Dev nD) : V m c main_v7 = Cert.Rope.tableB (m ((c : Thread nD τ).loc main_arg3)) := by
  unfold V
  after_results
  rfl

/-- What a point leaves at block index `y` is the reference at the array index `y` sits at. -/
theorem point (c : Dev nD) (t : Fin cfg0.N) (y) :
    (View.canon (Cert.Stores.listed (Cert.Rope.piece (isValue t) (iblk m c 0 t) (iblk m c 1 t) (iblk m c 2 t) (iblk m c 3 t) (iblk m c 4 t)) 64 le_rfl ++ []) y : EReal)
      = Cert.QkvCRefIdeal.Own.ref (m ((c : Thread nD τ).loc main_arg0)) (m ((c : Thread nD τ).loc main_arg1)) (m ((c : Thread nD τ).loc main_arg2))
          (m ((c : Thread nD τ).loc main_arg3)) (((cfg0.win 5).blk t).view.emb y) := by
  have ht : t.val < 24 := t.isLt
  have hy0 : (y 0).val < 1024 := (y 0).isLt
  have hy1 : (y 1).val < 1024 := (y 1).isLt
  have hy : ((cfg0.win 5).blk t).view.emb y = ix2 ⟨1024 * (t.val / 3) + (y 0).val, by omega⟩ ⟨1024 * (t.val % 3) + (y 1).val, by omega⟩ := by
    blk_point [idx_val t]
  rw [hy, Cert.Rope.stores_at]
  refine Cert.Rope.block_ref _ _ _ _ 2 (by decide) rfl rfl _ _ _ (t.val / 3) (t.val % 3) (by omega) (by omega) (isValue t) (isValue_eq t) _ _ _ _ _
    (fun r k => ?_) (fun k j => ?_) (fun r e => ?_) (fun r e => ?_) (fun r e => ?_) (y 0) (y 1)
  · blk_point [iblk, V, idx_val t]
  · blk_point [iblk, V, idx_val t]
  · rw [← made_c]
    blk_point [iblk, idx_val t]
  · rw [← made_a]
    blk_point [iblk, idx_val t]
  · rw [← made_b]
    blk_point [iblk, idx_val t]

theorem final (c : Dev nD) : (dats m 0 c).arrAt 5 (cfgs 0).N = Cert.QkvCRefIdeal.Own.ref (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]
  refine Eq.trans (congrFun (congrArg View.canon ?_) y) (point m c t y)
  sl_kernel_rfl

end Cert.QkvCIdeal.Own

end
-- ==== Proof.lean ====
module

public import proofs.«01_k».proof.Defs
public import proofs.«01_k».proof.Proof.Gen.QkvA
public import proofs.«01_k».proof.Proof.Gen.QkvA.Skeleton
public import proofs.«01_k».proof.Proof.Gen.QkvA.Launch
public import proofs.«01_k».proof.Proof.Gen.QkvA.Points
public import proofs.«01_k».proof.Proof.Gen.QkvA.Frame
public import proofs.«01_k».proof.Proof.Gen.QkvAIdeal
public import proofs.«01_k».proof.Proof.Gen.QkvAIdeal.Skeleton
public import proofs.«01_k».proof.Proof.Gen.QkvAIdeal.Launch
public import proofs.«01_k».proof.Proof.Gen.QkvAIdeal.Points
public import proofs.«01_k».proof.Proof.Gen.QkvAIdeal.Frame
public import proofs.«01_k».proof.Proof.Gen.QkvARefIdeal
public import proofs.«01_k».proof.Proof.Gen.QkvARefIdeal.Run
public import proofs.«01_k».proof.Proof.Gen.QkvBRefIdeal.Run
public import proofs.«01_k».proof.Proof.Gen.QkvCRefIdeal.Run
public import proofs.«01_k».proof.Proof.Gen.QkvB
public import proofs.«01_k».proof.Proof.Gen.QkvB.Skeleton
public import proofs.«01_k».proof.Proof.Gen.QkvB.Launch
public import proofs.«01_k».proof.Proof.Gen.QkvB.Points
public import proofs.«01_k».proof.Proof.Gen.QkvB.Frame
public import proofs.«01_k».proof.Proof.Gen.QkvBIdeal
public import proofs.«01_k».proof.Proof.Gen.QkvBIdeal.Skeleton
public import proofs.«01_k».proof.Proof.Gen.QkvBIdeal.Launch
public import proofs.«01_k».proof.Proof.Gen.QkvBIdeal.Points
public import proofs.«01_k».proof.Proof.Gen.QkvBIdeal.Frame
public import proofs.«01_k».proof.Proof.Gen.QkvBRefIdeal
public import proofs.«01_k».proof.Proof.Gen.QkvC
public import proofs.«01_k».proof.Proof.Gen.QkvC.Skeleton
public import proofs.«01_k».proof.Proof.Gen.QkvC.Launch
public import proofs.«01_k».proof.Proof.Gen.QkvC.Points
public import proofs.«01_k».proof.Proof.Gen.QkvC.Frame
public import proofs.«01_k».proof.Proof.Gen.QkvCIdeal
public import proofs.«01_k».proof.Proof.Gen.QkvCIdeal.Skeleton
public import proofs.«01_k».proof.Proof.Gen.QkvCIdeal.Launch
public import proofs.«01_k».proof.Proof.Gen.QkvCIdeal.Points
public import proofs.«01_k».proof.Proof.Gen.QkvCIdeal.Frame
public import proofs.«01_k».proof.Proof.Gen.QkvCRefIdeal
public import proofs.«01_k».proof.Proof.Gen.AttnA
public import proofs.«01_k».proof.Proof.Gen.AttnA.Skeleton
public import proofs.«01_k».proof.Proof.Gen.AttnA.Launch
public import proofs.«01_k».proof.Proof.Gen.AttnA.Points
public import proofs.«01_k».proof.Proof.Gen.AttnA.Frame
public import proofs.«01_k».proof.Proof.Gen.AttnAIdeal
public import proofs.«01_k».proof.Proof.Gen.AttnAIdeal.Skeleton
public import proofs.«01_k».proof.Proof.Gen.AttnAIdeal.Launch
public import proofs.«01_k».proof.Proof.Gen.AttnAIdeal.Points
public import proofs.«01_k».proof.Proof.Gen.AttnAIdeal.Frame
public import proofs.«01_k».proof.Proof.Gen.AttnARefIdeal
public import proofs.«01_k».proof.Proof.Gen.AttnB
public import proofs.«01_k».proof.Proof.Gen.AttnB.Skeleton
public import proofs.«01_k».proof.Proof.Gen.AttnB.Launch
public import proofs.«01_k».proof.Proof.Gen.AttnB.Points
public import proofs.«01_k».proof.Proof.Gen.AttnB.Frame
public import proofs.«01_k».proof.Proof.Gen.AttnBIdeal
public import proofs.«01_k».proof.Proof.Gen.AttnBIdeal.Skeleton
public import proofs.«01_k».proof.Proof.Gen.AttnBIdeal.Launch
public import proofs.«01_k».proof.Proof.Gen.AttnBIdeal.Points
public import proofs.«01_k».proof.Proof.Gen.AttnBIdeal.Frame
public import proofs.«01_k».proof.Proof.Gen.AttnBRefIdeal
public import proofs.«01_k».proof.Proof.Gen.AttnC
public import proofs.«01_k».proof.Proof.Gen.AttnC.Skeleton
public import proofs.«01_k».proof.Proof.Gen.AttnC.Launch
public import proofs.«01_k».proof.Proof.Gen.AttnC.Points
public import proofs.«01_k».proof.Proof.Gen.AttnC.Frame
public import proofs.«01_k».proof.Proof.Gen.AttnCIdeal
public import proofs.«01_k».proof.Proof.Gen.AttnCIdeal.Skeleton
public import proofs.«01_k».proof.Proof.Gen.AttnCIdeal.Launch
public import proofs.«01_k».proof.Proof.Gen.AttnCIdeal.Points
public import proofs.«01_k».proof.Proof.Gen.AttnCIdeal.Frame
public import proofs.«01_k».proof.Proof.Gen.AttnCRefIdeal
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesRefIdeal
public import proofs.«01_k».proof.Proof.Gen.Uv
public import proofs.«01_k».proof.Proof.Gen.Uv.Skeleton
public import proofs.«01_k».proof.Proof.Gen.Uv.Launch
public import proofs.«01_k».proof.Proof.Gen.Uv.Points
public import proofs.«01_k».proof.Proof.Gen.Uv.Frame
public import proofs.«01_k».proof.Proof.Gen.UvIdeal
public import proofs.«01_k».proof.Proof.Gen.UvIdeal.Skeleton
public import proofs.«01_k».proof.Proof.Gen.UvIdeal.Launch
public import proofs.«01_k».proof.Proof.Gen.UvIdeal.Points
public import proofs.«01_k».proof.Proof.Gen.UvIdeal.Frame
public import proofs.«01_k».proof.Proof.Gen.UvRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalRefIdeal
public import proofs.«01_k».proof.Proof.Gen.Pre_sums_of_squares
public import Idealize.ShloMosaic.Adequacy
public import Idealize.ShloMosaic.Init
public import proofs.«01_k».proof.Proof.AttnAValue
public import proofs.«01_k».proof.Proof.AttnBValue
public import proofs.«01_k».proof.Proof.AttnCValue
public import proofs.«01_k».proof.Proof.GatesValue
public import proofs.«01_k».proof.Proof.UvValue
public import proofs.«01_k».proof.Proof.MergeValue
public import proofs.«01_k».proof.Proof.OutProjValue
public import proofs.«01_k».proof.Proof.OutProjSums
public import proofs.«01_k».proof.Proof.GateUpValue
public import proofs.«01_k».proof.Proof.DownValue
public import proofs.«01_k».proof.Proof.FinalValue
public import proofs.«01_k».proof.Proof.QkvAValue
public import proofs.«01_k».proof.Proof.QkvBValue
public import proofs.«01_k».proof.Proof.QkvCValue
public import Idealize.ShloMosaic.Lib.Claim

@[expose] public section

set_option maxRecDepth 16384

noncomputable section

-- The claims also say that every semaphore counter ends at zero.

namespace Cert.Proof

open Idealize.ShloMosaic Idealize.ShloMosaic.TcCoe Idealize.SL.Sem

/-- What the comparison of the precondition says. -/
theorem nonneg_of_cmp {a b x : EReal} (h : Ideal.cmp .oge a b = 1#1) (ha : a = x) (hb : b = 0) : 0 ≤ x := by
  subst ha hb
  by_contra hn
  have : Ideal.cmp .oge a 0 = 0#1 := by unfold Ideal.cmp; simp only [decide_eq_false hn]; rfl
  rw [this] at h
  exact absurd h (by decide)

/-- What the precondition says of the second argument: no sum of squares is negative. -/
theorem sums_nonneg (m : (ℓ : Loc Cert.GateUpIdeal.nD Cert.GateUpIdeal.τ Cert.GateUpIdeal.sig) → Buf (Elt Ideal) ℓ)
    (h : Cert.Pre_GateUpIdeal_sums_of_squares m) (c : Dev Cert.GateUpIdeal.nD) (i : Fin 8192) :
    (0 : EReal) ≤ m ((c : Thread Cert.GateUpIdeal.nD Cert.GateUpIdeal.τ).loc Cert.GateUpIdeal.main_arg1) (ix2 i 0) := by
  have hc := congrFun (h c) (ix2 i 0)
  unfold Cert.Pre_sums_of_squares.fn at hc
  refine nonneg_of_cmp hc ?_ ?_
  · pointwise
  · pointwise

set_option maxHeartbeats 2000000 in
/-- The launch `AttnA` returns what its reference returns. -/
theorem attnA_algebraic : Cert.algebraic_AttnAIdeal_AttnARefIdeal := by
  pair_intro
  · run_from Cert.AttnAIdeal.Gen.run_main m g
  · refine (θ_run Cert.AttnARefIdeal.defs _ _).mono (fun r h c => ?_) (Cert.AttnARefIdeal.Value.run m' g')
    obtain ⟨h0, h1, h2, k0⟩ := h c
    have e0 := hagree c
    simp only [e0] at h0
    simp only [e0] at h1
    simp only [e0] at h2
    exact ⟨h0.trans (Cert.AttnAIdeal.Own.final_3 m c).symm, h1.trans (Cert.AttnAIdeal.Own.final_4 m c).symm, h2.trans (Cert.AttnAIdeal.Own.final_5 m c).symm, k0⟩

set_option maxHeartbeats 2000000 in
/-- The launch `AttnB` returns what its reference returns. -/
theorem attnB_algebraic : Cert.algebraic_AttnBIdeal_AttnBRefIdeal := by
  pair_intro
  · run_from Cert.AttnBIdeal.Gen.run_main m g
  · refine (θ_run Cert.AttnBRefIdeal.defs _ _).mono (fun r h c => ?_) (Cert.AttnBRefIdeal.Value.run m' g')
    obtain ⟨h0, h1, h2, k0⟩ := h c
    have e0 := hagree c
    simp only [e0] at h0
    simp only [e0] at h1
    simp only [e0] at h2
    exact ⟨h0.trans (Cert.AttnBIdeal.Own.final_3 m c).symm, h1.trans (Cert.AttnBIdeal.Own.final_4 m c).symm, h2.trans (Cert.AttnBIdeal.Own.final_5 m c).symm, k0⟩

set_option maxHeartbeats 2000000 in
/-- The launch `AttnC` returns what its reference returns. -/
theorem attnC_algebraic : Cert.algebraic_AttnCIdeal_AttnCRefIdeal := by
  pair_intro
  · run_from Cert.AttnCIdeal.Gen.run_main m g
  · refine (θ_run Cert.AttnCRefIdeal.defs _ _).mono (fun r h c => ?_) (Cert.AttnCRefIdeal.Value.run m' g')
    obtain ⟨h0, h1, h2, k0⟩ := h c
    have e0 := hagree c
    simp only [e0] at h0
    simp only [e0] at h1
    simp only [e0] at h2
    exact ⟨h0.trans (Cert.AttnCIdeal.Own.final_3 m c).symm, h1.trans (Cert.AttnCIdeal.Own.final_4 m c).symm, h2.trans (Cert.AttnCIdeal.Own.final_5 m c).symm, k0⟩

/-- The launch `Gates` returns what its reference returns. -/
theorem gates_algebraic : Cert.algebraic_GatesIdeal_GatesRefIdeal := by
  pair_intro
  · run_from Cert.GatesIdeal.Gen.run_main m g
  · run_from Cert.GatesRefIdeal.Value.run m' g'
    · exact (Cert.GatesIdeal.Own.final m c).symm

/-- The launch `Uv` returns what its reference returns. -/
theorem uv_algebraic : Cert.algebraic_UvIdeal_UvRefIdeal := by
  pair_intro
  · run_from Cert.UvIdeal.Gen.run_main m g
  · run_from Cert.UvRefIdeal.Value.run m' g'
    · exact (Cert.UvIdeal.Own.final_4 m c).symm
    · exact (Cert.UvIdeal.Own.final_5 m c).symm

/-- The launch `Merge` returns what its reference returns. -/
theorem merge_algebraic : Cert.algebraic_MergeIdeal_MergeRefIdeal := by
  pair_intro
  · run_from Cert.MergeIdeal.Gen.run_main m g
  · run_from Cert.MergeRefIdeal.Value.run m' g'
    · exact (Cert.MergeIdeal.Own.final m c).symm

set_option maxHeartbeats 2000000 in
/-- The launch `OutProj` returns what its reference returns. -/
theorem outProj_algebraic : Cert.algebraic_OutProjIdeal_OutProjRefIdeal := by
  pair_intro
  · run_from Cert.OutProjIdeal.Gen.run_main m g
  · refine (θ_run Cert.OutProjRefIdeal.defs _ _).mono (fun r h c => ?_) (Cert.OutProjRefIdeal.Value.run m' g')
    obtain ⟨h0, h1, h2, k0, k1, k2, k3⟩ := h c
    obtain ⟨e0, e1, e2, e3⟩ := hagree c
    simp only [e0, e1, e2, e3] at h0
    simp only [e0, e1, e2, e3] at h1
    simp only [e0, e1, e2, e3] at h2
    exact ⟨h0.trans (Cert.OutProjIdeal.Own.final_4 m c).symm, h1.trans (Cert.OutProjIdeal.Own.final_5 m c).symm, h2.trans (Cert.OutProjIdeal.Own.final_6 m c).symm, k0, k1, k2, k3⟩

/-- The launch `GateUp` returns what its reference returns. -/
theorem gateUp_algebraic : Cert.algebraic_GateUpIdeal_GateUpRefIdeal_pre_sums_of_squares := by
  pair_intro
  · run_from Cert.GateUpIdeal.Gen.run_main m g
  · run_from Cert.GateUpRefIdeal.Value.run m' g'
    · exact (Cert.GateUpIdeal.Own.final m c (sums_nonneg m hpre c)).symm

/-- The launch `Down` returns what its reference returns. -/
theorem down_algebraic : Cert.algebraic_DownIdeal_DownRefIdeal := by
  pair_intro
  · run_from Cert.DownIdeal.Gen.run_main m g
  · run_from Cert.DownRefIdeal.Value.run m' g'
    · exact (Cert.DownIdeal.Own.final m c).symm

/-- The launch `Final` returns what its reference returns. -/
theorem final_algebraic : Cert.algebraic_FinalIdeal_FinalRefIdeal := by
  pair_intro
  · run_from Cert.FinalIdeal.Gen.run_main m g
  · run_from Cert.FinalRefIdeal.Value.run m' g'
    · exact (Cert.FinalIdeal.Own.final m c).symm

set_option maxHeartbeats 2000000 in
/-- The launch `QkvA` returns what its reference returns. -/
theorem qkvA_algebraic : Cert.algebraic_QkvAIdeal_QkvARefIdeal := by
  pair_intro
  · run_from Cert.QkvAIdeal.Gen.run_main m g
  · refine (θ_run Cert.QkvARefIdeal.defs _ _).mono (fun r h c => ?_) (Cert.QkvARefIdeal.Value.run m' g')
    obtain ⟨h0, k0, k1, k2, k3⟩ := h c
    obtain ⟨e0, e1, e2, e3⟩ := hagree c
    replace h0 := h0.trans (Cert.QkvARefIdeal.Own.res_eq m' c)
    simp only [e0, e1, e2, e3] at h0
    exact ⟨h0.trans (Cert.QkvAIdeal.Own.final m c).symm, k0, k1, k2, k3⟩

set_option maxHeartbeats 2000000 in
/-- The launch `QkvB` returns what its reference returns. -/
theorem qkvB_algebraic : Cert.algebraic_QkvBIdeal_QkvBRefIdeal := by
  pair_intro
  · run_from Cert.QkvBIdeal.Gen.run_main m g
  · refine (θ_run Cert.QkvBRefIdeal.defs _ _).mono (fun r h c => ?_) (Cert.QkvBRefIdeal.Value.run m' g')
    obtain ⟨h0, k0, k1, k2, k3⟩ := h c
    obtain ⟨e0, e1, e2, e3⟩ := hagree c
    replace h0 := h0.trans (Cert.QkvBRefIdeal.Own.res_eq m' c)
    simp only [e0, e1, e2, e3] at h0
    exact ⟨h0.trans (Cert.QkvBIdeal.Own.final m c).symm, k0, k1, k2, k3⟩

set_option maxHeartbeats 2000000 in
/-- The launch `QkvC` returns what its reference returns. -/
theorem qkvC_algebraic : Cert.algebraic_QkvCIdeal_QkvCRefIdeal := by
  pair_intro
  · run_from Cert.QkvCIdeal.Gen.run_main m g
  · refine (θ_run Cert.QkvCRefIdeal.defs _ _).mono (fun r h c => ?_) (Cert.QkvCRefIdeal.Value.run m' g')
    obtain ⟨h0, k0, k1, k2, k3⟩ := h c
    obtain ⟨e0, e1, e2, e3⟩ := hagree c
    replace h0 := h0.trans (Cert.QkvCRefIdeal.Own.res_eq m' c)
    simp only [e0, e1, e2, e3] at h0
    exact ⟨h0.trans (Cert.QkvCIdeal.Own.final m c).symm, k0, k1, k2, k3⟩

/-- The certificate. -/
theorem claim : Cert.Claim := ⟨Cert.AttnA.Gen.facts, Cert.AttnAIdeal.Gen.facts, Cert.AttnARefIdeal.Gen.facts, Cert.AttnB.Gen.facts, Cert.AttnBIdeal.Gen.facts, Cert.AttnBRefIdeal.Gen.facts, Cert.AttnC.Gen.facts, Cert.AttnCIdeal.Gen.facts, Cert.AttnCRefIdeal.Gen.facts, Cert.Gates.Gen.facts, Cert.GatesIdeal.Gen.facts, Cert.GatesRefIdeal.Gen.facts, Cert.Uv.Gen.facts, Cert.UvIdeal.Gen.facts, Cert.UvRefIdeal.Gen.facts, Cert.Merge.Gen.facts, Cert.MergeIdeal.Gen.facts, Cert.MergeRefIdeal.Gen.facts, Cert.OutProj.Gen.facts, Cert.OutProjIdeal.Gen.facts, Cert.OutProjRefIdeal.Gen.facts, Cert.GateUp.Gen.facts, Cert.GateUpIdeal.Gen.facts, Cert.GateUpRefIdeal.Gen.facts, Cert.Down.Gen.facts, Cert.DownIdeal.Gen.facts, Cert.DownRefIdeal.Gen.facts, Cert.Final.Gen.facts, Cert.FinalIdeal.Gen.facts, Cert.FinalRefIdeal.Gen.facts, Cert.QkvA.Gen.facts, Cert.QkvAIdeal.Gen.facts, Cert.QkvARefIdeal.Gen.facts, Cert.QkvB.Gen.facts, Cert.QkvBIdeal.Gen.facts, Cert.QkvBRefIdeal.Gen.facts, Cert.QkvC.Gen.facts, Cert.QkvCIdeal.Gen.facts, Cert.QkvCRefIdeal.Gen.facts, Cert.Pre_sums_of_squares.Gen.facts,
  fun m ρ _ => Cert.AttnA.Gen.frame m ρ,
  fun m ρ _ => Cert.AttnAIdeal.Gen.frame m ρ,
  fun m ρ _ => (θ_run Cert.AttnARefIdeal.defs _ _).mono (fun r h => ⟨fun c => (h c).2.2.2, sem_eq_zero_of_no_sems (by decide) r.2⟩) (Cert.AttnARefIdeal.Value.run m ρ),
  fun m ρ _ => Cert.AttnB.Gen.frame m ρ,
  fun m ρ _ => Cert.AttnBIdeal.Gen.frame m ρ,
  fun m ρ _ => (θ_run Cert.AttnBRefIdeal.defs _ _).mono (fun r h => ⟨fun c => (h c).2.2.2, sem_eq_zero_of_no_sems (by decide) r.2⟩) (Cert.AttnBRefIdeal.Value.run m ρ),
  fun m ρ _ => Cert.AttnC.Gen.frame m ρ,
  fun m ρ _ => Cert.AttnCIdeal.Gen.frame m ρ,
  fun m ρ _ => (θ_run Cert.AttnCRefIdeal.defs _ _).mono (fun r h => ⟨fun c => (h c).2.2.2, sem_eq_zero_of_no_sems (by decide) r.2⟩) (Cert.AttnCRefIdeal.Value.run m ρ),
  fun m ρ _ => Cert.Gates.Gen.frame m ρ,
  fun m ρ _ => Cert.GatesIdeal.Gen.frame m ρ,
  fun m ρ _ => (θ_run Cert.GatesRefIdeal.defs _ _).mono (fun r h => ⟨fun c => (h c).2, sem_eq_zero_of_no_sems (by decide) r.2⟩) (Cert.GatesRefIdeal.Value.run m ρ),
  fun m ρ _ => Cert.Uv.Gen.frame m ρ,
  fun m ρ _ => Cert.UvIdeal.Gen.frame m ρ,
  fun m ρ _ => (θ_run Cert.UvRefIdeal.defs _ _).mono (fun r h => ⟨fun c => (h c).2.2, sem_eq_zero_of_no_sems (by decide) r.2⟩) (Cert.UvRefIdeal.Value.run m ρ),
  fun m ρ _ => Cert.Merge.Gen.frame m ρ,
  fun m ρ _ => Cert.MergeIdeal.Gen.frame m ρ,
  fun m ρ _ => (θ_run Cert.MergeRefIdeal.defs _ _).mono (fun r h => ⟨fun c => (h c).2, sem_eq_zero_of_no_sems (by decide) r.2⟩) (Cert.MergeRefIdeal.Value.run m ρ),
  fun m ρ _ => Cert.OutProj.Gen.frame m ρ,
  fun m ρ _ => Cert.OutProjIdeal.Gen.frame m ρ,
  fun m ρ _ => (θ_run Cert.OutProjRefIdeal.defs _ _).mono (fun r h => ⟨fun c => (h c).2.2.2, sem_eq_zero_of_no_sems (by decide) r.2⟩) (Cert.OutProjRefIdeal.Value.run m ρ),
  fun m ρ _ => Cert.GateUp.Gen.frame m ρ,
  fun m ρ _ => Cert.GateUpIdeal.Gen.frame m ρ,
  fun m ρ _ => Cert.GateUpIdeal.Gen.frame m ρ,
  fun m ρ _ => (θ_run Cert.GateUpRefIdeal.defs _ _).mono (fun r h => ⟨fun c => (h c).2, sem_eq_zero_of_no_sems (by decide) r.2⟩) (Cert.GateUpRefIdeal.Value.run m ρ),
  fun m ρ _ => (θ_run Cert.GateUpRefIdeal.defs _ _).mono (fun r h => ⟨fun c => (h c).2, sem_eq_zero_of_no_sems (by decide) r.2⟩) (Cert.GateUpRefIdeal.Value.run m ρ),
  fun m ρ _ => Cert.Down.Gen.frame m ρ,
  fun m ρ _ => Cert.DownIdeal.Gen.frame m ρ,
  fun m ρ _ => (θ_run Cert.DownRefIdeal.defs _ _).mono (fun r h => ⟨fun c => (h c).2, sem_eq_zero_of_no_sems (by decide) r.2⟩) (Cert.DownRefIdeal.Value.run m ρ),
  fun m ρ _ => Cert.Final.Gen.frame m ρ,
  fun m ρ _ => Cert.FinalIdeal.Gen.frame m ρ,
  fun m ρ _ => (θ_run Cert.FinalRefIdeal.defs _ _).mono (fun r h => ⟨fun c => (h c).2, sem_eq_zero_of_no_sems (by decide) r.2⟩) (Cert.FinalRefIdeal.Value.run m ρ),
  fun m ρ _ => Cert.QkvA.Gen.frame m ρ,
  fun m ρ _ => Cert.QkvAIdeal.Gen.frame m ρ,
  fun m ρ _ => (θ_run Cert.QkvARefIdeal.defs _ _).mono (fun r h => ⟨fun c => (h c).2, sem_eq_zero_of_no_sems (by decide) r.2⟩) (Cert.QkvARefIdeal.Value.run m ρ),
  fun m ρ _ => Cert.QkvB.Gen.frame m ρ,
  fun m ρ _ => Cert.QkvBIdeal.Gen.frame m ρ,
  fun m ρ _ => (θ_run Cert.QkvBRefIdeal.defs _ _).mono (fun r h => ⟨fun c => (h c).2, sem_eq_zero_of_no_sems (by decide) r.2⟩) (Cert.QkvBRefIdeal.Value.run m ρ),
  fun m ρ _ => Cert.QkvC.Gen.frame m ρ,
  fun m ρ _ => Cert.QkvCIdeal.Gen.frame m ρ,
  fun m ρ _ => (θ_run Cert.QkvCRefIdeal.defs _ _).mono (fun r h => ⟨fun c => (h c).2, sem_eq_zero_of_no_sems (by decide) r.2⟩) (Cert.QkvCRefIdeal.Value.run m ρ),
  ⟨IdealRules.named_const.statement Cert.AttnAIdeal.κ "mask" .f32 0xF149F2CA#32 ⊥ rfl,
   IdealRules.named_const.statement Cert.AttnAIdeal.κ "scale_log2e" .f32 0x3E0293EE#32 ((((Real.sqrt 128) * (Real.log 2))⁻¹ : ℝ) : EReal) rfl,
   IdealRules.named_const.statement Cert.AttnAIdeal.κ "scale" .f32 0x3DB504F3#32 (((Real.sqrt 128)⁻¹ : ℝ) : EReal) rfl⟩,
  attnA_algebraic,
  ⟨IdealRules.named_const.statement Cert.AttnBIdeal.κ "mask" .f32 0xF149F2CA#32 ⊥ rfl,
   IdealRules.named_const.statement Cert.AttnBIdeal.κ "scale_log2e" .f32 0x3E0293EE#32 ((((Real.sqrt 128) * (Real.log 2))⁻¹ : ℝ) : EReal) rfl,
   IdealRules.named_const.statement Cert.AttnBIdeal.κ "scale" .f32 0x3DB504F3#32 (((Real.sqrt 128)⁻¹ : ℝ) : EReal) rfl⟩,
  attnB_algebraic,
  ⟨IdealRules.named_const.statement Cert.AttnCIdeal.κ "mask" .f32 0xF149F2CA#32 ⊥ rfl,
   IdealRules.named_const.statement Cert.AttnCIdeal.κ "scale_log2e" .f32 0x3E0293EE#32 ((((Real.sqrt 128) * (Real.log 2))⁻¹ : ℝ) : EReal) rfl,
   IdealRules.named_const.statement Cert.AttnCIdeal.κ "scale" .f32 0x3DB504F3#32 (((Real.sqrt 128)⁻¹ : ℝ) : EReal) rfl⟩,
  attnC_algebraic,
  trivial,
  gates_algebraic,
  trivial,
  uv_algebraic,
  trivial,
  merge_algebraic,
  trivial,
  outProj_algebraic,
  trivial,
  gateUp_algebraic,
  trivial,
  down_algebraic,
  trivial,
  final_algebraic,
  trivial,
  qkvA_algebraic,
  trivial,
  qkvB_algebraic,
  trivial,
  qkvC_algebraic⟩

end Cert.Proof

end
